-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v93) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v93) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v43_0)) (v1 : (c : Dev Cert.Kernel6Ideal.nD) → Buf (Elt Ideal) ((c.tc : Thread Cert.Kernel6Ideal.nD Cert.Kernel6Ideal.τ).loc Cert.Kernel6Ideal.main_v43_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v43_0) = v0 c
          ∧ r.2.mem ((c.tc : Thread Cert.Kernel6Ideal.nD Cert.Kernel6Ideal.τ).loc Cert.Kernel6Ideal.main_v43_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v116) = v0 c
          ∧ r.2.mem ((c.tc : Thread Cert.Reference6Ideal.nD Cert.Reference6Ideal.τ).loc Cert.Reference6Ideal.main_v99) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16384x7168 : Shape := ⟨2, ![16384, 7168]⟩
abbrev S1x4x1024 : Shape := ⟨3, ![1, 4, 1024]⟩
abbrev S1x1024 : Shape := ⟨2, ![1, 1024]⟩
abbrev S1x16x64x64 : Shape := ⟨4, ![1, 16, 64, 64]⟩
abbrev S16x64x64 : Shape := ⟨3, ![16, 64, 64]⟩
abbrev S8x2x64x64 : Shape := ⟨4, ![8, 2, 64, 64]⟩
abbrev S2x2 : Shape := ⟨2, ![2, 2]⟩
abbrev S_ : Shape := ⟨0, ![]⟩
abbrev S8x2x64x1x64 : Shape := ⟨5, ![8, 2, 64, 1, 64]⟩
abbrev S1x2x1x2x1 : Shape := ⟨5, ![1, 2, 1, 2, 1]⟩
abbrev S8x2x64x2x64 : Shape := ⟨5, ![8, 2, 64, 2, 64]⟩
abbrev S8x128x128 : Shape := ⟨3, ![8, 128, 128]⟩
abbrev S8x128x256 : Shape := ⟨3, ![8, 128, 256]⟩
abbrev S4x8x1024 : Shape := ⟨3, ![4, 8, 1024]⟩
abbrev S4x1x1024 : Shape := ⟨3, ![4, 1, 1024]⟩
abbrev S4x1024 : Shape := ⟨2, ![4, 1024]⟩
abbrev S1024 : Shape := ⟨1, ![1024]⟩
abbrev S16384x1024 : Shape := ⟨2, ![16384, 1024]⟩
abbrev S256x1024 : Shape := ⟨2, ![256, 1024]⟩
abbrev S1x8x1024 : Shape := ⟨3, ![1, 8, 1024]⟩
abbrev S1x1x1024 : Shape := ⟨3, ![1, 1, 1024]⟩
abbrev S1x264x1024 : Shape := ⟨3, ![1, 264, 1024]⟩
abbrev S1x256x1024 : Shape := ⟨3, ![1, 256, 1024]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩
abbrev S1x248x1024 : Shape := ⟨3, ![1, 248, 1024]⟩
abbrev S32x8x1024 : Shape := ⟨3, ![32, 8, 1024]⟩

abbrev nBuf : Space → Nat
  | .hbm => 55
  | .vmem => 20
  | .smem => 0
  | _ => 0

abbrev bufTy : (tb : Table) → Fin (tcTables nBuf tb) → BufTy
  | .hbm, ⟨0, _⟩ => ⟨S16384x7168, .f32⟩
  | .hbm, ⟨1, _⟩ => ⟨S1x4x1024, .f32⟩
  | .hbm, ⟨2, _⟩ => ⟨S1x1024, .f32⟩
  | .hbm, ⟨3, _⟩ => ⟨S1x16x64x64, .f32⟩
  | .hbm, ⟨4, _⟩ => ⟨S1x1024, .f32⟩
  | .hbm, ⟨5, _⟩ => ⟨S1x16x64x64, .f32⟩
  | .hbm, ⟨6, _⟩ => ⟨S1x1024, .f32⟩
  | .hbm, ⟨7, _⟩ => ⟨S1x1024, .f32⟩
  | .hbm, ⟨8, _⟩ => ⟨S16x64x64, .f32⟩
  | .hbm, ⟨9, _⟩ => ⟨S16x64x64, .f32⟩
  | .hbm, ⟨10, _⟩ => ⟨S8x2x64x64, .f32⟩
  | .hbm, ⟨11, _⟩ => ⟨S2x2, .i32⟩
  | .hbm, ⟨12, _⟩ => ⟨S2x2, .i32⟩
  | .hbm, ⟨13, _⟩ => ⟨S_, .i32⟩
  | .hbm, ⟨14, _⟩ => ⟨S2x2, .i32⟩
  | .hbm, ⟨15, _⟩ => ⟨S2x2, .i32⟩
  | .hbm, ⟨16, _⟩ => ⟨S2x2, .i1⟩
  | .hbm, ⟨17, _⟩ => ⟨S2x2, .f32⟩
  | .hbm, ⟨18, _⟩ => ⟨S8x2x64x1x64, .f32⟩
  | .hbm, ⟨19, _⟩ => ⟨S1x2x1x2x1, .f32⟩
  | .hbm, ⟨20, _⟩ => ⟨S8x2x64x2x64, .f32⟩
  | .hbm, ⟨21, _⟩ => ⟨S8x2x64x2x64, .f32⟩
  | .hbm, ⟨22, _⟩ => ⟨S8x2x64x2x64, .f32⟩
  | .hbm, ⟨23, _⟩ => ⟨S8x128x128, .f32⟩
  | .hbm, ⟨24, _⟩ => ⟨S8x2x64x64, .f32⟩
  | .hbm, ⟨25, _⟩ => ⟨S2x2, .i32⟩
  | .hbm, ⟨26, _⟩ => ⟨S2x2, .i32⟩
  | .hbm, ⟨27, _⟩ => ⟨S_, .i32⟩
  | .hbm, ⟨28, _⟩ => ⟨S2x2, .i32⟩
  | .hbm, ⟨29, _⟩ => ⟨S2x2, .i32⟩
  | .hbm, ⟨30, _⟩ => ⟨S2x2, .i1⟩
  | .hbm, ⟨31, _⟩ => ⟨S2x2, .f32⟩
  | .hbm, ⟨32, _⟩ => ⟨S8x2x64x1x64, .f32⟩
  | .hbm, ⟨33, _⟩ => ⟨S1x2x1x2x1, .f32⟩
  | .hbm, ⟨34, _⟩ => ⟨S8x2x64x2x64, .f32⟩
  | .hbm, ⟨35, _⟩ => ⟨S8x2x64x2x64, .f32⟩
  | .hbm, ⟨36, _⟩ => ⟨S8x2x64x2x64, .f32⟩
  | .hbm, ⟨37, _⟩ => ⟨S8x128x128, .f32⟩
  | .hbm, ⟨38, _⟩ => ⟨S8x128x256, .f32⟩
  | .hbm, ⟨39, _⟩ => ⟨S8x128x256, .bf16⟩
  | .hbm, ⟨40, _⟩ => ⟨S_, .f32⟩
  | .hbm, ⟨41, _⟩ => ⟨S4x8x1024, .f32⟩
  | .hbm, ⟨42, _⟩ => ⟨S_, .f32⟩
  | .hbm, ⟨43, _⟩ => ⟨S4x1x1024, .f32⟩
  | .hbm, ⟨44, _⟩ => ⟨S4x1024, .f32⟩
  | .hbm, ⟨45, _⟩ => ⟨S1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S16384x1024, .f32⟩
  | .hbm, ⟨54, _⟩ => ⟨S4x8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S4x1024, .f32⟩
  | .local _ .vmem, ⟨9, _⟩ => ⟨S1x1024, .f32⟩
  | .local _ .vmem, ⟨10, _⟩ => ⟨S8x128x256, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S1x8x1024, .f32⟩
  | .local _ .vmem, ⟨17, _⟩ => ⟨S1x8x1024, .f32⟩
  | .local _ .vmem, ⟨18, _⟩ => ⟨S1x264x1024, .f32⟩
  | .local _ .vmem, ⟨19, _⟩ => ⟨S1x1x1024, .f32⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S16384x7168 : Shape := ⟨2, ![16384, 7168]⟩
abbrev S1x4x1024 : Shape := ⟨3, ![1, 4, 1024]⟩
abbrev S1x1024 : Shape := ⟨2, ![1, 1024]⟩
abbrev S1x16x64x64 : Shape := ⟨4, ![1, 16, 64, 64]⟩
abbrev S4x4096x7168 : Shape := ⟨3, ![4, 4096, 7168]⟩
abbrev S4x4096x1024 : Shape := ⟨3, ![4, 4096, 1024]⟩
abbrev S_ : Shape := ⟨0, ![]⟩
abbrev S4x3x1024 : Shape := ⟨3, ![4, 3, 1024]⟩
abbrev S4x4099x1024 : Shape := ⟨3, ![4, 4099, 1024]⟩
abbrev S1024 : Shape := ⟨1, ![1024]⟩
abbrev S4x1024 : Shape := ⟨2, ![4, 1024]⟩
abbrev S1x1x1024 : Shape := ⟨3, ![1, 1, 1024]⟩
abbrev S4x4096x16x64 : Shape := ⟨4, ![4, 4096, 16, 64]⟩
abbrev S16x64x64 : Shape := ⟨3, ![16, 64, 64]⟩
abbrev S16x64x4x4096 : Shape := ⟨4, ![16, 64, 4, 4096]⟩
abbrev S4096 : Shape := ⟨1, ![4096]⟩
abbrev S1x4096x1 : Shape := ⟨3, ![1, 4096, 1]⟩
abbrev S4096x4x1024 : Shape := ⟨3, ![4096, 4, 1024]⟩
abbrev S16384x1024 : Shape := ⟨2, ![16384, 1024]⟩
abbrev S4x8x1024 : Shape := ⟨3, ![4, 8, 1024]⟩

abbrev nBuf : Space → Nat
  | .hbm => 183
  | .vmem => 0
  | .smem => 0
  | _ => 0

abbrev hbmTy0_0 (i : Nat) : BufTy := match i % 128 with
  | 0 => ⟨S16384x7168, .f32⟩
  | 1 => ⟨S1x4x1024, .f32⟩
  | 2 => ⟨S1x1024, .f32⟩
  | 3 => ⟨S1x16x64x64, .f32⟩
  | 4 => ⟨S1x1024, .f32⟩
  | 5 => ⟨S1x16x64x64, .f32⟩
  | 6 => ⟨S1x1024, .f32⟩
  | 7 => ⟨S1x1024, .f32⟩
  | 8 => ⟨S4x4096x7168, .f32⟩
  | 9 => ⟨S4x4096x1024, .f32⟩
  | 10 => ⟨S_, .f32⟩
  | 11 => ⟨S4x3x1024, .f32⟩
  | 12 => ⟨S4x4099x1024, .f32⟩
  | 13 => ⟨S1024, .f32⟩
  | 14 => ⟨S4x4096x1024, .f32⟩
  | 15 => ⟨S4x1024, .f32⟩
  | 16 => ⟨S1x1024, .f32⟩
  | 17 => ⟨S1024, .f32⟩
  | 18 => ⟨S1x1x1024, .f32⟩
  | 19 => ⟨S4x4096x1024, .f32⟩
  | 20 => ⟨S4x4096x1024, .f32⟩
  | 21 => ⟨S_, .f32⟩
  | 22 => ⟨S4x4096x1024, .f32⟩
  | 23 => ⟨S4x4096x1024, .f32⟩
  | 24 => ⟨S4x4096x1024, .f32⟩
  | 25 => ⟨S4x1024, .f32⟩
  | 26 => ⟨S1x1024, .f32⟩
  | 27 => ⟨S1024, .f32⟩
  | 28 => ⟨S1x1x1024, .f32⟩
  | 29 => ⟨S4x4096x1024, .f32⟩
  | 30 => ⟨S4x4096x1024, .f32⟩
  | 31 => ⟨S4x4096x1024, .f32⟩
  | 32 => ⟨S4x4096x1024, .f32⟩
  | 33 => ⟨S4x1024, .f32⟩
  | 34 => ⟨S1x1024, .f32⟩
  | 35 => ⟨S1024, .f32⟩
  | 36 => ⟨S1x1x1024, .f32⟩
  | 37 => ⟨S4x4096x1024, .f32⟩
  | 38 => ⟨S4x4096x1024, .f32⟩
  | 39 => ⟨S4x4096x1024, .f32⟩
  | 40 => ⟨S4x4096x1024, .f32⟩
  | 41 => ⟨S4x1024, .f32⟩
  | 42 => ⟨S1x1024, .f32⟩
  | 43 => ⟨S1024, .f32⟩
  | 44 => ⟨S1x1x1024, .f32⟩
  | 45 => ⟨S4x4096x1024, .f32⟩
  | 46 => ⟨S4x4096x1024, .f32⟩
  | 47 => ⟨S4x4096x1024, .f32⟩
  | 48 => ⟨S1x1x1024, .f32⟩
  | 49 => ⟨S4x4096x1024, .f32⟩
  | 50 => ⟨S4x4096x1024, .f32⟩
  | 51 => ⟨S4x4096x16x64, .f32⟩
  | 52 => ⟨S16x64x64, .f32⟩
  | 53 => ⟨S16x64x4x4096, .f32⟩
  | 54 => ⟨S4x4096x16x64, .f32⟩
  | 55 => ⟨S4x4096x1024, .f32⟩
  | 56 => ⟨S1024, .f32⟩
  | 57 => ⟨S1x1x1024, .f32⟩
  | 58 => ⟨S4x4096x1024, .f32⟩
  | 59 => ⟨S4x4096x1024, .f32⟩
  | 60 => ⟨S4x4096x1024, .f32⟩
  | 61 => ⟨S4x4096x1024, .f32⟩
  | 62 => ⟨S_, .f32⟩
  | 63 => ⟨S4x4096x1024, .f32⟩
  | 64 => ⟨S4x4096x1024, .f32⟩
  | 65 => ⟨S_, .f32⟩
  | 66 => ⟨S4x4096x1024, .f32⟩
  | 67 => ⟨S4x4096x1024, .f32⟩
  | 68 => ⟨S16x64x64, .f32⟩
  | 69 => ⟨S16x64x4x4096, .f32⟩
  | 70 => ⟨S4x4096x16x64, .f32⟩
  | 71 => ⟨S4x4096x1024, .f32⟩
  | 72 => ⟨S1024, .f32⟩
  | 73 => ⟨S1x1x1024, .f32⟩
  | 74 => ⟨S4x4096x1024, .f32⟩
  | 75 => ⟨S4x4096x1024, .f32⟩
  | 76 => ⟨S4x4096x1024, .f32⟩
  | 77 => ⟨S4x4096x1024, .f32⟩
  | 78 => ⟨S_, .f32⟩
  | 79 => ⟨S4x4096x1024, .f32⟩
  | 80 => ⟨S4x4096x1024, .f32⟩
  | 81 => ⟨S_, .f32⟩
  | 82 => ⟨S4x4096x1024, .f32⟩
  | 83 => ⟨S4x4096x1024, .f32⟩
  | 84 => ⟨S_, .f32⟩
  | 85 => ⟨S4x4096x1024, .f32⟩
  | 86 => ⟨S4x4096x1024, .f32⟩
  | 87 => ⟨S1024, .f32⟩
  | 88 => ⟨S1024, .f32⟩
  | 89 => ⟨S_, .f32⟩
  | 90 => ⟨S1024, .f32⟩
  | 91 => ⟨S1024, .f32⟩
  | 92 => ⟨S1024, .f32⟩
  | 93 => ⟨S1024, .f32⟩
  | 94 => ⟨S1024, .i1⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1x1x1024, .f32⟩
  | 104 => ⟨S4x4096x1024, .f32⟩
  | 105 => ⟨S4x4096x1024, .f32⟩
  | 106 => ⟨S4096, .i32⟩
  | 107 => ⟨S_, .i32⟩
  | 108 => ⟨S4096, .i32⟩
  | 109 => ⟨S4096, .i1⟩
  | 110 => ⟨S1x4096x1, .i1⟩
  | 111 => ⟨S4x4096x1024, .f32⟩
  | 112 => ⟨S_, .f32⟩
  | 113 => ⟨S_, .f32⟩
  | 114 => ⟨S4x4096x1024, .i1⟩
  | 115 => ⟨S4x4096x1024, .f32⟩
  | 116 => ⟨S4x4096x1024, .f32⟩
  | 117 => ⟨S_, .f32⟩
  | 118 => ⟨S4x4096x1024, .f32⟩
  | 119 => ⟨S4x4096x1024, .f32⟩
  | 120 => ⟨S4x4096x1024, .f32⟩
  | 121 => ⟨S4x4096x1024, .f32⟩
  | 122 => ⟨S4x4096x1024, .f32⟩
  | 123 => ⟨S_, .f32⟩
  | 124 => ⟨S_, .f32⟩
  | 125 => ⟨S4x4096x1024, .i1⟩
  | 126 => ⟨S4x4096x1024, .f32⟩
  | 127 => ⟨S4x4096x1024, .f32⟩
  | _ => ⟨S16384x7168, .f32⟩

abbrev hbmTy0_1 (i : Nat) : BufTy := match i % 128 with
  | 0 => ⟨S4x4096x1024, .f32⟩
  | 1 => ⟨S4x4096x1024, .f32⟩
  | 2 => ⟨S_, .f32⟩
  | 3 => ⟨S4x1024, .f32⟩
  | 4 => ⟨S4096x4x1024, .f32⟩
  | 5 => ⟨S4096x4x1024, .f32⟩
  | 6 => ⟨S_, .f32⟩
  | 7 => ⟨S4096x4x1024, .f32⟩
  | 8 => ⟨S_, .i32⟩
  | 9 => ⟨S4096x4x1024, .f32⟩
  | 10 => ⟨S4096x4x1024, .f32⟩
  | 11 => ⟨S_, .i32⟩
  | 12 => ⟨S4x1024, .f32⟩
  | 13 => ⟨S4096x4x1024, .f32⟩
  | 14 => ⟨S_, .i32⟩
  | 15 => ⟨S_, .i1⟩
  | 16 => ⟨S_, .i32⟩
  | 17 => ⟨S_, .i32⟩
  | 18 => ⟨S1x4x1024, .f32⟩
  | 19 => ⟨S4x1024, .f32⟩
  | 20 => ⟨S_, .i32⟩
  | 21 => ⟨S_, .i32⟩
  | 22 => ⟨S1x4x1024, .f32⟩
  | 23 => ⟨S4x1024, .f32⟩
  | 24 => ⟨S4x1024, .f32⟩
  | 25 => ⟨S4x1024, .f32⟩
  | 26 => ⟨S1x4x1024, .f32⟩
  | 27 => ⟨S_, .i32⟩
  | 28 => ⟨S_, .i32⟩
  | 29 => ⟨S4096x4x1024, .f32⟩
  | 30 => ⟨S_, .i32⟩
  | 31 => ⟨S_, .i32⟩
  | 32 => ⟨S4x4096x1024, .f32⟩
  | 33 => ⟨S4x4096x7168, .f32⟩
  | 34 => ⟨S4x4096x1024, .f32⟩
  | 35 => ⟨S4x4096x1024, .f32⟩
  | 36 => ⟨S4x4096x1024, .f32⟩
  | 37 => ⟨S_, .f32⟩
  | 38 => ⟨S4x4096x1024, .f32⟩
  | 39 => ⟨S4x4096x1024, .f32⟩
  | 40 => ⟨S4x4096x1024, .f32⟩
  | 41 => ⟨S_, .f32⟩
  | 42 => ⟨S4x4096x1024, .f32⟩
  | 43 => ⟨S4x4096x1024, .f32⟩
  | 44 => ⟨S4x4096x1024, .f32⟩
  | 45 => ⟨S_, .f32⟩
  | 46 => ⟨S4x4096x1024, .f32⟩
  | 47 => ⟨S4x4096x1024, .f32⟩
  | 48 => ⟨S_, .f32⟩
  | 49 => ⟨S4x4096x1024, .f32⟩
  | 50 => ⟨S4x4096x1024, .f32⟩
  | 51 => ⟨S4x4096x1024, .f32⟩
  | 52 => ⟨S4x4096x1024, .f32⟩
  | 53 => ⟨S16384x1024, .f32⟩
  | 54 => ⟨S4x8x1024, .f32⟩
  | _ => ⟨S16384x7168, .f32⟩

abbrev hbmTy (i : Nat) : BufTy := match i / 128 with
  | 0 => hbmTy0_0 i
  | 1 => hbmTy0_1 i
  | _ => ⟨S16384x7168, .f32⟩

abbrev bufTy : (tb : Table) → Fin (tcTables nBuf tb) → BufTy
  | .hbm, ⟨i, _⟩ => hbmTy i
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_1 : Ref sig .tc := ⟨.hbm, 62, rfl⟩
abbrev main_v52 : Ref sig .tc := ⟨.hbm, 63, rfl⟩
abbrev main_v53 : Ref sig .tc := ⟨.hbm, 64, rfl⟩
abbrev main_cst_2 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_3 : Ref sig .tc := ⟨.hbm, 78, rfl⟩
abbrev main_v66 : Ref sig .tc := ⟨.hbm, 79, rfl⟩
abbrev main_v67 : Ref sig .tc := ⟨.hbm, 80, rfl⟩
abbrev main_cst_4 : Ref sig .tc := ⟨.hbm, 81, rfl⟩
abbrev main_v68 : Ref sig .tc := ⟨.hbm, 82, rfl⟩
abbrev main_v69 : Ref sig .tc := ⟨.hbm, 83, rfl⟩
abbrev main_cst_5 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_call0_cst : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_v8 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_6 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v83 : Ref sig .tc := ⟨.hbm, 116, rfl⟩
abbrev main_cst_7 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_8 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_9 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_10 : Ref sig .tc := ⟨.hbm, 134, rfl⟩
abbrev main_v95 : Ref sig .tc := ⟨.hbm, 135, rfl⟩
abbrev main_c_11 : Ref sig .tc := ⟨.hbm, 136, rfl⟩
abbrev main_v96_0 : Ref sig .tc := ⟨.hbm, 137, rfl⟩
abbrev main_v96_1 : Ref sig .tc := ⟨.hbm, 138, rfl⟩
abbrev main_v96_2 : Ref sig .tc := ⟨.hbm, 139, rfl⟩
abbrev main_v96_3 : Ref sig .tc := ⟨.hbm, 140, rfl⟩
abbrev main_v96_4 : Ref sig .tc := ⟨.hbm, 141, rfl⟩
abbrev main_while0c_c_20 : Ref sig .tc := ⟨.hbm, 142, rfl⟩
abbrev main_while0c_v116 : Ref sig .tc := ⟨.hbm, 143, rfl⟩
abbrev main_while0b_call3_c : Ref sig .tc := ⟨.hbm, 144, rfl⟩
abbrev main_while0b_call3_c_0 : Ref sig .tc := ⟨.hbm, 145, rfl⟩
abbrev main_while0b_call3_v0 : Ref sig .tc := ⟨.hbm, 146, rfl⟩
abbrev main_while0b_v116 : Ref sig .tc := ⟨.hbm, 147, rfl⟩
abbrev main_while0b_call4_c : Ref sig .tc := ⟨.hbm, 148, rfl⟩
abbrev main_while0b_call4_c_0 : Ref sig .tc := ⟨.hbm, 149, rfl⟩
abbrev main_while0b_call4_v0 : Ref sig .tc := ⟨.hbm, 150, rfl⟩
abbrev main_while0b_v117 : Ref sig .tc := ⟨.hbm, 151, rfl⟩
abbrev main_while0b_v118 : Ref sig .tc := ⟨.hbm, 152, rfl⟩
abbrev main_while0b_v119 : Ref sig .tc := ⟨.hbm, 153, rfl⟩
abbrev main_while0b_call5_v0 : Ref sig .tc := ⟨.hbm, 154, rfl⟩
abbrev main_while0b_call5_c : Ref sig .tc := ⟨.hbm, 155, rfl⟩
abbrev main_while0b_call5_c_0 : Ref sig .tc := ⟨.hbm, 156, rfl⟩
abbrev main_while0b_v120 : Ref sig .tc := ⟨.hbm, 157, rfl⟩
abbrev main_while0b_c_20 : Ref sig .tc := ⟨.hbm, 158, rfl⟩
abbrev main_while0b_v121 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_cst_12 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_cst_13 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_cst_14 : Ref sig .tc := ⟨.hbm, 173, rfl⟩
abbrev main_v108 : Ref sig .tc := ⟨.hbm, 174, rfl⟩
abbrev main_v109 : Ref sig .tc := ⟨.hbm, 175, rfl⟩
abbrev main_cst_15 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S16384x1024 : Shape := ⟨2, ![16384, 1024]⟩
abbrev S16384x7168 : Shape := ⟨2, ![16384, 7168]⟩
abbrev S1x4x4096x256 : Shape := ⟨4, ![1, 4, 4096, 256]⟩
abbrev S1x2x1024 : Shape := ⟨3, ![1, 2, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1024 : Shape := ⟨1, ![1024]⟩
abbrev S2x1024 : Shape := ⟨2, ![2, 1024]⟩
abbrev S1024x1024 : Shape := ⟨2, ![1024, 1024]⟩
abbrev S1024x5632 : Shape := ⟨2, ![1024, 5632]⟩
abbrev S2816x1024 : Shape := ⟨2, ![2816, 1024]⟩
abbrev S256x1024 : Shape := ⟨2, ![256, 1024]⟩
abbrev S4x4096x256 : Shape := ⟨3, ![4, 4096, 256]⟩
abbrev S16384x256 : Shape := ⟨2, ![16384, 256]⟩
abbrev S256x256 : Shape := ⟨2, ![256, 256]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 33
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x7168, .f32⟩
  | .hbm, ⟨4, _⟩ => ⟨S1x4x4096x256, .f32⟩
  | .hbm, ⟨5, _⟩ => ⟨S1x2x1024, .f32⟩
  | .hbm, ⟨6, _⟩ => ⟨S1x1024x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1x1024, .f32⟩
  | .hbm, ⟨11, _⟩ => ⟨S1x1024x1024, .f32⟩
  | .hbm, ⟨12, _⟩ => ⟨S1x256x1024, .f32⟩
  | .hbm, ⟨13, _⟩ => ⟨S1024, .f32⟩
  | .hbm, ⟨14, _⟩ => ⟨S2x1024, .f32⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S1024x5632, .f32⟩
  | .hbm, ⟨20, _⟩ => ⟨S1024x5632, .bf16⟩
  | .hbm, ⟨21, _⟩ => ⟨S2816x1024, .f32⟩
  | .hbm, ⟨22, _⟩ => ⟨S2816x1024, .bf16⟩
  | .hbm, ⟨23, _⟩ => ⟨S1024, .f32⟩
  | .hbm, ⟨24, _⟩ => ⟨S1x1024, .f32⟩
  | .hbm, ⟨25, _⟩ => ⟨S1024x1024, .f32⟩
  | .hbm, ⟨26, _⟩ => ⟨S1024x1024, .bf16⟩
  | .hbm, ⟨27, _⟩ => ⟨S256x1024, .f32⟩
  | .hbm, ⟨28, _⟩ => ⟨S256x1024, .bf16⟩
  | .hbm, ⟨29, _⟩ => ⟨S1x1024, .f32⟩
  | .hbm, ⟨30, _⟩ => ⟨S4x4096x256, .f32⟩
  | .hbm, ⟨31, _⟩ => ⟨S16384x256, .f32⟩
  | .hbm, ⟨32, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x256, .f32⟩
  | .local _ .vmem, ⟨11, _⟩ => ⟨S256x256, .f32⟩
  | .local _ .vmem, ⟨12, _⟩ => ⟨S2x1024, .f32⟩
  | .local _ .vmem, ⟨13, _⟩ => ⟨S1024x1024, .bf16⟩
  | .local _ .vmem, ⟨14, _⟩ => ⟨S1x1024, .f32⟩
  | .local _ .vmem, ⟨15, _⟩ => ⟨S1024x5632, .bf16⟩
  | .local _ .vmem, ⟨16, _⟩ => ⟨S2816x1024, .bf16⟩
  | .local _ .vmem, ⟨17, _⟩ => ⟨S1x1024, .f32⟩
  | .local _ .vmem, ⟨18, _⟩ => ⟨S1024x1024, .bf16⟩
  | .local _ .vmem, ⟨19, _⟩ => ⟨S256x1024, .bf16⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S16384x1024 : Shape := ⟨2, ![16384, 1024]⟩
abbrev S16384x7168 : Shape := ⟨2, ![16384, 7168]⟩
abbrev S1x4x4096x256 : Shape := ⟨4, ![1, 4, 4096, 256]⟩
abbrev S1x2x1024 : Shape := ⟨3, ![1, 2, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1024 : Shape := ⟨1, ![1024]⟩
abbrev S1x1x1024 : Shape := ⟨3, ![1, 1, 1024]⟩
abbrev S_ : Shape := ⟨0, ![]⟩
abbrev S1024x1024 : Shape := ⟨2, ![1024, 1024]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩
abbrev S2816x1024 : Shape := ⟨2, ![2816, 1024]⟩
abbrev S4x4096x256 : Shape := ⟨3, ![4, 4096, 256]⟩
abbrev S16384x256 : Shape := ⟨2, ![16384, 256]⟩
abbrev S256x1024 : Shape := ⟨2, ![256, 1024]⟩

abbrev nBuf : Space → Nat
  | .hbm => 131
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S16384x7168, .f32⟩
  | 4 => ⟨S1x4x4096x256, .f32⟩
  | 5 => ⟨S1x2x1024, .f32⟩
  | 6 => ⟨S1x1024x1024, .f32⟩
  | 7 => ⟨S1x1024, .f32⟩
  | 8 => ⟨S1x1024x5632, .f32⟩
  | 9 => ⟨S1x2816x1024, .f32⟩
  | 10 => ⟨S1x1024, .f32⟩
  | 11 => ⟨S1x1024x1024, .f32⟩
  | 12 => ⟨S1x256x1024, .f32⟩
  | 13 => ⟨S1024, .f32⟩
  | 14 => ⟨S16384x1024, .f32⟩
  | 15 => ⟨S16384x1024, .f32⟩
  | 16 => ⟨S1x1x1024, .f32⟩
  | 17 => ⟨S1024, .f32⟩
  | 18 => ⟨S1x1024, .f32⟩
  | 19 => ⟨S16384x1024, .f32⟩
  | 20 => ⟨S16384x1024, .f32⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S16384x1024, .f32⟩
  | 30 => ⟨S1x1x1024, .f32⟩
  | 31 => ⟨S1024, .f32⟩
  | 32 => ⟨S1x1024, .f32⟩
  | 33 => ⟨S16384x1024, .f32⟩
  | 34 => ⟨S16384x1024, .f32⟩
  | 35 => ⟨S16384x1024, .f32⟩
  | 36 => ⟨S16384x1024, .f32⟩
  | 37 => ⟨S_, .f32⟩
  | 38 => ⟨S16384x1024, .f32⟩
  | 39 => ⟨S16384x1024, .f32⟩
  | 40 => ⟨S_, .f32⟩
  | 41 => ⟨S16384x1024, .f32⟩
  | 42 => ⟨S16384x1024, .f32⟩
  | 43 => ⟨S16384x1024, .f32⟩
  | 44 => ⟨S16384x1024, .f32⟩
  | 45 => ⟨S1024x1024, .f32⟩
  | 46 => ⟨S16384x1024, .f32⟩
  | 47 => ⟨S16384x1024, .f32⟩
  | 48 => ⟨S1024, .f32⟩
  | 49 => ⟨S16384x1024, .f32⟩
  | 50 => ⟨S_, .f32⟩
  | 51 => ⟨S16384, .f32⟩
  | 52 => ⟨S16384x1, .f32⟩
  | 53 => ⟨S_, .f32⟩
  | 54 => ⟨S16384x1, .f32⟩
  | 55 => ⟨S16384x1, .f32⟩
  | 56 => ⟨S_, .f32⟩
  | 57 => ⟨S16384x1, .f32⟩
  | 58 => ⟨S16384x1, .f32⟩
  | 59 => ⟨S16384x1, .f32⟩
  | 60 => ⟨S16384x1024, .f32⟩
  | 61 => ⟨S16384x1024, .f32⟩
  | 62 => ⟨S1x1024, .f32⟩
  | 63 => ⟨S16384x1024, .f32⟩
  | 64 => ⟨S16384x1024, .f32⟩
  | 65 => ⟨S1024x5632, .f32⟩
  | 66 => ⟨S16384x5632, .f32⟩
  | 67 => ⟨S16384x2816, .f32⟩
  | 68 => ⟨S16384x2816, .f32⟩
  | 69 => ⟨S16384x2816, .f32⟩
  | 70 => ⟨S16384x2816, .f32⟩
  | 71 => ⟨S_, .f32⟩
  | 72 => ⟨S16384x2816, .f32⟩
  | 73 => ⟨S16384x2816, .f32⟩
  | 74 => ⟨S_, .f32⟩
  | 75 => ⟨S16384x2816, .f32⟩
  | 76 => ⟨S16384x2816, .f32⟩
  | 77 => ⟨S16384x2816, .f32⟩
  | 78 => ⟨S16384x2816, .f32⟩
  | 79 => ⟨S2816x1024, .f32⟩
  | 80 => ⟨S16384x1024, .f32⟩
  | 81 => ⟨S16384x1024, .f32⟩
  | 82 => ⟨S1024, .f32⟩
  | 83 => ⟨S16384x1024, .f32⟩
  | 84 => ⟨S_, .f32⟩
  | 85 => ⟨S16384, .f32⟩
  | 86 => ⟨S16384x1, .f32⟩
  | 87 => ⟨S_, .f32⟩
  | 88 => ⟨S16384x1, .f32⟩
  | 89 => ⟨S16384x1, .f32⟩
  | 90 => ⟨S_, .f32⟩
  | 91 => ⟨S16384x1, .f32⟩
  | 92 => ⟨S16384x1, .f32⟩
  | 93 => ⟨S16384x1, .f32⟩
  | 94 => ⟨S16384x1024, .f32⟩
  | 95 => ⟨S16384x1024, .f32⟩
  | 96 => ⟨S1x1024, .f32⟩
  | 97 => ⟨S16384x1024, .f32⟩
  | 98 => ⟨S16384x1024, .f32⟩
  | 99 => ⟨S1024x1024, .f32⟩
  | 100 => ⟨S16384x1024, .f32⟩
  | 101 => ⟨S16384x1024, .f32⟩
  | 102 => ⟨S16384x1024, .f32⟩
  | 103 => ⟨S_, .f32⟩
  | 104 => ⟨S16384x1024, .f32⟩
  | 105 => ⟨S16384x1024, .f32⟩
  | 106 => ⟨S_, .f32⟩
  | 107 => ⟨S16384x1024, .f32⟩
  | 108 => ⟨S16384x1024, .f32⟩
  | 109 => ⟨S4x4096x256, .f32⟩
  | 110 => ⟨S16384x256, .f32⟩
  | 111 => ⟨S256x1024, .f32⟩
  | 112 => ⟨S16384x1024, .f32⟩
  | 113 => ⟨S16384x1024, .f32⟩
  | 114 => ⟨S16384x1024, .f32⟩
  | 115 => ⟨S16384x1024, .f32⟩
  | 116 => ⟨S_, .f32⟩
  | 117 => ⟨S16384, .f32⟩
  | 118 => ⟨S16384x1, .f32⟩
  | 119 => ⟨S_, .f32⟩
  | 120 => ⟨S16384x1, .f32⟩
  | 121 => ⟨S16384x1, .f32⟩
  | 122 => ⟨S_, .f32⟩
  | 123 => ⟨S16384x1, .f32⟩
  | 124 => ⟨S16384x1, .f32⟩
  | 125 => ⟨S16384x1, .f32⟩
  | 126 => ⟨S16384x1024, .f32⟩
  | 127 => ⟨S16384x1024, .f32⟩
  | _ => ⟨S16384x1024, .f32⟩

abbrev hbmTy0_1 (i : Nat) : BufTy := match i % 128 with
  | 0 => ⟨S1x1024, .f32⟩
  | 1 => ⟨S16384x1024, .f32⟩
  | 2 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_cst_8 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_9 : Ref sig .tc := ⟨.hbm, 103, rfl⟩
abbrev main_v71 : Ref sig .tc := ⟨.hbm, 104, rfl⟩
abbrev main_v72 : Ref sig .tc := ⟨.hbm, 105, rfl⟩
abbrev main_cst_10 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_11 : Ref sig .tc := ⟨.hbm, 116, rfl⟩
abbrev main_v82 : Ref sig .tc := ⟨.hbm, 117, rfl⟩
abbrev main_v83 : Ref sig .tc := ⟨.hbm, 118, rfl⟩
abbrev main_cst_12 : Ref sig .tc := ⟨.hbm, 119, rfl⟩
abbrev main_v84 : Ref sig .tc := ⟨.hbm, 120, rfl⟩
abbrev main_v85 : Ref sig .tc := ⟨.hbm, 121, rfl⟩
abbrev main_cst_13 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1x1024x7168 : Shape := ⟨3, ![1, 1024, 7168]⟩
abbrev S1024 : Shape := ⟨1, ![1024]⟩
abbrev S1024x7168 : Shape := ⟨2, ![1024, 7168]⟩
abbrev S16384x7168 : Shape := ⟨2, ![16384, 7168]⟩
abbrev S131072x128 : Shape := ⟨2, ![131072, 128]⟩
abbrev S256x1024 : Shape := ⟨2, ![256, 1024]⟩
abbrev S256x7168 : Shape := ⟨2, ![256, 7168]⟩
abbrev S2048x128 : Shape := ⟨2, ![2048, 128]⟩
abbrev S256 : Shape := ⟨1, ![256]⟩
abbrev S256x1 : Shape := ⟨2, ![256, 1]⟩
abbrev S1024x1024 : Shape := ⟨2, ![1024, 1024]⟩
abbrev S256x128 : Shape := ⟨2, ![256, 128]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x7168, .f32⟩
  | .hbm, ⟨3, _⟩ => ⟨S1024, .f32⟩
  | .hbm, ⟨4, _⟩ => ⟨S1x1024, .f32⟩
  | .hbm, ⟨5, _⟩ => ⟨S1024x7168, .f32⟩
  | .hbm, ⟨6, _⟩ => ⟨S1024x7168, .bf16⟩
  | .hbm, ⟨7, _⟩ => ⟨S16384x7168, .f32⟩
  | .hbm, ⟨8, _⟩ => ⟨S131072x128, .f32⟩
  | .hbm, ⟨9, _⟩ => ⟨S131072x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7168, .bf16⟩
  | .local _ .vmem, ⟨4, _⟩ => ⟨S256x7168, .f32⟩
  | .local _ .vmem, ⟨5, _⟩ => ⟨S256x7168, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x7168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S1x1024 : Shape := ⟨2, ![1, 1024]⟩
abbrev S1x1024x7168 : Shape := ⟨3, ![1, 1024, 7168]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x7168 : Shape := ⟨2, ![1024, 7168]⟩
abbrev S16384x7168 : Shape := ⟨2, ![16384, 7168]⟩
abbrev S131072x128 : Shape := ⟨2, ![131072, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x7168, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x7168, .f32⟩
  | .hbm, ⟨21, _⟩ => ⟨S16384x7168, .f32⟩
  | .hbm, ⟨22, _⟩ => ⟨S16384x1024, .f32⟩
  | .hbm, ⟨23, _⟩ => ⟨S131072x128, .f32⟩
  | .hbm, ⟨24, _⟩ => ⟨S16384x1024, .f32⟩
  | .hbm, ⟨25, _⟩ => ⟨S131072x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S256x1024 : Shape := ⟨2, ![256, 1024]⟩
abbrev S1x1024 : Shape := ⟨2, ![1, 1024]⟩
abbrev S1x1024x7168 : Shape := ⟨3, ![1, 1024, 7168]⟩
abbrev S1024 : Shape := ⟨1, ![1024]⟩
abbrev S1024x7168 : Shape := ⟨2, ![1024, 7168]⟩
abbrev S256x7168 : Shape := ⟨2, ![256, 7168]⟩
abbrev S2048x128 : Shape := ⟨2, ![2048, 128]⟩
abbrev S256 : Shape := ⟨1, ![256]⟩
abbrev S256x1 : Shape := ⟨2, ![256, 1]⟩
abbrev S1024x1024 : Shape := ⟨2, ![1024, 1024]⟩
abbrev S256x128 : Shape := ⟨2, ![256, 128]⟩

abbrev nBuf : Space → Nat
  | .hbm => 10
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024x7168, .f32⟩
  | .hbm, ⟨3, _⟩ => ⟨S1024, .f32⟩
  | .hbm, ⟨4, _⟩ => ⟨S1x1024, .f32⟩
  | .hbm, ⟨5, _⟩ => ⟨S1024x7168, .f32⟩
  | .hbm, ⟨6, _⟩ => ⟨S1024x7168, .bf16⟩
  | .hbm, ⟨7, _⟩ => ⟨S256x7168, .f32⟩
  | .hbm, ⟨8, _⟩ => ⟨S2048x128, .f32⟩
  | .hbm, ⟨9, _⟩ => ⟨S2048x128, .f32⟩
  | .local _ .vmem, ⟨0, _⟩ => ⟨S256x1024, .f32⟩
  | .local _ .vmem, ⟨1, _⟩ => ⟨S1x1024, .f32⟩
  | .local _ .vmem, ⟨2, _⟩ => ⟨S1024x7168, .bf16⟩
  | .local _ .vmem, ⟨3, _⟩ => ⟨S256x7168, .f32⟩
  | .local _ .vmem, ⟨4, _⟩ => ⟨S2048x128, .f32⟩
  | .local _ .vmem, ⟨5, _⟩ => ⟨S2048x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference4Ideal.lean ====
abbrev S256x1024 : Shape := ⟨2, ![256, 1024]⟩
abbrev S1x1024 : Shape := ⟨2, ![1, 1024]⟩
abbrev S1x1024x7168 : Shape := ⟨3, ![1, 1024, 7168]⟩
abbrev S1024 : Shape := ⟨1, ![1024]⟩
abbrev S_ : Shape := ⟨0, ![]⟩
abbrev S256 : Shape := ⟨1, ![256]⟩
abbrev S256x1 : Shape := ⟨2, ![256, 1]⟩
abbrev S1024x7168 : Shape := ⟨2, ![1024, 7168]⟩
abbrev S256x7168 : Shape := ⟨2, ![256, 7168]⟩
abbrev S2048x128 : Shape := ⟨2, ![2048, 128]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024x7168, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S1024x7168, .f32⟩
  | .hbm, ⟨21, _⟩ => ⟨S256x7168, .f32⟩
  | .hbm, ⟨22, _⟩ => ⟨S256x1024, .f32⟩
  | .hbm, ⟨23, _⟩ => ⟨S2048x128, .f32⟩
  | .hbm, ⟨24, _⟩ => ⟨S256x1024, .f32⟩
  | .hbm, ⟨25, _⟩ => ⟨S2048x128, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel5.lean ====
abbrev S256x1024 : Shape := ⟨2, ![256, 1024]⟩
abbrev S256x7168 : Shape := ⟨2, ![256, 7168]⟩
abbrev S1x32x8x256 : Shape := ⟨4, ![1, 32, 8, 256]⟩
abbrev S1x2x1024 : Shape := ⟨3, ![1, 2, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1024 : Shape := ⟨1, ![1024]⟩
abbrev S2x1024 : Shape := ⟨2, ![2, 1024]⟩
abbrev S1024x1024 : Shape := ⟨2, ![1024, 1024]⟩
abbrev S1024x5632 : Shape := ⟨2, ![1024, 5632]⟩
abbrev S2816x1024 : Shape := ⟨2, ![2816, 1024]⟩
abbrev S32x8x256 : Shape := ⟨3, ![32, 8, 256]⟩
abbrev S256x256 : Shape := ⟨2, ![256, 256]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 33
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x7168, .f32⟩
  | .hbm, ⟨4, _⟩ => ⟨S1x32x8x256, .f32⟩
  | .hbm, ⟨5, _⟩ => ⟨S1x2x1024, .f32⟩
  | .hbm, ⟨6, _⟩ => ⟨S1x1024x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1x1024, .f32⟩
  | .hbm, ⟨11, _⟩ => ⟨S1x1024x1024, .f32⟩
  | .hbm, ⟨12, _⟩ => ⟨S1x256x1024, .f32⟩
  | .hbm, ⟨13, _⟩ => ⟨S1024, .f32⟩
  | .hbm, ⟨14, _⟩ => ⟨S2x1024, .f32⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S1024x5632, .f32⟩
  | .hbm, ⟨20, _⟩ => ⟨S1024x5632, .bf16⟩
  | .hbm, ⟨21, _⟩ => ⟨S2816x1024, .f32⟩
  | .hbm, ⟨22, _⟩ => ⟨S2816x1024, .bf16⟩
  | .hbm, ⟨23, _⟩ => ⟨S1024, .f32⟩
  | .hbm, ⟨24, _⟩ => ⟨S1x1024, .f32⟩
  | .hbm, ⟨25, _⟩ => ⟨S1024x1024, .f32⟩
  | .hbm, ⟨26, _⟩ => ⟨S1024x1024, .bf16⟩
  | .hbm, ⟨27, _⟩ => ⟨S256x1024, .f32⟩
  | .hbm, ⟨28, _⟩ => ⟨S256x1024, .bf16⟩
  | .hbm, ⟨29, _⟩ => ⟨S1x1024, .f32⟩
  | .hbm, ⟨30, _⟩ => ⟨S32x8x256, .f32⟩
  | .hbm, ⟨31, _⟩ => ⟨S256x256, .f32⟩
  | .hbm, ⟨32, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x256, .f32⟩
  | .local _ .vmem, ⟨6, _⟩ => ⟨S2x1024, .f32⟩
  | .local _ .vmem, ⟨7, _⟩ => ⟨S1024x1024, .bf16⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S1x1024, .f32⟩
  | .local _ .vmem, ⟨15, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference5Ideal.lean ====
abbrev S256x1024 : Shape := ⟨2, ![256, 1024]⟩
abbrev S256x7168 : Shape := ⟨2, ![256, 7168]⟩
abbrev S1x32x8x256 : Shape := ⟨4, ![1, 32, 8, 256]⟩
abbrev S1x2x1024 : Shape := ⟨3, ![1, 2, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1024 : Shape := ⟨1, ![1024]⟩
abbrev S1x1x1024 : Shape := ⟨3, ![1, 1, 1024]⟩
abbrev S_ : Shape := ⟨0, ![]⟩
abbrev S1024x1024 : Shape := ⟨2, ![1024, 1024]⟩
abbrev S256 : Shape := ⟨1, ![256]⟩
abbrev S256x1 : Shape := ⟨2, ![256, 1]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩
abbrev S32x8x256 : Shape := ⟨3, ![32, 8, 256]⟩
abbrev S256x256 : Shape := ⟨2, ![256, 256]⟩

abbrev nBuf : Space → Nat
  | .hbm => 131
  | .vmem => 0
  | .smem => 0
  | _ => 0

abbrev hbmTy0_0 (i : Nat) : BufTy := match i % 128 with
  | 0 => ⟨S256x1024, .f32⟩
  | 1 => ⟨S256x1024, .f32⟩
  | 2 => ⟨S256x1024, .f32⟩
  | 3 => ⟨S256x7168, .f32⟩
  | 4 => ⟨S1x32x8x256, .f32⟩
  | 5 => ⟨S1x2x1024, .f32⟩
  | 6 => ⟨S1x1024x1024, .f32⟩
  | 7 => ⟨S1x1024, .f32⟩
  | 8 => ⟨S1x1024x5632, .f32⟩
  | 9 => ⟨S1x2816x1024, .f32⟩
  | 10 => ⟨S1x1024, .f32⟩
  | 11 => ⟨S1x1024x1024, .f32⟩
  | 12 => ⟨S1x256x1024, .f32⟩
  | 13 => ⟨S1024, .f32⟩
  | 14 => ⟨S256x1024, .f32⟩
  | 15 => ⟨S256x1024, .f32⟩
  | 16 => ⟨S1x1x1024, .f32⟩
  | 17 => ⟨S1024, .f32⟩
  | 18 => ⟨S1x1024, .f32⟩
  | 19 => ⟨S256x1024, .f32⟩
  | 20 => ⟨S256x1024, .f32⟩
  | 21 => ⟨S256x1024, .f32⟩
  | 22 => ⟨S256x1024, .f32⟩
  | 23 => ⟨S_, .f32⟩
  | 24 => ⟨S256x1024, .f32⟩
  | 25 => ⟨S256x1024, .f32⟩
  | 26 => ⟨S_, .f32⟩
  | 27 => ⟨S256x1024, .f32⟩
  | 28 => ⟨S256x1024, .f32⟩
  | 29 => ⟨S256x1024, .f32⟩
  | 30 => ⟨S1x1x1024, .f32⟩
  | 31 => ⟨S1024, .f32⟩
  | 32 => ⟨S1x1024, .f32⟩
  | 33 => ⟨S256x1024, .f32⟩
  | 34 => ⟨S256x1024, .f32⟩
  | 35 => ⟨S256x1024, .f32⟩
  | 36 => ⟨S256x1024, .f32⟩
  | 37 => ⟨S_, .f32⟩
  | 38 => ⟨S256x1024, .f32⟩
  | 39 => ⟨S256x1024, .f32⟩
  | 40 => ⟨S_, .f32⟩
  | 41 => ⟨S256x1024, .f32⟩
  | 42 => ⟨S256x1024, .f32⟩
  | 43 => ⟨S256x1024, .f32⟩
  | 44 => ⟨S256x1024, .f32⟩
  | 45 => ⟨S1024x1024, .f32⟩
  | 46 => ⟨S256x1024, .f32⟩
  | 47 => ⟨S256x1024, .f32⟩
  | 48 => ⟨S1024, .f32⟩
  | 49 => ⟨S256x1024, .f32⟩
  | 50 => ⟨S_, .f32⟩
  | 51 => ⟨S256, .f32⟩
  | 52 => ⟨S256x1, .f32⟩
  | 53 => ⟨S_, .f32⟩
  | 54 => ⟨S256x1, .f32⟩
  | 55 => ⟨S256x1, .f32⟩
  | 56 => ⟨S_, .f32⟩
  | 57 => ⟨S256x1, .f32⟩
  | 58 => ⟨S256x1, .f32⟩
  | 59 => ⟨S256x1, .f32⟩
  | 60 => ⟨S256x1024, .f32⟩
  | 61 => ⟨S256x1024, .f32⟩
  | 62 => ⟨S1x1024, .f32⟩
  | 63 => ⟨S256x1024, .f32⟩
  | 64 => ⟨S256x1024, .f32⟩
  | 65 => ⟨S1024x5632, .f32⟩
  | 66 => ⟨S256x5632, .f32⟩
  | 67 => ⟨S256x2816, .f32⟩
  | 68 => ⟨S256x2816, .f32⟩
  | 69 => ⟨S256x2816, .f32⟩
  | 70 => ⟨S256x2816, .f32⟩
  | 71 => ⟨S_, .f32⟩
  | 72 => ⟨S256x2816, .f32⟩
  | 73 => ⟨S256x2816, .f32⟩
  | 74 => ⟨S_, .f32⟩
  | 75 => ⟨S256x2816, .f32⟩
  | 76 => ⟨S256x2816, .f32⟩
  | 77 => ⟨S256x2816, .f32⟩
  | 78 => ⟨S256x2816, .f32⟩
  | 79 => ⟨S2816x1024, .f32⟩
  | 80 => ⟨S256x1024, .f32⟩
  | 81 => ⟨S256x1024, .f32⟩
  | 82 => ⟨S1024, .f32⟩
  | 83 => ⟨S256x1024, .f32⟩
  | 84 => ⟨S_, .f32⟩
  | 85 => ⟨S256, .f32⟩
  | 86 => ⟨S256x1, .f32⟩
  | 87 => ⟨S_, .f32⟩
  | 88 => ⟨S256x1, .f32⟩
  | 89 => ⟨S256x1, .f32⟩
  | 90 => ⟨S_, .f32⟩
  | 91 => ⟨S256x1, .f32⟩
  | 92 => ⟨S256x1, .f32⟩
  | 93 => ⟨S256x1, .f32⟩
  | 94 => ⟨S256x1024, .f32⟩
  | 95 => ⟨S256x1024, .f32⟩
  | 96 => ⟨S1x1024, .f32⟩
  | 97 => ⟨S256x1024, .f32⟩
  | 98 => ⟨S256x1024, .f32⟩
  | 99 => ⟨S1024x1024, .f32⟩
  | 100 => ⟨S256x1024, .f32⟩
  | 101 => ⟨S256x1024, .f32⟩
  | 102 => ⟨S256x1024, .f32⟩
  | 103 => ⟨S_, .f32⟩
  | 104 => ⟨S256x1024, .f32⟩
  | 105 => ⟨S256x1024, .f32⟩
  | 106 => ⟨S_, .f32⟩
  | 107 => ⟨S256x1024, .f32⟩
  | 108 => ⟨S256x1024, .f32⟩
  | 109 => ⟨S32x8x256, .f32⟩
  | 110 => ⟨S256x256, .f32⟩
  | 111 => ⟨S256x1024, .f32⟩
  | 112 => ⟨S256x1024, .f32⟩
  | 113 => ⟨S256x1024, .f32⟩
  | 114 => ⟨S256x1024, .f32⟩
  | 115 => ⟨S256x1024, .f32⟩
  | 116 => ⟨S_, .f32⟩
  | 117 => ⟨S256, .f32⟩
  | 118 => ⟨S256x1, .f32⟩
  | 119 => ⟨S_, .f32⟩
  | 120 => ⟨S256x1, .f32⟩
  | 121 => ⟨S256x1, .f32⟩
  | 122 => ⟨S_, .f32⟩
  | 123 => ⟨S256x1, .f32⟩
  | 124 => ⟨S256x1, .f32⟩
  | 125 => ⟨S256x1, .f32⟩
  | 126 => ⟨S256x1024, .f32⟩
  | 127 => ⟨S256x1024, .f32⟩
  | _ => ⟨S256x1024, .f32⟩

abbrev hbmTy0_1 (i : Nat) : BufTy := match i % 128 with
  | 0 => ⟨S1x1024, .f32⟩
  | 1 => ⟨S256x1024, .f32⟩
  | 2 => ⟨S256x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_cst_8 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_9 : Ref sig .tc := ⟨.hbm, 103, rfl⟩
abbrev main_v71 : Ref sig .tc := ⟨.hbm, 104, rfl⟩
abbrev main_v72 : Ref sig .tc := ⟨.hbm, 105, rfl⟩
abbrev main_cst_10 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_11 : Ref sig .tc := ⟨.hbm, 116, rfl⟩
abbrev main_v82 : Ref sig .tc := ⟨.hbm, 117, rfl⟩
abbrev main_v83 : Ref sig .tc := ⟨.hbm, 118, rfl⟩
abbrev main_cst_12 : Ref sig .tc := ⟨.hbm, 119, rfl⟩
abbrev main_v84 : Ref sig .tc := ⟨.hbm, 120, rfl⟩
abbrev main_v85 : Ref sig .tc := ⟨.hbm, 121, rfl⟩
abbrev main_cst_13 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]
-- ==== Kernel6.lean ====
abbrev S256x7168 : Shape := ⟨2, ![256, 7168]⟩
abbrev S1x32x3x1024 : Shape := ⟨4, ![1, 32, 3, 1024]⟩
abbrev S1x32x1024 : Shape := ⟨3, ![1, 32, 1024]⟩
abbrev S1x4x1024 : Shape := ⟨3, ![1, 4, 1024]⟩
abbrev S1x1024 : Shape := ⟨2, ![1, 1024]⟩
abbrev S1x16x64x64 : Shape := ⟨4, ![1, 16, 64, 64]⟩
abbrev S16x64x64 : Shape := ⟨3, ![16, 64, 64]⟩
abbrev S8x2x64x64 : Shape := ⟨4, ![8, 2, 64, 64]⟩
abbrev S2x2 : Shape := ⟨2, ![2, 2]⟩
abbrev S_ : Shape := ⟨0, ![]⟩
abbrev S8x2x64x1x64 : Shape := ⟨5, ![8, 2, 64, 1, 64]⟩
abbrev S1x2x1x2x1 : Shape := ⟨5, ![1, 2, 1, 2, 1]⟩
abbrev S8x2x64x2x64 : Shape := ⟨5, ![8, 2, 64, 2, 64]⟩
abbrev S8x128x128 : Shape := ⟨3, ![8, 128, 128]⟩
abbrev S8x128x256 : Shape := ⟨3, ![8, 128, 256]⟩
abbrev S32x3x1024 : Shape := ⟨3, ![32, 3, 1024]⟩
abbrev S32x8x1024 : Shape := ⟨3, ![32, 8, 1024]⟩
abbrev S32x1024 : Shape := ⟨2, ![32, 1024]⟩
abbrev S32x1x1024 : Shape := ⟨3, ![32, 1, 1024]⟩
abbrev S4x1024 : Shape := ⟨2, ![4, 1024]⟩
abbrev S1024 : Shape := ⟨1, ![1024]⟩
abbrev S256x1024 : Shape := ⟨2, ![256, 1024]⟩
abbrev S8x1024 : Shape := ⟨2, ![8, 1024]⟩
abbrev S1x8x1024 : Shape := ⟨3, ![1, 8, 1024]⟩
abbrev S1x1x1024 : Shape := ⟨3, ![1, 1, 1024]⟩
abbrev S1x16x1024 : Shape := ⟨3, ![1, 16, 1024]⟩
abbrev S8x128 : Shape := ⟨2, ![8, 128]⟩
abbrev S1x128x256 : Shape := ⟨3, ![1, 128, 256]⟩
abbrev S128x256 : Shape := ⟨2, ![128, 256]⟩
abbrev S8x256 : Shape := ⟨2, ![8, 256]⟩

abbrev nBuf : Space → Nat
  | .hbm => 59
  | .vmem => 20
  | .smem => 0
  | _ => 0

abbrev bufTy : (tb : Table) → Fin (tcTables nBuf tb) → BufTy
  | .hbm, ⟨0, _⟩ => ⟨S256x7168, .f32⟩
  | .hbm, ⟨1, _⟩ => ⟨S1x32x3x1024, .f32⟩
  | .hbm, ⟨2, _⟩ => ⟨S1x32x1024, .f32⟩
  | .hbm, ⟨3, _⟩ => ⟨S1x4x1024, .f32⟩
  | .hbm, ⟨4, _⟩ => ⟨S1x1024, .f32⟩
  | .hbm, ⟨5, _⟩ => ⟨S1x16x64x64, .f32⟩
  | .hbm, ⟨6, _⟩ => ⟨S1x1024, .f32⟩
  | .hbm, ⟨7, _⟩ => ⟨S1x16x64x64, .f32⟩
  | .hbm, ⟨8, _⟩ => ⟨S1x1024, .f32⟩
  | .hbm, ⟨9, _⟩ => ⟨S1x1024, .f32⟩
  | .hbm, ⟨10, _⟩ => ⟨S16x64x64, .f32⟩
  | .hbm, ⟨11, _⟩ => ⟨S16x64x64, .f32⟩
  | .hbm, ⟨12, _⟩ => ⟨S8x2x64x64, .f32⟩
  | .hbm, ⟨13, _⟩ => ⟨S2x2, .i32⟩
  | .hbm, ⟨14, _⟩ => ⟨S2x2, .i32⟩
  | .hbm, ⟨15, _⟩ => ⟨S_, .i32⟩
  | .hbm, ⟨16, _⟩ => ⟨S2x2, .i32⟩
  | .hbm, ⟨17, _⟩ => ⟨S2x2, .i32⟩
  | .hbm, ⟨18, _⟩ => ⟨S2x2, .i1⟩
  | .hbm, ⟨19, _⟩ => ⟨S2x2, .f32⟩
  | .hbm, ⟨20, _⟩ => ⟨S8x2x64x1x64, .f32⟩
  | .hbm, ⟨21, _⟩ => ⟨S1x2x1x2x1, .f32⟩
  | .hbm, ⟨22, _⟩ => ⟨S8x2x64x2x64, .f32⟩
  | .hbm, ⟨23, _⟩ => ⟨S8x2x64x2x64, .f32⟩
  | .hbm, ⟨24, _⟩ => ⟨S8x2x64x2x64, .f32⟩
  | .hbm, ⟨25, _⟩ => ⟨S8x128x128, .f32⟩
  | .hbm, ⟨26, _⟩ => ⟨S8x2x64x64, .f32⟩
  | .hbm, ⟨27, _⟩ => ⟨S2x2, .i32⟩
  | .hbm, ⟨28, _⟩ => ⟨S2x2, .i32⟩
  | .hbm, ⟨29, _⟩ => ⟨S_, .i32⟩
  | .hbm, ⟨30, _⟩ => ⟨S2x2, .i32⟩
  | .hbm, ⟨31, _⟩ => ⟨S2x2, .i32⟩
  | .hbm, ⟨32, _⟩ => ⟨S2x2, .i1⟩
  | .hbm, ⟨33, _⟩ => ⟨S2x2, .f32⟩
  | .hbm, ⟨34, _⟩ => ⟨S8x2x64x1x64, .f32⟩
  | .hbm, ⟨35, _⟩ => ⟨S1x2x1x2x1, .f32⟩
  | .hbm, ⟨36, _⟩ => ⟨S8x2x64x2x64, .f32⟩
  | .hbm, ⟨37, _⟩ => ⟨S8x2x64x2x64, .f32⟩
  | .hbm, ⟨38, _⟩ => ⟨S8x2x64x2x64, .f32⟩
  | .hbm, ⟨39, _⟩ => ⟨S8x128x128, .f32⟩
  | .hbm, ⟨40, _⟩ => ⟨S8x128x256, .f32⟩
  | .hbm, ⟨41, _⟩ => ⟨S8x128x256, .bf16⟩
  | .hbm, ⟨42, _⟩ => ⟨S32x3x1024, .f32⟩
  | .hbm, ⟨43, _⟩ => ⟨S_, .i32⟩
  | .hbm, ⟨44, _⟩ => ⟨S_, .f32⟩
  | .hbm, ⟨45, _⟩ => ⟨S32x8x1024, .f32⟩
  | .hbm, ⟨46, _⟩ => ⟨S32x1024, .f32⟩
  | .hbm, ⟨47, _⟩ => ⟨S32x1x1024, .f32⟩
  | .hbm, ⟨48, _⟩ => ⟨S4x1024, .f32⟩
  | .hbm, ⟨49, _⟩ => ⟨S1024, .f32⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S1024, .f32⟩
  | .hbm, ⟨54, _⟩ => ⟨S1x1024, .f32⟩
  | .hbm, ⟨55, _⟩ => ⟨S1024, .f32⟩
  | .hbm, ⟨56, _⟩ => ⟨S1x1024, .f32⟩
  | .hbm, ⟨57, _⟩ => ⟨S256x1024, .f32⟩
  | .hbm, ⟨58, _⟩ => ⟨S32x8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S4x1024, .f32⟩
  | .local _ .vmem, ⟨9, _⟩ => ⟨S1x1024, .f32⟩
  | .local _ .vmem, ⟨10, _⟩ => ⟨S8x128x256, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S8x1024, .f32⟩
  | .local _ .vmem, ⟨15, _⟩ => ⟨S8x1024, .f32⟩
  | .local _ .vmem, ⟨16, _⟩ => ⟨S1x8x1024, .f32⟩
  | .local _ .vmem, ⟨17, _⟩ => ⟨S1x8x1024, .f32⟩
  | .local _ .vmem, ⟨18, _⟩ => ⟨S1x16x1024, .f32⟩
  | .local _ .vmem, ⟨19, _⟩ => ⟨S1x1x1024, .f32⟩
  | _, _ => ⟨S256x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_1 : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let c0_i32 : BitVec 32 := 0#32
  ![v1.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference6Ideal.lean ====
abbrev S256x7168 : Shape := ⟨2, ![256, 7168]⟩
abbrev S1x32x3x1024 : Shape := ⟨4, ![1, 32, 3, 1024]⟩
abbrev S1x32x1024 : Shape := ⟨3, ![1, 32, 1024]⟩
abbrev S1x4x1024 : Shape := ⟨3, ![1, 4, 1024]⟩
abbrev S1x1024 : Shape := ⟨2, ![1, 1024]⟩
abbrev S1x16x64x64 : Shape := ⟨4, ![1, 16, 64, 64]⟩
abbrev S32x8x7168 : Shape := ⟨3, ![32, 8, 7168]⟩
abbrev S32x8x1024 : Shape := ⟨3, ![32, 8, 1024]⟩
abbrev S32x3x1024 : Shape := ⟨3, ![32, 3, 1024]⟩
abbrev S32x11x1024 : Shape := ⟨3, ![32, 11, 1024]⟩
abbrev S1024 : Shape := ⟨1, ![1024]⟩
abbrev S4x1024 : Shape := ⟨2, ![4, 1024]⟩
abbrev S1x1x1024 : Shape := ⟨3, ![1, 1, 1024]⟩
abbrev S_ : Shape := ⟨0, ![]⟩
abbrev S32x8x16x64 : Shape := ⟨4, ![32, 8, 16, 64]⟩
abbrev S16x64x64 : Shape := ⟨3, ![16, 64, 64]⟩
abbrev S16x64x32x8 : Shape := ⟨4, ![16, 64, 32, 8]⟩
abbrev S8 : Shape := ⟨1, ![8]⟩
abbrev S1x8x1 : Shape := ⟨3, ![1, 8, 1]⟩
abbrev S32x1024 : Shape := ⟨2, ![32, 1024]⟩
abbrev S8x32x1024 : Shape := ⟨3, ![8, 32, 1024]⟩
abbrev S256x1024 : Shape := ⟨2, ![256, 1024]⟩

abbrev nBuf : Space → Nat
  | .hbm => 185
  | .vmem => 0
  | .smem => 0
  | _ => 0

abbrev hbmTy0_0 (i : Nat) : BufTy := match i % 128 with
  | 0 => ⟨S256x7168, .f32⟩
  | 1 => ⟨S1x32x3x1024, .f32⟩
  | 2 => ⟨S1x32x1024, .f32⟩
  | 3 => ⟨S1x4x1024, .f32⟩
  | 4 => ⟨S1x1024, .f32⟩
  | 5 => ⟨S1x16x64x64, .f32⟩
  | 6 => ⟨S1x1024, .f32⟩
  | 7 => ⟨S1x16x64x64, .f32⟩
  | 8 => ⟨S1x1024, .f32⟩
  | 9 => ⟨S1x1024, .f32⟩
  | 10 => ⟨S32x8x7168, .f32⟩
  | 11 => ⟨S32x8x1024, .f32⟩
  | 12 => ⟨S32x3x1024, .f32⟩
  | 13 => ⟨S32x11x1024, .f32⟩
  | 14 => ⟨S1024, .f32⟩
  | 15 => ⟨S32x8x1024, .f32⟩
  | 16 => ⟨S4x1024, .f32⟩
  | 17 => ⟨S1x1024, .f32⟩
  | 18 => ⟨S1024, .f32⟩
  | 19 => ⟨S1x1x1024, .f32⟩
  | 20 => ⟨S32x8x1024, .f32⟩
  | 21 => ⟨S32x8x1024, .f32⟩
  | 22 => ⟨S_, .f32⟩
  | 23 => ⟨S32x8x1024, .f32⟩
  | 24 => ⟨S32x8x1024, .f32⟩
  | 25 => ⟨S32x8x1024, .f32⟩
  | 26 => ⟨S4x1024, .f32⟩
  | 27 => ⟨S1x1024, .f32⟩
  | 28 => ⟨S1024, .f32⟩
  | 29 => ⟨S1x1x1024, .f32⟩
  | 30 => ⟨S32x8x1024, .f32⟩
  | 31 => ⟨S32x8x1024, .f32⟩
  | 32 => ⟨S32x8x1024, .f32⟩
  | 33 => ⟨S32x8x1024, .f32⟩
  | 34 => ⟨S4x1024, .f32⟩
  | 35 => ⟨S1x1024, .f32⟩
  | 36 => ⟨S1024, .f32⟩
  | 37 => ⟨S1x1x1024, .f32⟩
  | 38 => ⟨S32x8x1024, .f32⟩
  | 39 => ⟨S32x8x1024, .f32⟩
  | 40 => ⟨S32x8x1024, .f32⟩
  | 41 => ⟨S32x8x1024, .f32⟩
  | 42 => ⟨S4x1024, .f32⟩
  | 43 => ⟨S1x1024, .f32⟩
  | 44 => ⟨S1024, .f32⟩
  | 45 => ⟨S1x1x1024, .f32⟩
  | 46 => ⟨S32x8x1024, .f32⟩
  | 47 => ⟨S32x8x1024, .f32⟩
  | 48 => ⟨S32x8x1024, .f32⟩
  | 49 => ⟨S1x1x1024, .f32⟩
  | 50 => ⟨S32x8x1024, .f32⟩
  | 51 => ⟨S32x8x1024, .f32⟩
  | 52 => ⟨S32x8x16x64, .f32⟩
  | 53 => ⟨S16x64x64, .f32⟩
  | 54 => ⟨S16x64x32x8, .f32⟩
  | 55 => ⟨S32x8x16x64, .f32⟩
  | 56 => ⟨S32x8x1024, .f32⟩
  | 57 => ⟨S1024, .f32⟩
  | 58 => ⟨S1x1x1024, .f32⟩
  | 59 => ⟨S32x8x1024, .f32⟩
  | 60 => ⟨S32x8x1024, .f32⟩
  | 61 => ⟨S32x8x1024, .f32⟩
  | 62 => ⟨S32x8x1024, .f32⟩
  | 63 => ⟨S_, .f32⟩
  | 64 => ⟨S32x8x1024, .f32⟩
  | 65 => ⟨S32x8x1024, .f32⟩
  | 66 => ⟨S_, .f32⟩
  | 67 => ⟨S32x8x1024, .f32⟩
  | 68 => ⟨S32x8x1024, .f32⟩
  | 69 => ⟨S16x64x64, .f32⟩
  | 70 => ⟨S16x64x32x8, .f32⟩
  | 71 => ⟨S32x8x16x64, .f32⟩
  | 72 => ⟨S32x8x1024, .f32⟩
  | 73 => ⟨S1024, .f32⟩
  | 74 => ⟨S1x1x1024, .f32⟩
  | 75 => ⟨S32x8x1024, .f32⟩
  | 76 => ⟨S32x8x1024, .f32⟩
  | 77 => ⟨S32x8x1024, .f32⟩
  | 78 => ⟨S32x8x1024, .f32⟩
  | 79 => ⟨S_, .f32⟩
  | 80 => ⟨S32x8x1024, .f32⟩
  | 81 => ⟨S32x8x1024, .f32⟩
  | 82 => ⟨S_, .f32⟩
  | 83 => ⟨S32x8x1024, .f32⟩
  | 84 => ⟨S32x8x1024, .f32⟩
  | 85 => ⟨S_, .f32⟩
  | 86 => ⟨S32x8x1024, .f32⟩
  | 87 => ⟨S32x8x1024, .f32⟩
  | 88 => ⟨S1024, .f32⟩
  | 89 => ⟨S1024, .f32⟩
  | 90 => ⟨S_, .f32⟩
  | 91 => ⟨S1024, .f32⟩
  | 92 => ⟨S1024, .f32⟩
  | 93 => ⟨S1024, .f32⟩
  | 94 => ⟨S1024, .f32⟩
  | 95 => ⟨S1024, .i1⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1x1x1024, .f32⟩
  | 105 => ⟨S32x8x1024, .f32⟩
  | 106 => ⟨S32x8x1024, .f32⟩
  | 107 => ⟨S8, .i32⟩
  | 108 => ⟨S_, .i32⟩
  | 109 => ⟨S8, .i32⟩
  | 110 => ⟨S8, .i32⟩
  | 111 => ⟨S_, .i32⟩
  | 112 => ⟨S8, .i32⟩
  | 113 => ⟨S8, .i1⟩
  | 114 => ⟨S1x8x1, .i1⟩
  | 115 => ⟨S32x8x1024, .f32⟩
  | 116 => ⟨S_, .f32⟩
  | 117 => ⟨S_, .f32⟩
  | 118 => ⟨S32x8x1024, .i1⟩
  | 119 => ⟨S32x8x1024, .f32⟩
  | 120 => ⟨S32x8x1024, .f32⟩
  | 121 => ⟨S_, .f32⟩
  | 122 => ⟨S32x8x1024, .f32⟩
  | 123 => ⟨S32x8x1024, .f32⟩
  | 124 => ⟨S32x8x1024, .f32⟩
  | 125 => ⟨S32x8x1024, .f32⟩
  | 126 => ⟨S32x8x1024, .f32⟩
  | 127 => ⟨S_, .f32⟩
  | _ => ⟨S256x7168, .f32⟩

abbrev hbmTy0_1 (i : Nat) : BufTy := match i % 128 with
  | 0 => ⟨S_, .f32⟩
  | 1 => ⟨S32x8x1024, .i1⟩
  | 2 => ⟨S32x8x1024, .f32⟩
  | 3 => ⟨S32x8x1024, .f32⟩
  | 4 => ⟨S32x8x1024, .f32⟩
  | 5 => ⟨S32x8x1024, .f32⟩
  | 6 => ⟨S32x1024, .f32⟩
  | 7 => ⟨S8x32x1024, .f32⟩
  | 8 => ⟨S8x32x1024, .f32⟩
  | 9 => ⟨S_, .f32⟩
  | 10 => ⟨S8x32x1024, .f32⟩
  | 11 => ⟨S_, .i32⟩
  | 12 => ⟨S8x32x1024, .f32⟩
  | 13 => ⟨S8x32x1024, .f32⟩
  | 14 => ⟨S_, .i32⟩
  | 15 => ⟨S32x1024, .f32⟩
  | 16 => ⟨S8x32x1024, .f32⟩
  | 17 => ⟨S_, .i32⟩
  | 18 => ⟨S_, .i1⟩
  | 19 => ⟨S_, .i32⟩
  | 20 => ⟨S_, .i32⟩
  | 21 => ⟨S1x32x1024, .f32⟩
  | 22 => ⟨S32x1024, .f32⟩
  | 23 => ⟨S_, .i32⟩
  | 24 => ⟨S_, .i32⟩
  | 25 => ⟨S1x32x1024, .f32⟩
  | 26 => ⟨S32x1024, .f32⟩
  | 27 => ⟨S32x1024, .f32⟩
  | 28 => ⟨S32x1024, .f32⟩
  | 29 => ⟨S1x32x1024, .f32⟩
  | 30 => ⟨S_, .i32⟩
  | 31 => ⟨S_, .i32⟩
  | 32 => ⟨S8x32x1024, .f32⟩
  | 33 => ⟨S_, .i32⟩
  | 34 => ⟨S_, .i32⟩
  | 35 => ⟨S32x8x1024, .f32⟩
  | 36 => ⟨S32x8x7168, .f32⟩
  | 37 => ⟨S32x8x1024, .f32⟩
  | 38 => ⟨S32x8x1024, .f32⟩
  | 39 => ⟨S32x8x1024, .f32⟩
  | 40 => ⟨S_, .f32⟩
  | 41 => ⟨S32x8x1024, .f32⟩
  | 42 => ⟨S32x8x1024, .f32⟩
  | 43 => ⟨S32x8x1024, .f32⟩
  | 44 => ⟨S_, .f32⟩
  | 45 => ⟨S32x8x1024, .f32⟩
  | 46 => ⟨S32x8x1024, .f32⟩
  | 47 => ⟨S32x8x1024, .f32⟩
  | 48 => ⟨S_, .f32⟩
  | 49 => ⟨S32x8x1024, .f32⟩
  | 50 => ⟨S32x8x1024, .f32⟩
  | 51 => ⟨S_, .f32⟩
  | 52 => ⟨S32x8x1024, .f32⟩
  | 53 => ⟨S32x8x1024, .f32⟩
  | 54 => ⟨S32x8x1024, .f32⟩
  | 55 => ⟨S32x8x1024, .f32⟩
  | 56 => ⟨S256x1024, .f32⟩
  | _ => ⟨S256x7168, .f32⟩

abbrev hbmTy (i : Nat) : BufTy := match i / 128 with
  | 0 => hbmTy0_0 i
  | 1 => hbmTy0_1 i
  | _ => ⟨S256x7168, .f32⟩

abbrev bufTy : (tb : Table) → Fin (tcTables nBuf tb) → BufTy
  | .hbm, ⟨i, _⟩ => hbmTy i
  | _, _ => ⟨S256x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_0 : Ref sig .tc := ⟨.hbm, 63, rfl⟩
abbrev main_v52 : Ref sig .tc := ⟨.hbm, 64, rfl⟩
abbrev main_v53 : Ref sig .tc := ⟨.hbm, 65, rfl⟩
abbrev main_cst_1 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_2 : Ref sig .tc := ⟨.hbm, 79, rfl⟩
abbrev main_v66 : Ref sig .tc := ⟨.hbm, 80, rfl⟩
abbrev main_v67 : Ref sig .tc := ⟨.hbm, 81, rfl⟩
abbrev main_cst_3 : Ref sig .tc := ⟨.hbm, 82, rfl⟩
abbrev main_v68 : Ref sig .tc := ⟨.hbm, 83, rfl⟩
abbrev main_v69 : Ref sig .tc := ⟨.hbm, 84, rfl⟩
abbrev main_cst_4 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_call0_cst : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_v5 : Ref sig .tc := ⟨.hbm, 96, rfl⟩
abbrev main_call0_v6 : Ref sig .tc := ⟨.hbm, 97, rfl⟩
abbrev main_call0_v7 : Ref sig .tc := ⟨.hbm, 98, rfl⟩
abbrev main_call0_v8 : Ref sig .tc := ⟨.hbm, 99, rfl⟩
abbrev main_call0_v9 : Ref sig .tc := ⟨.hbm, 100, rfl⟩
abbrev main_call0_v10 : Ref sig .tc := ⟨.hbm, 101, rfl⟩
abbrev main_call0_v11 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c : Ref sig .tc := ⟨.hbm, 108, rfl⟩
abbrev main_v79 : Ref sig .tc := ⟨.hbm, 109, rfl⟩
abbrev main_v80 : Ref sig .tc := ⟨.hbm, 110, rfl⟩
abbrev main_c_5 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_6 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v85 : Ref sig .tc := ⟨.hbm, 120, rfl⟩
abbrev main_cst_7 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_8 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_9 : Ref sig .tc := ⟨.hbm, 137, rfl⟩
abbrev main_v97 : Ref sig .tc := ⟨.hbm, 138, rfl⟩
abbrev main_c_10 : Ref sig .tc := ⟨.hbm, 139, rfl⟩
abbrev main_v98_0 : Ref sig .tc := ⟨.hbm, 140, rfl⟩
abbrev main_v98_1 : Ref sig .tc := ⟨.hbm, 141, rfl⟩
abbrev main_v98_2 : Ref sig .tc := ⟨.hbm, 142, rfl⟩
abbrev main_v98_3 : Ref sig .tc := ⟨.hbm, 143, rfl⟩
abbrev main_v98_4 : Ref sig .tc := ⟨.hbm, 144, rfl⟩
abbrev main_while0c_c_19 : Ref sig .tc := ⟨.hbm, 145, rfl⟩
abbrev main_while0c_v117 : Ref sig .tc := ⟨.hbm, 146, rfl⟩
abbrev main_while0b_call3_c : Ref sig .tc := ⟨.hbm, 147, rfl⟩
abbrev main_while0b_call3_c_0 : Ref sig .tc := ⟨.hbm, 148, rfl⟩
abbrev main_while0b_call3_v0 : Ref sig .tc := ⟨.hbm, 149, rfl⟩
abbrev main_while0b_v117 : Ref sig .tc := ⟨.hbm, 150, rfl⟩
abbrev main_while0b_call4_c : Ref sig .tc := ⟨.hbm, 151, rfl⟩
abbrev main_while0b_call4_c_0 : Ref sig .tc := ⟨.hbm, 152, rfl⟩
abbrev main_while0b_call4_v0 : Ref sig .tc := ⟨.hbm, 153, rfl⟩
abbrev main_while0b_v118 : Ref sig .tc := ⟨.hbm, 154, rfl⟩
abbrev main_while0b_v119 : Ref sig .tc := ⟨.hbm, 155, rfl⟩
abbrev main_while0b_v120 : Ref sig .tc := ⟨.hbm, 156, rfl⟩
abbrev main_while0b_call5_v0 : Ref sig .tc := ⟨.hbm, 157, rfl⟩
abbrev main_while0b_call5_c : Ref sig .tc := ⟨.hbm, 158, rfl⟩
abbrev main_while0b_call5_c_0 : Ref sig .tc := ⟨.hbm, 159, rfl⟩
abbrev main_while0b_v121 : Ref sig .tc := ⟨.hbm, 160, rfl⟩
abbrev main_while0b_c_19 : Ref sig .tc := ⟨.hbm, 161, rfl⟩
abbrev main_while0b_v122 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_cst_11 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_cst_12 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_cst_13 : Ref sig .tc := ⟨.hbm, 176, rfl⟩
abbrev main_v110 : Ref sig .tc := ⟨.hbm, 177, rfl⟩
abbrev main_v111 : Ref sig .tc := ⟨.hbm, 178, rfl⟩
abbrev main_cst_14 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩

abbrev nD : Nat := 1
abbrev τ : Topo := Topo.v7x

variable {F : FTy → Type} [FloatOps F]

abbrev main_while0_count : Scf.Loop 32 := ⟨0#32, 8#32, 1#32⟩
-- ==== Proof.RefLoop.lean ====
/-
  The reference's loop over the 4096 time steps: what its carried buffers hold before each trip is a state, one trip takes
  it to the next, and the results are read from the last one.
-/
module

public import proofs.«01_k».proof.Proof.Gen.ReferenceIdeal.Run
public import proofs.«01_k».proof.Proof.Gen.ReferenceIdeal.Step

@[expose] public section

noncomputable section

namespace Cert.Rglru

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init R_main_v114 R_main_v115)

variable {F : FTy → Type} [FloatOps F]

/-- The carried buffers of a valuation as a state. -/
def stateOf (V : Valuation τ sig (Elt F)) : State F where
  main_v96_3 := V (Proc.devRef .tc main_v96_3)
  main_v96_4 := V (Proc.devRef .tc main_v96_4)
  main_v96_0 := V (Proc.devRef .tc main_v96_0)
  main_v96_1 := V (Proc.devRef .tc main_v96_1)

/-- The loop's counter. -/
abbrev counterIs (V : Valuation τ sig (Elt F)) (j : ℕ) : Prop :=
  V (Proc.devRef .tc main_v96_2) = constantI S_ 32 (BitVec.ofNat 32 j)

/-- One trip steps the counter. -/
theorem counter_step {V : Valuation τ sig (Elt F)} {j : ℕ} (h : counterIs V j) : counterIs (STEP V) (j + 1) := by
  refine (STEP_main_v96_2 V).trans ?_
  unfold step_main_v96_2
  rw [h]
  funext i
  show BitVec.ofNat 32 j + 1#32 = BitVec.ofNat 32 (j + 1)
  simp only [BitVec.ofNat_add]

set_option maxRecDepth 8192 in
/-- One trip steps the state. -/
theorem state_step {V : Valuation τ sig (Elt F)} {j : ℕ} (h : counterIs V j) :
    stateOf (STEP V) = step j (stateOf V) := by
  have e3 : step_main_v96_3 V = (step j (stateOf V)).main_v96_3 := by
    unfold step_main_v96_3 res_main_while0b_v119
    rw [h]
    rfl
  have e4 : step_main_v96_4 V = (step j (stateOf V)).main_v96_4 := by
    unfold step_main_v96_4 res_main_while0b_v119
    rw [h]
    rfl
  unfold stateOf
  rw [STEP_main_v96_3, STEP_main_v96_4, STEP_main_v96_0, STEP_main_v96_1, e3, e4]
  rfl

variable (m : (ℓ : Loc nD τ sig) → Buf (Elt F) ℓ) (c : Dev nD)

/-- The state before the first trip, of the arguments. -/
abbrev firstState : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

set_option maxRecDepth 65536 in
set_option maxHeartbeats 600000 in
/-- What the operations before the loop leave in the carried buffers, one by one. -/
theorem entry_reads :
    (entryContents preI m c (Proc.devRef .tc main_v96_3) = (firstState m c).main_v96_3
      ∧ entryContents preI m c (Proc.devRef .tc main_v96_4) = (firstState m c).main_v96_4)
    ∧ (entryContents preI m c (Proc.devRef .tc main_v96_0) = (firstState m c).main_v96_0
      ∧ entryContents preI m c (Proc.devRef .tc main_v96_1) = (firstState m c).main_v96_1)
    ∧ counterIs (entryContents preI m c) 0 := by
  unfold counterIs
  refine ⟨⟨?_, ?_⟩, ⟨?_, ?_⟩, ?_⟩ <;> (simp only [entryContents, afterL_cons, afterL_nil]; after_reads_simp) <;> rfl

/-- The operations before the loop leave the first state and a counter of 0. -/
theorem entry : stateOf (entryContents preI m c) = firstState m c ∧ counterIs (entryContents preI m c) 0 := by
  obtain ⟨⟨h3, h4⟩, ⟨h0, h1⟩, hc⟩ := entry_reads m c
  refine ⟨?_, hc⟩
  unfold stateOf
  rw [h3, h4, h0, h1]

/-- The first result, of the carried buffers after the loop. -/
theorem result_r {V : Valuation τ sig (Elt F)} {x : (⟨S16384x7168, .f32⟩ : BufTy).Contents (Elt F)}
    (h : V (Proc.devRef .tc main_arg0) = x) : out_main_v114 V = R_main_v114 (stateOf V) x := by
  unfold out_main_v114 R_main_v114
  rw [h]
  rfl

/-- The second result. -/
theorem result_h {V : Valuation τ sig (Elt F)} : out_main_v115 V = R_main_v115 (stateOf V) := by
  unfold out_main_v115 R_main_v115
  rfl

/-- The states in order. -/
def states : ℕ → State F
  | 0 => firstState m c
  | n + 1 => step n (states n)

theorem state_iter : ∀ k, stateOf (STEP^[k] (entryContents preI m c)) = states m c k ∧ counterIs (STEP^[k] (entryContents preI m c)) k
  | 0 => entry m c
  | k + 1 => by
    rw [Function.iterate_succ_apply']
    exact ⟨(state_step (state_iter k).2).trans (congrArg (step k) (state_iter k).1), counter_step (state_iter k).2⟩

/-- The reference ends with its results read from state number 4096, its arguments unchanged. -/
theorem run_states (ρ : Dev nD → PrngReg) :
    θ_run (defs (F := F)) (onTc (τ := τ) (main (F := F))) ⟨m, fun _ => 0, ρ⟩ fun r => ∀ c : Dev nD,
      (r.2.mem ((c.tc : Thread nD τ).loc main_v114) = R_main_v114 (states m c 4096) (m ((c.tc : Thread nD τ).loc main_arg0))
      ∧ r.2.mem ((c.tc : Thread nD τ).loc main_v115) = R_main_v115 (states m c 4096))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    have hk := (state_iter m c 4096).1
    ⟨⟨(h c).1.trans ((result_r (iter_main_arg0 m c 4096)).trans (congrArg (R_main_v114 · _) hk)),
      (h c).2.1.trans (result_h.trans (congrArg R_main_v115 hk))⟩, (h c).2.2⟩) (Value.run m ρ)

end Cert.Rglru
-- ==== Proof.Scalars.lean ====
/-
  The scalar mathematics of the gated linear recurrence over the extended reals: the sign and finiteness of the decay,
  the two ways of writing `1 - a²`, and the eight-row scan in three doubling rounds.
-/
module

public import Idealize.ShloMosaic.Lib.Pointwise
public import Idealize.ShloMosaic.Lib.IdealHost

@[expose] public section

noncomputable section

namespace Cert.Rglru

open Idealize.ShloMosaic

/-! ## The decay -/

/-- The f32 pattern of `-8` is not positive. -/
theorem neg_eight_nonpos : Ideal.ofBits .f32 0xC1000000#32 ≤ 0 := by
  have h : Ideal.ofBits .f32 0xC1000000#32 = ((-8 : ℝ) : EReal) := by
    simp [Ideal.ofBits, Ideal.ieee, -EReal.coe_mul]
    norm_num
  rw [h]
  exact_mod_cast (by norm_num : (-8 : ℝ) ≤ 0)

/-- The f32 pattern of `2`. -/
theorem two_eq : Ideal.ofBits .f32 0x40000000#32 = ((2 : ℝ) : EReal) := by
  simp [Ideal.ofBits, Ideal.ieee, -EReal.coe_mul]
  norm_num

/-- An exponential is not negative. -/
theorem exp_nonneg (x : EReal) : 0 ≤ Ideal.exp x := by
  induction x using EReal.rec with
  | bot => simp
  | coe r => rw [Ideal.exp_coe]; exact_mod_cast (Real.exp_pos r).le
  | top => simp

/-- An exponential is infinite only at `⊤`. -/
theorem exp_ne_top {x : EReal} (h : x ≠ ⊤) : Ideal.exp x ≠ ⊤ := by
  induction x using EReal.rec with
  | bot => simp
  | coe r => rw [Ideal.exp_coe]; exact EReal.coe_ne_top _
  | top => exact absurd rfl h

/-- The logistic function is not negative. -/
theorem logistic_nonneg (x : EReal) : 0 ≤ Ideal.logistic x := by
  induction x using EReal.rec with
  | bot => simp
  | coe r => rw [Ideal.logistic_coe]; exact_mod_cast (by positivity : (0 : ℝ) ≤ (1 + Real.exp (-r))⁻¹)
  | top => simp

/-- `log (1 + x)` is not negative for `x` not negative. -/
theorem log1p_nonneg {x : EReal} (h : 0 ≤ x) : 0 ≤ Ideal.log1p x := by
  unfold Ideal.log1p
  induction x using EReal.rec with
  | bot => simp at h
  | coe r =>
    have hr : (0 : ℝ) ≤ r := by exact_mod_cast h
    have e : (1 : EReal) + (r : EReal) = ((1 + r : ℝ) : EReal) := by rw [EReal.coe_add, EReal.coe_one]
    rw [e, Ideal.log_coe, if_neg (by linarith)]
    exact_mod_cast Real.log_nonneg (by linarith)
  | top =>
    rw [EReal.add_top_of_ne_bot (show (1 : EReal) ≠ ⊥ from EReal.coe_ne_bot 1)]
    simp

/-- The softplus of `-ap`, in its stable form. -/
def softplusNeg (ap : EReal) : EReal := max (-ap) 0 + Ideal.log1p (Ideal.exp (-(max (-ap) (- -ap))))

theorem softplusNeg_nonneg (ap : EReal) : 0 ≤ softplusNeg ap :=
  add_nonneg (le_max_right _ _) (log1p_nonneg (exp_nonneg _))

/-- The logarithm of the decay: `-8 · ga · softplus (-ap)`. -/
def logDecay (ga ap : EReal) : EReal := Ideal.ofBits .f32 0xC1000000#32 * ga * softplusNeg ap

theorem logDecay_nonpos {ga : EReal} (h : 0 ≤ ga) (ap : EReal) : logDecay ga ap ≤ 0 := by
  have h1 : 0 ≤ (-(Ideal.ofBits .f32 0xC1000000#32 * ga)) * softplusNeg ap := by
    refine mul_nonneg ?_ (softplusNeg_nonneg ap)
    rw [← EReal.neg_mul]
    exact mul_nonneg (EReal.neg_nonneg.2 neg_eight_nonpos) h
  rw [EReal.neg_mul] at h1
  exact EReal.neg_nonneg.1 h1

theorem logDecay_ne_top {ga : EReal} (h : 0 ≤ ga) (ap : EReal) : logDecay ga ap ≠ ⊤ := fun e => by
  have := logDecay_nonpos h ap
  rw [e] at this
  exact absurd this (by simp)

/-- `-tanh x · (eˣ·eˣ + 1) = -(e²ˣ - 1)`, at the infinities too. -/
theorem tanh_expm1 (x : EReal) :
    (0 - Ideal.tanh x) * (Ideal.exp x * Ideal.exp x + 1) = -(Ideal.exp (Ideal.ofBits .f32 0x40000000#32 * x) - 1) := by
  rw [two_eq]
  induction x using EReal.rec with
  | bot =>
    rw [EReal.coe_mul_bot_of_pos (by norm_num)]
    simp
  | coe r =>
    rw [← EReal.coe_mul, Ideal.exp_coe, Ideal.exp_coe, Ideal.tanh_coe]
    norm_cast
    rw [zero_sub, two_mul, Real.exp_add, Real.tanh_eq_sinh_div_cosh, Real.sinh_eq, Real.cosh_eq, Real.exp_neg]
    have hp := Real.exp_pos r
    field_simp
  | top =>
    rw [EReal.coe_mul_top_of_pos (by norm_num)]
    simp only [Ideal.tanh_top, Ideal.exp_top, EReal.top_mul_top]
    rw [EReal.top_add_of_ne_bot (show (1 : EReal) ≠ ⊥ from EReal.coe_ne_bot 1), zero_sub, EReal.neg_mul, one_mul]
    rfl

/-! ## Affine maps in order -/

/-- The maps `c ↦ a i · c + b i` for `i = lo, …, lo + n - 1`, in that order. -/
def run (a b : ℕ → EReal) (lo : ℕ) : ℕ → EReal → EReal
  | 0, c => c
  | n + 1, c => a (lo + n) * run a b lo n c + b (lo + n)

theorem run_add (a b : ℕ → EReal) (lo m n : ℕ) (c : EReal) :
    run a b lo (m + n) c = run a b (lo + m) n (run a b lo m c) := by
  induction n with
  | zero => rfl
  | succ n ih =>
    show a (lo + (m + n)) * run a b lo (m + n) c + b (lo + (m + n)) = a (lo + m + n) * _ + b (lo + m + n)
    rw [ih, Nat.add_assoc]

/-- Maps that agree on the rows in question run alike. -/
theorem run_congr {a b a' b' : ℕ → EReal} {lo lo' n : ℕ} (c : EReal)
    (h : ∀ i < n, a (lo + i) = a' (lo' + i) ∧ b (lo + i) = b' (lo' + i)) : run a b lo n c = run a' b' lo' n c := by
  induction n with
  | zero => rfl
  | succ n ih =>
    show a (lo + n) * run a b lo n c + b (lo + n) = a' (lo' + n) * run a' b' lo' n c + b' (lo' + n)
    rw [ih fun i hi => h i (by omega), (h n (by omega)).1, (h n (by omega)).2]

/-- A factor that distributes over sums. -/
def Good (x : EReal) : Prop := 0 ≤ x ∧ x ≠ ⊤

theorem Good.mul {x y : EReal} (hx : Good x) (hy : Good y) : Good (x * y) := by
  refine ⟨mul_nonneg hx.1 hy.1, ?_⟩
  lift x to ℝ using ⟨hx.2, fun e => by have := hx.1; rw [e] at this; simp at this⟩
  lift y to ℝ using ⟨hy.2, fun e => by have := hy.1; rw [e] at this; simp at this⟩
  rw [← EReal.coe_mul]
  exact EReal.coe_ne_top _

theorem good_one : Good 1 := ⟨zero_le_one, EReal.coe_ne_top 1⟩
theorem good_zero : Good 0 := ⟨le_rfl, EReal.coe_ne_top 0⟩
theorem good_exp {x : EReal} (h : x ≠ ⊤) : Good (Ideal.exp x) := ⟨exp_nonneg x, exp_ne_top h⟩

/-- Two affine maps composed are one. -/
theorem comb {a : EReal} (ha : Good a) (a' b b' c : EReal) : a * a' * c + (a * b' + b) = a * (a' * c + b') + b := by
  rw [EReal.left_distrib_of_nonneg_of_ne_top ha.1 ha.2, mul_assoc, add_assoc]

/-- One doubling round of the scan: each row from the `d`-th on takes in the row `d` above it. -/
def roundA (d : ℕ) (a : ℕ → EReal) (r : ℕ) : EReal := a r * (if d ≤ r then a (r - d) else 1)
/-- The additive part of that round. -/
def roundB (d : ℕ) (a b : ℕ → EReal) (r : ℕ) : EReal := a r * (if d ≤ r then b (r - d) else 0) + b r

/-- Row `r` of `(A, B)` is the composition of the last `k` of the maps `0, …, r`, all of them if there are fewer. -/
def Covers (a b : ℕ → EReal) (k : ℕ) (A B : ℕ → EReal) : Prop :=
  ∀ r, Good (A r) ∧ ∀ c, A r * c + B r = run a b (r + 1 - min k (r + 1)) (min k (r + 1)) c

theorem covers_one {a b : ℕ → EReal} (h : ∀ r, Good (a r)) : Covers a b 1 a b := fun r => by
  refine ⟨h r, fun c => ?_⟩
  rw [Nat.min_eq_left (by omega)]
  rfl

theorem Covers.round {a b A B : ℕ → EReal} {k : ℕ} (hk : 0 < k) (h : Covers a b k A B) :
    Covers a b (k + k) (roundA k A) (roundB k A B) := fun r => by
  by_cases hr : k ≤ r
  · refine ⟨?_, fun c => ?_⟩
    · unfold roundA; rw [if_pos hr]; exact (h r).1.mul (h (r - k)).1
    · unfold roundA roundB
      rw [if_pos hr, if_pos hr, comb (h r).1, (h (r - k)).2, (h r).2]
      have e1 : min (k + k) (r + 1) = min k (r - k + 1) + min k (r + 1) := by omega
      rw [e1, run_add]
      congr 1
      · omega
      · congr 1; omega
  · refine ⟨?_, fun c => ?_⟩
    · unfold roundA; rw [if_neg hr]; exact (h r).1.mul good_one
    · unfold roundA roundB
      rw [if_neg hr, if_neg hr, mul_one, mul_zero, zero_add, (h r).2]
      congr 1 <;> omega

/-- Three rounds over eight rows give, at row `r`, all the maps `0, …, r`. -/
theorem scan8 {a b : ℕ → EReal} (h : ∀ r, Good (a r)) {r : ℕ} (hr : r < 8) (c : EReal) :
    roundA 4 (roundA 2 (roundA 1 a)) r * c + roundB 4 (roundA 2 (roundA 1 a)) (roundB 2 (roundA 1 a) (roundB 1 a b)) r
      = run a b 0 (r + 1) c := by
  have := (((covers_one h (b := b)).round (by omega)).round (by omega)).round (by omega) r
  rw [show 1 + 1 + (1 + 1) + (1 + 1 + (1 + 1)) = 8 from rfl, Nat.min_eq_right (by omega), Nat.sub_self] at this
  exact this.2 c

end Cert.Rglru
-- ==== Proof.Spec.lean ====
/-
  The recurrence in mathematics: the causal convolution, the two gates, the decay and the gated input of a step, the state
  as the run of the steps, and the two results.
-/
module

public import proofs.«01_k».proof.Proof.Scalars

@[expose] public section

noncomputable section

namespace Cert.Rglru

open Idealize.ShloMosaic

/-- A call's inputs by row and channel. -/
structure Inputs where
  /-- The recurrence's input: sequence, step, channel. -/
  x : Fin 4 → Fin 4096 → Fin 1024 → EReal
  /-- The output's gate: sequence, step, channel. -/
  y : Fin 4 → Fin 4096 → Fin 1024 → EReal
  cw : Fin 4 → Fin 1024 → EReal
  cb : Fin 1024 → EReal
  /-- The gates' weights: block, input channel, output channel. -/
  wgx : Fin 16 → Fin 64 → Fin 64 → EReal
  bgx : Fin 1024 → EReal
  wga : Fin 16 → Fin 64 → Fin 64 → EReal
  bga : Fin 1024 → EReal
  ap : Fin 1024 → EReal

/-- The inputs of the arguments' arrays. -/
def inputs (P : Vec Ideal ⟨2, ![16384, 7168]⟩ .f32) (cw : Vec Ideal ⟨3, ![1, 4, 1024]⟩ .f32) (cb : Vec Ideal ⟨2, ![1, 1024]⟩ .f32)
    (wgx : Vec Ideal ⟨4, ![1, 16, 64, 64]⟩ .f32) (bgx : Vec Ideal ⟨2, ![1, 1024]⟩ .f32)
    (wga : Vec Ideal ⟨4, ![1, 16, 64, 64]⟩ .f32) (bga ap : Vec Ideal ⟨2, ![1, 1024]⟩ .f32) : Inputs where
  x b p w := P (ix2 ⟨b.val * 4096 + p.val, by omega⟩ ⟨3072 + w.val, by omega⟩)
  y b p w := P (ix2 ⟨b.val * 4096 + p.val, by omega⟩ ⟨4096 + w.val, by omega⟩)
  cw k w := cw (ix3 0 k w)
  cb w := cb (ix2 0 w)
  wgx n k j := wgx (ix4 0 n k j)
  bgx w := bgx (ix2 0 w)
  wga n k j := wga (ix4 0 n k j)
  bga w := bga (ix2 0 w)
  ap w := ap (ix2 0 w)

variable (I : Inputs) (b : Fin 4) (p : ℕ) (w : Fin 1024)

/-- The input at step `q - 3`: 0 before the first step. -/
def xPad (q : ℕ) : EReal := if h : 3 ≤ q ∧ q - 3 < 4096 then I.x b ⟨q - 3, h.2⟩ w else 0

/-- The convolution of the last four steps. -/
def conv : EReal :=
  I.cb w + xPad I b w (p + 3) * I.cw 3 w + xPad I b w (p + 2) * I.cw 2 w + xPad I b w (p + 1) * I.cw 1 w
    + xPad I b w p * I.cw 0 w

/-- A gate: the block's weights applied to the block's channels. -/
def gate (W : Fin 16 → Fin 64 → Fin 64 → EReal) (bias : Fin 1024 → EReal) : EReal :=
  Ideal.logistic ((∑ k : Fin 64, W ⟨w.val / 64, by omega⟩ k ⟨w.val % 64, by omega⟩
    * conv I b p ⟨w.val / 64 * 64 + k.val, by omega⟩) + bias w)

/-- The decay's logarithm. -/
def logA : EReal := logDecay (gate I b p w I.wga I.bga) (I.ap w)

/-- The decay: 0 at a sequence's first step. -/
def aStep : EReal := if p = 0 then 0 else Ideal.exp (logA I b p w)

/-- The gated input. -/
def bStep : EReal :=
  conv I b p w * gate I b p w I.wgx I.bgx
    * (if p = 0 then 1 else Ideal.sqrt (-(Ideal.exp (Ideal.ofBits .f32 0x40000000#32 * logA I b p w) - 1)))

/-- The state after `n` steps. -/
def state (n : ℕ) : EReal := run (aStep I b · w) (bStep I b · w) 0 n 0

/-- The output's gate. -/
def gelu (y : EReal) : EReal :=
  y * (Ideal.ofBits .f32 0x3F000000#32 * (1 + Ideal.tanh (Ideal.ofBits .f32 0x3F4C422A#32
    * (y + Ideal.ofBits .f32 0x3D372713#32 * (y * y * y)))))

/-- The first result: the gated states, sequence after sequence. -/
def resultR : Vec Ideal ⟨2, ![16384, 1024]⟩ .f32 := fun i =>
  have h : (i 0).val < 16384 := (i 0).isLt
  state I ⟨(i 0).val / 4096, by omega⟩ (i 1) ((i 0).val % 4096 + 1)
    * gelu (I.y ⟨(i 0).val / 4096, by omega⟩ ⟨(i 0).val % 4096, by omega⟩ (i 1))

/-- The second result: the last eight states of every sequence. -/
def resultH : Vec Ideal ⟨3, ![4, 8, 1024]⟩ .f32 := fun i => state I (i 0) (i 2) (4088 + (i 1).val + 1)

end Cert.Rglru
-- ==== Proof.RefSteps.lean ====
/-
  The reference's arrays before its loop, read at an index.
-/
module

public import proofs.«01_k».proof.Proof.Spec
public import proofs.«01_k».proof.Proof.Gen.ReferenceIdeal.Step
public import Idealize.ShloMosaic.Lib.DynamicIndex
public import Idealize.ShloMosaic.Lib.WordCmp

@[expose] public section

set_option maxRecDepth 16384

noncomputable section

namespace Cert.Rglru

open Idealize.ShloMosaic Cert.ReferenceIdeal Cert.ReferenceIdeal.Gen Cert.ReferenceIdeal.Step

section
variable (P : Vec Ideal S16384x7168 .f32) (cw : Vec Ideal S1x4x1024 .f32) (cb : Vec Ideal S1x1024 .f32)
  (wgx : Vec Ideal S1x16x64x64 .f32) (bgx : Vec Ideal S1x1024 .f32) (wga : Vec Ideal S1x16x64x64 .f32)
  (bga ap : Vec Ideal S1x1024 .f32) (b : Fin 4) (p : Fin 4096) (w : Fin 1024)

theorem ref_pad (q : Fin 4099) :
    A_main_v3 P cw cb wgx bgx wga bga ap (ix3 b q w) = xPad (inputs P cw cb wgx bgx wga bga ap) b w q.val := by
  unfold xPad inputs
  pointwise [A_main_v3, A_main_v1, A_main_v0, K_main_v2, K_main_cst]
  by_cases hq : q.val < 3
  · rw [dif_pos hq, dif_neg (by omega)]
  · rw [dif_neg hq, dif_pos ⟨by omega, by omega⟩]

/-- A sum of five terms in two orders. -/
theorem sum_order (k a b c d : EReal) : k + (a + b + c + d) = k + d + c + b + a := by
  simp only [add_comm, add_left_comm]

theorem ref_conv :
    A_main_v40 P cw cb wgx bgx wga bga ap (ix3 b p w) = conv (inputs P cw cb wgx bgx wga bga ap) b p.val w := by
  pointwise [A_main_v40, A_main_v39, A_main_v38, A_main_v4, A_main_v37, A_main_v36, A_main_v35, A_main_v34, A_main_v33,
    A_main_v32, A_main_v31, A_main_v30, A_main_v29, A_main_v28, A_main_v27, A_main_v26, A_main_v25, A_main_v24, A_main_v23,
    A_main_v22, A_main_v21, A_main_v20, A_main_v19, A_main_v18, A_main_v17, A_main_v16, A_main_v15, A_main_v14, A_main_v13,
    A_main_v11, A_main_v10, A_main_v9, A_main_v8, A_main_v7, A_main_v6, A_main_v5, K_main_v12,
    K_main_cst_0]
  simp only [ref_pad, zero_add, conv, inputs, Nat.add_comm 1 p.val, Nat.add_comm 2 p.val, Nat.add_comm 3 p.val]
  exact sum_order _ _ _ _ _

theorem ref_gx :
    A_main_v55 P cw cb wgx bgx wga bga ap (ix3 b p w)
      = gate (inputs P cw cb wgx bgx wga bga ap) b p.val w (inputs P cw cb wgx bgx wga bga ap).wgx
          (inputs P cw cb wgx bgx wga bga ap).bgx := by
  pointwise [A_main_v55, K_main_v54, A_main_v53, K_main_v52, A_main_v51, A_main_v50, A_main_v49, A_main_v48, A_main_v47,
    A_main_v46, A_main_v45, A_main_v44, A_main_v43, A_main_v42, A_main_v41, K_main_cst_1, K_main_cst_2]
  simp only [ref_conv]
  rfl

theorem ref_ga :
    A_main_v69 P cw cb wgx bgx wga bga ap (ix3 b p w)
      = gate (inputs P cw cb wgx bgx wga bga ap) b p.val w (inputs P cw cb wgx bgx wga bga ap).wga
          (inputs P cw cb wgx bgx wga bga ap).bga := by
  pointwise [A_main_v69, K_main_v68, A_main_v67, K_main_v66, A_main_v65, A_main_v64, A_main_v63, A_main_v62, A_main_v61,
    A_main_v60, A_main_v59, A_main_v58, A_main_v57, A_main_v56, A_main_v41, K_main_cst_3, K_main_cst_4]
  simp only [ref_conv]
  rfl

theorem ref_softplus :
    A_main_v74 P cw cb wgx bgx wga bga ap (ix1 w) = softplusNeg (ap (ix2 0 w)) := by
  pointwise [A_main_v74, A_main_call0_v4, A_main_call0_v3, A_main_call0_v6, A_main_call0_v11, A_main_call0_v10,
    A_main_call0_v9, A_main_call0_v8, A_main_call0_v7, A_main_call0_v1, K_main_call0_v0, K_main_call0_v2, K_main_call0_v5,
    K_main_call0_cst, A_main_v73, A_main_v72]
  exact if_neg (fun h => h rfl)

theorem mask_word : IntOp.cmpi CmpIPredicate.eq (BitVec.ofNat 32 p.val) 0#32 = if p.val = 0 then 1#1 else 0#1 := by
  have h : p.val < 2 ^ 32 := by omega
  simp only [WordCmp.cmpi_eq_eq_toNat, BitVec.toNat_ofNat, Nat.mod_eq_of_lt h, Nat.zero_mod]
  split_ifs with h0 <;> simp [h0]

theorem select_mask (x y : EReal) : Scalar.select (if p.val = 0 then 1#1 else 0#1) x y = if p.val = 0 then x else y := by
  split_ifs <;> rfl

theorem ref_log :
    A_main_v77 P cw cb wgx bgx wga bga ap (ix3 b p w) = logA (inputs P cw cb wgx bgx wga bga ap) b p.val w := by
  pointwise [A_main_v77, A_main_v76, A_main_v75, A_main_v71, K_main_v70, K_main_cst_5]
  rw [ref_ga, ref_softplus]
  rfl

theorem ref_decay :
    A_main_v93 P cw cb wgx bgx wga bga ap (ix3 p b w) = aStep (inputs P cw cb wgx bgx wga bga ap) b p.val w := by
  pointwise [A_main_v93, A_main_v83, A_main_v82, K_main_call1_v1, K_main_v81, K_main_v80, K_main_v79, K_main_v78, K_main_c,
    K_main_call1_v2, K_main_call1_v0, K_main_cst_6]
  rw [mask_word, select_mask, ref_log]
  have e : id (constant (F := Ideal) S_ .f32 0x00000000#32) ix0 = (0 : EReal) := Ideal.ofBits_zero_f32
  rw [e]
  rfl

theorem ref_input :
    A_main_v94 P cw cb wgx bgx wga bga ap (ix3 p b w) = bStep (inputs P cw cb wgx bgx wga bga ap) b p.val w := by
  pointwise [A_main_v94, A_main_v91, A_main_v90, A_main_v89, A_main_v88, A_main_v87, A_main_v86, A_main_v85, K_main_v84,
    K_main_cst_7, K_main_call2_v1, K_main_v81, K_main_v80, K_main_v79, K_main_v78, K_main_c, K_main_call2_v2,
    K_main_call2_v0, K_main_cst_8]
  rw [mask_word, select_mask, ref_log, ref_conv, ref_gx]
  have e : id (constant (F := Ideal) S_ .f32 0x3F800000#32) ix0 = (1 : EReal) := Ideal.ofBits_one_f32
  rw [e]
  rfl
end

section
variable (s : State Ideal) (j : Fin 4096) (b : Fin 4) (w : Fin 1024)

/-- A trip's index is a start of a row. -/
theorem trip_start (a : Fin 3) :
    BitVec.toInt ((![constantI S_ 32 (BitVec.ofNat 32 j.val), constantI S_ 32 0#32, constantI S_ 32 0#32] : Fin 3 → IVec S_ 32) a
      (Shape.Idx.first h_S_)) = ((![j.val, 0, 0] : Fin 3 → ℕ) a : ℤ) := by
  fin_cases a
  · exact Idealize.ShloMosaic.toInt_ofNat_of_lt (by omega)
  · rfl
  · rfl

theorem trip_fits : S4096x4x1024.Slices ![j.val, 0, 0] S1x4x1024 :=
  ⟨rfl, fun a => by fin_cases a <;> simp [Shape.size] <;> omega⟩

theorem step_state : (step j.val s).main_v96_3 (ix2 b w)
    = s.main_v96_0 (ix3 j b w) * s.main_v96_3 (ix2 b w) + s.main_v96_1 (ix3 j b w) := by
  have h2 : b2 j.val s = extractStridedSlice S1x4x1024 ![j.val, 0, 0] s.main_v96_0 (trip_fits j) :=
    Host.dynamicSlice_eq_extractStridedSlice _ _ _ _ _ (trip_fits j) (trip_start j)
  have h6 : b6 j.val s = extractStridedSlice S1x4x1024 ![j.val, 0, 0] s.main_v96_1 (trip_fits j) :=
    Host.dynamicSlice_eq_extractStridedSlice _ _ _ _ _ (trip_fits j) (trip_start j)
  rw [step_main_v96_3]
  unfold b9 b8 b7 b3
  rw [h2, h6]
  pointwise

theorem step_states (q : Fin 4096) : (step j.val s).main_v96_4 (ix3 q b w)
    = if q = j then (step j.val s).main_v96_3 (ix2 b w) else s.main_v96_4 (ix3 q b w) := by
  have h13 : b13 j.val s = updateSlice s.main_v96_4 (b10 j.val s) ![j.val, 0, 0] (trip_fits j) :=
    WordCmp.dynamicUpdateSlice_eq_update _ _ _ _ _ (trip_fits j) (trip_start j)
  rw [step_main_v96_4, step_main_v96_3, h13]
  pointwise [b10]
  by_cases e : q = j
  · rw [if_pos e, dif_pos (by subst e; omega)]
  · rw [if_neg e, dif_neg (fun h => e (Fin.ext (by omega)))]
end

section
variable (P : Vec Ideal S16384x7168 .f32) (cw : Vec Ideal S1x4x1024 .f32) (cb : Vec Ideal S1x1024 .f32)
  (wgx : Vec Ideal S1x16x64x64 .f32) (bgx : Vec Ideal S1x1024 .f32) (wga : Vec Ideal S1x16x64x64 .f32)
  (bga ap : Vec Ideal S1x1024 .f32)

/-- What the loop holds before trip `n`. -/
structure Holds (n : ℕ) (s : State Ideal) : Prop where
  decay : s.main_v96_0 = A_main_v93 P cw cb wgx bgx wga bga ap
  input : s.main_v96_1 = A_main_v94 P cw cb wgx bgx wga bga ap
  now : ∀ (b : Fin 4) (w : Fin 1024), s.main_v96_3 (ix2 b w) = state (inputs P cw cb wgx bgx wga bga ap) b w n
  past : ∀ (q : Fin 4096) (b : Fin 4) (w : Fin 1024), q.val < n →
    s.main_v96_4 (ix3 q b w) = state (inputs P cw cb wgx bgx wga bga ap) b w (q.val + 1)

theorem holds_init : Holds P cw cb wgx bgx wga bga ap 0 (init P cw cb wgx bgx wga bga ap) where
  decay := rfl
  input := rfl
  now b w := Ideal.ofBits_zero_f32
  past q b w h := absurd h (by omega)

variable {P cw cb wgx bgx wga bga ap}

theorem holds_step {n : ℕ} (hn : n < 4096) {s : State Ideal} (h : Holds P cw cb wgx bgx wga bga ap n s) :
    Holds P cw cb wgx bgx wga bga ap (n + 1) (step n s) := by
  have now : ∀ (b : Fin 4) (w : Fin 1024), (step n s).main_v96_3 (ix2 b w)
      = state (inputs P cw cb wgx bgx wga bga ap) b w (n + 1) := fun b w => by
    refine (step_state s ⟨n, hn⟩ b w).trans ?_
    rw [h.decay, h.input, h.now, ref_decay, ref_input]
    unfold state
    rw [run_add]
    simp [run]
  refine ⟨h.decay, h.input, now, fun q b w hq => ?_⟩
  refine (step_states s ⟨n, hn⟩ b w q).trans ?_
  split_ifs with e
  · rw [e]
    exact now b w
  · exact h.past q b w (by have : q.val ≠ n := fun h => e (Fin.ext h); omega)

theorem ref_result_r {s : State Ideal} (h : Holds P cw cb wgx bgx wga bga ap 4096 s) :
    R_main_v114 s P = resultR (inputs P cw cb wgx bgx wga bga ap) := by
  funext i
  obtain ⟨r, w, rfl⟩ : ∃ r w, i = ix2 r w := ⟨i 0, i 1, by ext a; fin_cases a <;> rfl⟩
  unfold R_main_v114 resultR
  pointwise
  rw [h.past _ _ _ (by show _ < _; omega)]
  have e : (inputs P cw cb wgx bgx wga bga ap).y ⟨r.val / 4096, by omega⟩ ⟨r.val % 4096, by omega⟩ w
      = P (ix2 r ⟨4096 + w.val, by omega⟩) :=
    congrArg (fun k => P (ix2 k _)) (Fin.ext (Nat.div_add_mod' r.val 4096))
  show _ = _ * gelu ((inputs P cw cb wgx bgx wga bga ap).y ⟨r.val / 4096, by omega⟩ ⟨r.val % 4096, by omega⟩ w)
  rw [e]
  rfl

theorem ref_result_h {s : State Ideal} (h : Holds P cw cb wgx bgx wga bga ap 4096 s) :
    R_main_v115 s = resultH (inputs P cw cb wgx bgx wga bga ap) := by
  funext i
  obtain ⟨b, r, w, rfl⟩ : ∃ b r w, i = ix3 b r w := ⟨i 0, i 1, i 2, by ext a; fin_cases a <;> rfl⟩
  unfold R_main_v115 resultH
  pointwise
  rw [h.past _ _ _ (by show _ < _; omega)]
end

end Cert.Rglru
-- ==== Proof.Body.lean ====
/-
  One grid point of the recurrence kernel as a function of what it reads: the block of inputs, the three shifted windows,
  the weights and the carried state. The 32 groups of eight rows are one chain, each group entered at the last row of the
  group before it.
-/
module

public import proofs.«01_k».proof.Proof.Scalars
public import proofs.«01_k».proof.Proof.Gen.KernelIdeal.Skeleton

@[expose] public section

set_option maxRecDepth 16384

noncomputable section

namespace Cert.Rglru

open Idealize.ShloMosaic Cert.KernelIdeal Cert.KernelIdeal.Gen

/-- The row numbers within a group. -/
abbrev rowIota : IVec S1x8x1024 32 := iota Kind.tc S1x8x1024 32 [1] iota_S1x8x1024_d1_w32

/-- The weights of the `n`-th block of 128 channels. -/
abbrev wgBlock (wg : Vec Ideal S8x128x256 .bf16) (n : ℕ) (h : ∀ a, ![n, 0, 0] a + ![1, 128, 256] a ≤ S8x128x256.size a) :
    Vec Ideal S1x128x256 .bf16 := View.ld wg (Rect.unit (s := S8x128x256) ![n, 0, 0] ![1, 128, 256] h)

section
variable (x : Vec Ideal S256x1024 .f32) (cw : Vec Ideal S4x1024 .f32) (cb : Vec Ideal S1x1024 .f32)
  (v20 v26 v32 : Vec Ideal S1x256x1024 .f32) (wg : Vec Ideal S8x128x256 .bf16) (bgx bga ap : Vec Ideal S1x1024 .f32)
  (s : BitVec 32) (c0 : Vec Ideal S1x1x1024 .f32)

/-- The three newest taps of the convolution. -/
abbrev conv3 : FVec Ideal S1x256x1024 .f32 := k0_pay9 x cw cb v20 v26
/-- The convolution. -/
def convV : FVec Ideal S256x1024 .f32 := k0_pay12 (conv3 x cw cb v20 v26) v32 (k0_pay10 cw)

/-- The input gate. -/
def gxV : FVec Ideal S256x1024 .f32 :=
  k0_pay30 (k0_pay13 (conv3 x cw cb v20 v26) v32 (k0_pay10 cw))
    (k0_pay15 (conv3 x cw cb v20 v26) v32 (k0_pay10 cw) (wgBlock wg 0 inb_S8x128x256_S1x128x256_0_0_0))
    (k0_pay18 (conv3 x cw cb v20 v26) v32 (k0_pay10 cw) (wgBlock wg 1 inb_S8x128x256_S1x128x256_1_0_0))
    (k0_pay21 (conv3 x cw cb v20 v26) v32 (k0_pay10 cw) (wgBlock wg 2 inb_S8x128x256_S1x128x256_2_0_0))
    (k0_pay24 (conv3 x cw cb v20 v26) v32 (k0_pay10 cw) (wgBlock wg 3 inb_S8x128x256_S1x128x256_3_0_0))
    (k0_pay26 (conv3 x cw cb v20 v26) v32 (k0_pay10 cw) (wgBlock wg 4 inb_S8x128x256_S1x128x256_4_0_0))
    (wgBlock wg 5 inb_S8x128x256_S1x128x256_5_0_0) (wgBlock wg 6 inb_S8x128x256_S1x128x256_6_0_0)
    (wgBlock wg 7 inb_S8x128x256_S1x128x256_7_0_0) bgx

/-- The recurrence gate. -/
def gaV : FVec Ideal S256x1024 .f32 :=
  k0_pay31 (k0_pay13 (conv3 x cw cb v20 v26) v32 (k0_pay10 cw))
    (k0_pay16 (conv3 x cw cb v20 v26) v32 (k0_pay10 cw) (wgBlock wg 0 inb_S8x128x256_S1x128x256_0_0_0))
    (k0_pay19 (conv3 x cw cb v20 v26) v32 (k0_pay10 cw) (wgBlock wg 1 inb_S8x128x256_S1x128x256_1_0_0))
    (k0_pay22 (conv3 x cw cb v20 v26) v32 (k0_pay10 cw) (wgBlock wg 2 inb_S8x128x256_S1x128x256_2_0_0))
    (k0_pay25 (conv3 x cw cb v20 v26) v32 (k0_pay10 cw) (wgBlock wg 3 inb_S8x128x256_S1x128x256_3_0_0))
    (k0_pay26 (conv3 x cw cb v20 v26) v32 (k0_pay10 cw) (wgBlock wg 4 inb_S8x128x256_S1x128x256_4_0_0))
    (wgBlock wg 5 inb_S8x128x256_S1x128x256_5_0_0) (wgBlock wg 6 inb_S8x128x256_S1x128x256_6_0_0)
    (wgBlock wg 7 inb_S8x128x256_S1x128x256_7_0_0) bga

end

section
variable (s : BitVec 32) (xc gx ga : FVec Ideal S256x1024 .f32) (ap : Vec Ideal S1x1024 .f32)

/-- The decay by group and row. -/
def decayV : FVec Ideal S32x8x1024 .f32 :=
  k0_pay38 s rowIota ga (k0_pay33 ap) (k0_pay34 ap) (Scalar.ofBits .f32 0x00000000#32)
/-- The gated input by group and row. -/
def inputV : FVec Ideal S32x8x1024 .f32 :=
  k0_pay39 s rowIota xc gx ga (k0_pay33 ap) (k0_pay34 ap) (Scalar.ofBits .f32 0x00000000#32)
/-- The first round's rolled decay. -/
def decayRoll : FVec Ideal S32x8x1024 .f32 :=
  k0_pay41 s rowIota ga (k0_pay33 ap) (k0_pay34 ap) (Scalar.ofBits .f32 0x00000000#32)
/-- The first round's rolled input. -/
def inputRoll : FVec Ideal S32x8x1024 .f32 :=
  k0_pay42 s rowIota xc gx ga (k0_pay33 ap) (k0_pay34 ap) (Scalar.ofBits .f32 0x00000000#32)
/-- The factors after the three rounds. -/
def scanA : FVec Ideal S1x256x1024 .f32 := k0_pay47 rowIota (decayV s ga ap) (decayRoll s ga ap)
/-- The addends after the three rounds. -/
def scanB : FVec Ideal S1x256x1024 .f32 :=
  k0_pay48 rowIota (decayV s ga ap) (inputV s xc gx ga ap) (k0_pay40 rowIota) (decayRoll s ga ap) (inputRoll s xc gx ga ap)
end

theorem slicesGroup (n : ℕ) (h : n < 32) : S1x256x1024.Slices ![0, 8 * n, 0] S1x8x1024 :=
  ⟨rfl, fun a => by fin_cases a <;> simp [Shape.size] <;> omega⟩

/-- One group: the scanned rows `8 n, …, 8 n + 7` applied to the carried state. -/
def grp (av bv : FVec Ideal S1x256x1024 .f32) (n : ℕ) (h : n < 32) (c : FVec Ideal S1x1x1024 .f32) :
    FVec Ideal S1x8x1024 .f32 :=
  addf (mulf (extractStridedSlice S1x8x1024 ![0, 8 * n, 0] av (slicesGroup n h))
    (broadcastTo S1x8x1024 c broadcasts_S1x1x1024_S1x8x1024)) (extractStridedSlice S1x8x1024 ![0, 8 * n, 0] bv (slicesGroup n h))

/-- A group's last row. -/
abbrev lastRow (g : FVec Ideal S1x8x1024 .f32) : FVec Ideal S1x1x1024 .f32 :=
  extractStridedSlice S1x1x1024 ![0, 7, 0] g slices_S1x8x1024_o0_7_0_S1x1x1024

/-- The groups in order, from the state `c0`. -/
def chain (av bv : FVec Ideal S1x256x1024 .f32) (c0 : FVec Ideal S1x1x1024 .f32) : (n : ℕ) → n < 32 → FVec Ideal S1x8x1024 .f32
  | 0, h => grp av bv 0 h c0
  | n + 1, h => grp av bv (n + 1) h (lastRow (chain av bv c0 n (by omega)))

theorem chain31 (av bv : FVec Ideal S1x256x1024 .f32) (c0 : FVec Ideal S1x1x1024 .f32) :
    k0_pay1 av bv (k0_pay83 av bv (k0_pay72 av bv (k0_pay61 av bv (lastRow (grp av bv 0 (by omega) c0)))))
      = chain av bv c0 31 (by omega) := rfl

theorem concat_congr {s t : Shape} {a : Fin t.rank} {φ : FTy} {n : ℕ} (f : Fin n → FVec Ideal s φ)  (l : List (Σ s : Shape, FVec Ideal s φ))
    (h : l = List.ofFn fun i => ⟨s, f i⟩) (hc hc') : concatenate t a l hc = concatenate t a (List.ofFn fun i => ⟨s, f i⟩) hc' := by
  subst h; rfl

end Cert.Rglru
-- ==== Proof.Rows.lean ====
/-
  One grid point's values read at an index: the convolution, the gates, the decay and the gated input, the scan's three
  rounds within a group of eight rows, and the groups as runs of the recurrence.
-/
module

public import proofs.«01_k».proof.Proof.Body
public import Idealize.ShloMosaic.Lib.WordCmp
public import Idealize.ShloMosaic.Lib.Pipeline.Value

@[expose] public section

set_option maxRecDepth 16384

noncomputable section

namespace Cert.Rglru

open Idealize.ShloMosaic Cert.KernelIdeal Cert.KernelIdeal.Gen

section
variable (x : Vec Ideal S256x1024 .f32) (cw : Vec Ideal S4x1024 .f32) (cb : Vec Ideal S1x1024 .f32)
  (v20 v26 v32 : Vec Ideal S1x256x1024 .f32) (wg : Vec Ideal S8x128x256 .bf16) (bgx bga : Vec Ideal S1x1024 .f32)

theorem conv_apply (r : Fin 256) (w : Fin 1024) :
    convV x cw cb v20 v26 v32 (ix2 r w)
      = cb (ix2 0 w) + x (ix2 r w) * cw (ix2 3 w) + v20 (ix3 0 r w) * cw (ix2 2 w) + v26 (ix3 0 r w) * cw (ix2 1 w)
        + v32 (ix3 0 r w) * cw (ix2 0 w) := by
  pointwise [convV, k0_pay12, k0_pay9, k0_pay10, k0_pay7, k0_pay6]

theorem slicesIn (n : Fin 8) : S256x1024.Slices ![0, 128 * n.val] S256x128 :=
  ⟨rfl, fun a => by fin_cases a <;> simp [Shape.size] <;> omega⟩

theorem inbBlock (n : Fin 8) : ∀ a, ![n.val, 0, 0] a + ![1, 128, 256] a ≤ S8x128x256.size a :=
  fun a => by fin_cases a <;> simp [Shape.size] <;> omega

/-- The product of the `n`-th 128 channels with their weights. -/
def blockDot (v : FVec Ideal S256x1024 .bf16) (n : Fin 8) : FVec Ideal S256x256 .f32 :=
  have u : FVec Ideal S256x128 .bf16 := extractStridedSlice S256x128 ![0, 128 * n.val] v (slicesIn n)
  have y : FVec Ideal S128x256 .bf16 := shapeCast S128x256 (wgBlock wg n.val (inbBlock n)) shapeCasts_S1x128x256_S128x256
  matmul dot_S256x128_S128x256_S256x256_1_0_0_1_n_n none u y (constant S256x256 .f32 0x00000000#32)

theorem blockDot_apply (v : FVec Ideal S256x1024 .bf16) (n : Fin 8) (r : Fin 256) (j : Fin 256) :
    blockDot wg v n (ix2 r j) = ∑ k : Fin 128, v (ix2 r ⟨128 * n.val + k.val, by omega⟩) * wg (ix3 n k j) := by
  pointwise [blockDot, wgBlock]

/-- Half of a product's columns, from the `o`-th on. -/
def blockPart (v : FVec Ideal S256x1024 .bf16) (o : ℕ) (hs : S256x256.Slices ![0, o] S256x128) (n : Fin 8) : FVec Ideal S256x128 .f32 :=
  extractStridedSlice S256x128 ![0, o] (blockDot wg v n) hs

/-- A gate's 1024 channels are eight blocks of 128. -/
theorem blocks_apply (v : FVec Ideal S256x1024 .bf16) (o : ℕ) (ho : o + 128 ≤ 256) (hs : S256x256.Slices ![0, o] S256x128) (h)
    (r : Fin 256) (w : Fin 1024) :
    concatenate S256x1024 1 (List.ofFn fun n : Fin 8 => (⟨S256x128, blockPart wg v o hs n⟩ : (s : Shape) × FVec Ideal s .f32)) h (ix2 r w)
      = ∑ k : Fin 128, v (ix2 r ⟨128 * (w.val / 128) + k.val, by omega⟩)
          * wg (ix3 ⟨w.val / 128, by omega⟩ k ⟨o + w.val % 128, by omega⟩) := by
  refine (concatenate_ofFn_apply (t := S256x1024) (s₁ := S256x128) (1 : Fin 2) (fun n : Fin 8 => blockPart wg v o hs n) h
    rfl 128 rfl (ix2 r w) ⟨w.val / 128, by omega⟩ rfl (ix2 r ⟨w.val % 128, by omega⟩) rfl ?_).trans ?_
  · intro b hb
    fin_cases b
    · rfl
    · exact absurd rfl hb
  · refine Eq.trans ?_ (blockDot_apply wg v ⟨w.val / 128, by omega⟩ r ⟨o + w.val % 128, by omega⟩)
    pointwise [blockPart]

theorem gx_apply (r : Fin 256) (w : Fin 1024) :
    gxV x cw cb v20 v26 v32 wg bgx (ix2 r w)
      = Ideal.logistic ((∑ k : Fin 128, convV x cw cb v20 v26 v32 (ix2 r ⟨128 * (w.val / 128) + k.val, by omega⟩)
          * wg (ix3 ⟨w.val / 128, by omega⟩ k ⟨0 + w.val % 128, by omega⟩)) + bgx (ix2 0 w)) := by
  have e := blocks_apply wg (k0_pay13 (conv3 x cw cb v20 v26) v32 (k0_pay10 cw)) 0 (by omega) slices_S256x256_o0_0_S256x128
    concatenates_S256x128_S256x128_S256x128_S256x128_S256x128_S256x128_S256x128_S256x128_S256x1024_d1 r w
  refine Eq.trans ?_ (congrArg (fun y => Ideal.logistic (y + bgx (ix2 0 w))) e)
  have e2 : shapeCast S1x1024 bgx shapeCasts_S1x1024_S1x1024 (ix2 0 w) = bgx (ix2 0 w) := by pointwise
  rw [← e2]
  rfl

theorem ga_apply (r : Fin 256) (w : Fin 1024) :
    gaV x cw cb v20 v26 v32 wg bga (ix2 r w)
      = Ideal.logistic ((∑ k : Fin 128, convV x cw cb v20 v26 v32 (ix2 r ⟨128 * (w.val / 128) + k.val, by omega⟩)
          * wg (ix3 ⟨w.val / 128, by omega⟩ k ⟨128 + w.val % 128, by omega⟩)) + bga (ix2 0 w)) := by
  have e := blocks_apply wg (k0_pay13 (conv3 x cw cb v20 v26) v32 (k0_pay10 cw)) 128 (by omega) slices_S256x256_o0_128_S256x128
    concatenates_S256x128_S256x128_S256x128_S256x128_S256x128_S256x128_S256x128_S256x128_S256x1024_d1 r w
  refine Eq.trans ?_ (congrArg (fun y => Ideal.logistic (y + bga (ix2 0 w))) e)
  have e2 : shapeCast S1x1024 bga shapeCasts_S1x1024_S1x1024 (ix2 0 w) = bga (ix2 0 w) := by pointwise
  rw [← e2]
  rfl

end

/-! The first row's mask. -/

/-- The row-0 mask of the first of a sequence's blocks. -/
theorem first_select (s : BitVec 32) {q : ℕ} (hq : q < 8) (x y : EReal) :
    Scalar.select (IntOp.cmpi .eq (BitVec.ofNat 32 q) (Scalar.select (Scalar.cmpi .eq s 0#32) 0#32 4294967295#32)) x y
      = if s = 0#32 ∧ q = 0 then x else y := by
  by_cases hs : s = 0#32
  · subst hs
    interval_cases q <;> rfl
  · have e : Scalar.cmpi .eq s 0#32 = 0#1 := by
      show BitVec.ofBool (s == 0#32) = 0#1
      rw [beq_eq_false_iff_ne.mpr hs]
      rfl
    rw [e, if_neg (fun h => hs h.1)]
    interval_cases q <;> rfl

/-- A block whose first eight rows are masked. -/
theorem first_rows (s : BitVec 32) (f : Fin 256 → EReal) (x : EReal) (q : ℕ) (hq : q < 256) :
    (if h : q < 8 then
      Scalar.select (IntOp.cmpi .eq (BitVec.ofNat 32 q) (Scalar.select (Scalar.cmpi .eq s 0#32) 0#32 4294967295#32)) x (f ⟨q, hq⟩)
      else f ⟨8 + (q - 8), by omega⟩) = if s = 0#32 ∧ q = 0 then x else f ⟨q, hq⟩ := by
  by_cases h : q < 8
  · rw [dif_pos h, first_select s h]
  · rw [dif_neg h, if_neg (fun h' => h (by omega))]
    exact congrArg f (Fin.ext (by show 8 + (q - 8) = q; omega))

section
variable (s : BitVec 32) (xc gx ga : FVec Ideal S256x1024 .f32) (ap : Vec Ideal S1x1024 .f32)

theorem logDecay_apply (r : Fin 256) (w : Fin 1024) :
    k0_pay35 ga (k0_pay33 ap) (k0_pay34 ap) 0 (ix2 r w) = logDecay (ga (ix2 r w)) (ap (ix2 0 w)) := by
  unfold logDecay softplusNeg
  pointwise [k0_pay35, k0_pay33, k0_pay34, k0_pay32]
  simp only [zero_sub]
  rfl

theorem decayV_apply (g : Fin 32) (r : Fin 8) (w : Fin 1024) :
    decayV s ga ap (ix3 g r w) = if s = 0#32 ∧ g.val * 8 + r.val = 0 then 0
      else Ideal.exp (logDecay (ga (ix2 ⟨g.val * 8 + r.val, by omega⟩ w)) (ap (ix2 0 w))) := by
  pointwise [decayV, k0_pay38, k0_pay37, k0_pay36, rowIota]
  simp only [logDecay_apply]
  exact first_rows s (fun i => Ideal.exp (logDecay (ga (ix2 i w)) (ap (ix2 0 w)))) 0 (g.val * 8 + r.val) (by omega)

theorem inputV_apply (g : Fin 32) (r : Fin 8) (w : Fin 1024) :
    inputV s xc gx ga ap (ix3 g r w) = xc (ix2 ⟨g.val * 8 + r.val, by omega⟩ w) * gx (ix2 ⟨g.val * 8 + r.val, by omega⟩ w)
      * if s = 0#32 ∧ g.val * 8 + r.val = 0 then 1
      else Ideal.sqrt (-(Ideal.exp (Ideal.ofBits .f32 0x40000000#32 * logDecay (ga (ix2 ⟨g.val * 8 + r.val, by omega⟩ w))
        (ap (ix2 0 w))) - 1)) := by
  rw [← tanh_expm1]
  pointwise [inputV, k0_pay39, k0_pay37, k0_pay36, rowIota]
  simp only [logDecay_apply]
  refine congrArg (fun z => xc (ix2 ⟨g.val * 8 + r.val, by omega⟩ w) * gx (ix2 ⟨g.val * 8 + r.val, by omega⟩ w) * z) ?_
  exact first_rows s (fun i => Ideal.sqrt ((0 - Ideal.tanh (logDecay (ga (ix2 i w)) (ap (ix2 0 w))))
    * (Ideal.exp (logDecay (ga (ix2 i w)) (ap (ix2 0 w))) * Ideal.exp (logDecay (ga (ix2 i w)) (ap (ix2 0 w))) + 1))) 1 (g.val * 8 + r.val) (by omega)

end

/-! The scan's rounds. -/

/-- The rows from the `d`-th on. -/
def fromRow (d : ℕ) : IVec S32x8x1024 1 :=
  broadcastTo S32x8x1024 (shapeCast S1x8x1024 (cmpi .sge rowIota (broadcast S1x8x1024 (BitVec.ofNat 32 d)))
    shapeCasts_S1x8x1024_S1x8x1024) broadcasts_S1x8x1024_S32x8x1024

/-- A choice by the rows from the `d`-th on. -/
theorem from_select {d : ℕ} (hd : d < 8) (r : Fin 8) (x y : EReal) :
    Scalar.select (IntOp.cmpi .sge (BitVec.ofNat 32 r.val) (BitVec.ofNat 32 d)) x y = if d ≤ r.val then x else y := by
  interval_cases d <;> fin_cases r <;> rfl

section
variable (d : ℕ) (A B : FVec Ideal S32x8x1024 .f32)

/-- One round on the factors. -/
def stepA : FVec Ideal S32x8x1024 .f32 :=
  mulf A (select (fromRow d) (dynamicRotate 1 (BitVec.ofNat 32 d) none A rotates_S32x8x1024_d1)
    (broadcast S32x8x1024 (Scalar.ofBits .f32 0x3F800000#32)))

/-- One round on the addends. -/
def stepB : FVec Ideal S32x8x1024 .f32 :=
  addf (mulf A (select (fromRow d) (dynamicRotate 1 (BitVec.ofNat 32 d) none B rotates_S32x8x1024_d1)
    (broadcast S32x8x1024 (Scalar.ofBits .f32 0x00000000#32)))) B

/-- A group's rows at a channel. -/
def rows (g : Fin 32) (w : Fin 1024) (q : ℕ) : EReal := A (ix3 g ⟨q % 8, Nat.mod_lt _ (by norm_num)⟩ w)

variable {d A B}

theorem rows_val (g : Fin 32) (w : Fin 1024) (r : Fin 8) : rows A g w r.val = A (ix3 g r w) := by
  unfold rows
  exact congrArg (fun k => A (ix3 g k w)) (Fin.ext (Nat.mod_eq_of_lt r.isLt))

/-- A row `d` above, where there is one. -/
theorem turned (hd : d < 8) (hd0 : 0 < d) (g : Fin 32) (r : Fin 8) (w : Fin 1024) (z : EReal) :
    (if d ≤ r.val then A (ix3 g ⟨(r.val + 8 - (BitVec.ofNat 32 d).toNat % 8) % 8, Nat.mod_lt _ (by norm_num)⟩ w) else z)
      = if d ≤ r.val then rows A g w (r.val - d) else z := by
  split_ifs with h
  · refine congrArg (fun k => A (ix3 g k w)) (Fin.ext ?_)
    have e : (BitVec.ofNat 32 d).toNat = d := by rw [BitVec.toNat_ofNat]; omega
    show (r.val + 8 - (BitVec.ofNat 32 d).toNat % 8) % 8 = (r.val - d) % 8
    rw [e]
    omega
  · rfl

theorem stepA_apply (hd : d < 8) (hd0 : 0 < d) (g : Fin 32) (r : Fin 8) (w : Fin 1024) :
    stepA d A (ix3 g r w) = roundA d (rows A g w) r.val := by
  unfold roundA
  rw [rows_val, ← turned hd hd0]
  rw [← from_select hd]
  pointwise [stepA, fromRow, rowIota]

theorem stepB_apply (hd : d < 8) (hd0 : 0 < d) (g : Fin 32) (r : Fin 8) (w : Fin 1024) :
    stepB d A B (ix3 g r w) = roundB d (rows A g w) (rows B g w) r.val := by
  unfold roundB
  rw [rows_val, rows_val, ← turned hd hd0]
  rw [← from_select hd]
  pointwise [stepB, fromRow, rowIota]

theorem roundA_congr {a a' : ℕ → EReal} (h : ∀ q < 8, a q = a' q) {r : ℕ} (hr : r < 8) : roundA d a r = roundA d a' r := by
  unfold roundA
  rw [h r hr, h (r - d) (by omega)]

theorem roundB_congr {a a' b b' : ℕ → EReal} (h : ∀ q < 8, a q = a' q) (h' : ∀ q < 8, b q = b' q) {r : ℕ} (hr : r < 8) :
    roundB d a b r = roundB d a' b' r := by
  unfold roundB
  rw [h r hr, h' r hr, h' (r - d) (by omega)]

theorem rows_stepA (hd : d < 8) (hd0 : 0 < d) (g : Fin 32) (w : Fin 1024) {a : ℕ → EReal} (h : ∀ q < 8, rows A g w q = a q) :
    ∀ q < 8, rows (stepA d A) g w q = roundA d a q := fun q hq =>
  (rows_val g w ⟨q, hq⟩).trans ((stepA_apply hd hd0 g ⟨q, hq⟩ w).trans (roundA_congr h hq))

theorem rows_stepB (hd : d < 8) (hd0 : 0 < d) (g : Fin 32) (w : Fin 1024) {a b : ℕ → EReal} (h : ∀ q < 8, rows A g w q = a q)
    (h' : ∀ q < 8, rows B g w q = b q) : ∀ q < 8, rows (stepB d A B) g w q = roundB d a b q := fun q hq =>
  (rows_val g w ⟨q, hq⟩).trans ((stepB_apply hd hd0 g ⟨q, hq⟩ w).trans (roundB_congr h h' hq))

end

section
variable (s : BitVec 32) (xc gx ga : FVec Ideal S256x1024 .f32) (ap : Vec Ideal S1x1024 .f32)

theorem scanA_eq : scanA s ga ap = shapeCast S1x256x1024 (stepA 4 (stepA 2 (stepA 1 (decayV s ga ap))))
    shapeCasts_S32x8x1024_S1x256x1024 := rfl

theorem scanB_eq : scanB s xc gx ga ap = shapeCast S1x256x1024 (stepB 4 (stepA 2 (stepA 1 (decayV s ga ap)))
    (stepB 2 (stepA 1 (decayV s ga ap)) (stepB 1 (decayV s ga ap) (inputV s xc gx ga ap))))
    shapeCasts_S32x8x1024_S1x256x1024 := rfl

theorem groupRow (A : FVec Ideal S32x8x1024 .f32) (n : ℕ) (h : n < 32) (r : Fin 8) (w : Fin 1024) :
    extractStridedSlice S1x8x1024 ![0, 8 * n, 0] (shapeCast S1x256x1024 A shapeCasts_S32x8x1024_S1x256x1024) (slicesGroup n h)
      (ix3 0 r w) = rows A ⟨n, h⟩ w r.val := by
  rw [rows_val]
  pointwise
  refine congrArg A ?_
  congr 1 <;> exact Fin.ext (by simp; omega)

variable {s xc gx ga ap}

/-- The scanned rows of a group run the recurrence from the state before the group. -/
theorem grp_apply {a b : ℕ → EReal} (n : ℕ) (h : n < 32) (w : Fin 1024)
    (ha : ∀ r : Fin 8, decayV s ga ap (ix3 ⟨n, h⟩ r w) = a (8 * n + r.val))
    (hb : ∀ r : Fin 8, inputV s xc gx ga ap (ix3 ⟨n, h⟩ r w) = b (8 * n + r.val))
    (hg : ∀ q, Good (a q)) (c : FVec Ideal S1x1x1024 .f32) (r : Fin 8) :
    grp (scanA s ga ap) (scanB s xc gx ga ap) n h c (ix3 0 r w) = run a b (8 * n) (r.val + 1) (c (ix3 0 0 w)) := by
  have ra : ∀ q < 8, rows (decayV s ga ap) ⟨n, h⟩ w q = (fun q => a (8 * n + q)) q := fun q hq =>
    (rows_val ⟨n, h⟩ w ⟨q, hq⟩).trans (ha ⟨q, hq⟩)
  have rb : ∀ q < 8, rows (inputV s xc gx ga ap) ⟨n, h⟩ w q = (fun q => b (8 * n + q)) q := fun q hq =>
    (rows_val ⟨n, h⟩ w ⟨q, hq⟩).trans (hb ⟨q, hq⟩)
  have r1 := rows_stepA (d := 1) (by norm_num) (by norm_num) ⟨n, h⟩ w ra
  have r2 := rows_stepA (d := 2) (by norm_num) (by norm_num) ⟨n, h⟩ w r1
  have r4 := rows_stepA (d := 4) (by norm_num) (by norm_num) ⟨n, h⟩ w r2
  have s1 := rows_stepB (d := 1) (by norm_num) (by norm_num) ⟨n, h⟩ w ra rb
  have s2 := rows_stepB (d := 2) (by norm_num) (by norm_num) ⟨n, h⟩ w r1 s1
  have s4 := rows_stepB (d := 4) (by norm_num) (by norm_num) ⟨n, h⟩ w r2 s2
  have e : grp (scanA s ga ap) (scanB s xc gx ga ap) n h c (ix3 0 r w)
      = extractStridedSlice S1x8x1024 ![0, 8 * n, 0] (scanA s ga ap) (slicesGroup n h) (ix3 0 r w) * c (ix3 0 0 w)
        + extractStridedSlice S1x8x1024 ![0, 8 * n, 0] (scanB s xc gx ga ap) (slicesGroup n h) (ix3 0 r w) := by
    have e2 : broadcastTo S1x8x1024 c broadcasts_S1x1x1024_S1x8x1024 (ix3 0 r w) = c (ix3 0 0 w) := by pointwise
    rw [← e2]
    rfl
  rw [e, scanA_eq, scanB_eq, groupRow _ n h, groupRow _ n h, r4 _ r.isLt, s4 _ r.isLt, scan8 (fun q => hg (8 * n + q)) r.isLt]
  exact run_congr _ fun i _ => ⟨by simp only [Nat.zero_add], by simp only [Nat.zero_add]⟩

/-- A chain of groups runs the recurrence through its rows. -/
theorem chain_apply {a b : ℕ → EReal} (w : Fin 1024)
    (ha : ∀ (g : Fin 32) (r : Fin 8), decayV s ga ap (ix3 g r w) = a (8 * g.val + r.val))
    (hb : ∀ (g : Fin 32) (r : Fin 8), inputV s xc gx ga ap (ix3 g r w) = b (8 * g.val + r.val))
    (hg : ∀ q, Good (a q)) (c : FVec Ideal S1x1x1024 .f32) : ∀ (n : ℕ) (h : n < 32) (r : Fin 8),
    chain (scanA s ga ap) (scanB s xc gx ga ap) c n h (ix3 0 r w) = run a b 0 (8 * n + (r.val + 1)) (c (ix3 0 0 w))
  | 0, h, r => by
    rw [Nat.mul_zero, Nat.zero_add]
    exact grp_apply 0 h w (ha ⟨0, h⟩) (hb ⟨0, h⟩) hg c r
  | n + 1, h, r => by
    rw [run_add, Nat.zero_add]
    refine (grp_apply (n + 1) h w (ha ⟨n + 1, h⟩) (hb ⟨n + 1, h⟩) hg _ r).trans ?_
    have e : lastRow (chain (scanA s ga ap) (scanB s xc gx ga ap) c n (by omega)) (ix3 0 0 w)
        = chain (scanA s ga ap) (scanB s xc gx ga ap) c n (by omega) (ix3 0 7 w) := by pointwise [lastRow]
    rw [e, chain_apply w ha hb hg c n (by omega) 7]
    rfl

/-- All 32 groups as one block. -/
theorem groups_apply {a b : ℕ → EReal} (w : Fin 1024)
    (ha : ∀ (g : Fin 32) (r : Fin 8), decayV s ga ap (ix3 g r w) = a (8 * g.val + r.val))
    (hb : ∀ (g : Fin 32) (r : Fin 8), inputV s xc gx ga ap (ix3 g r w) = b (8 * g.val + r.val))
    (hg : ∀ q, Good (a q)) (c : FVec Ideal S1x1x1024 .f32) (h) (q : Fin 256) :
    concatenate S1x256x1024 1 (List.ofFn fun n : Fin 32 =>
      (⟨S1x8x1024, chain (scanA s ga ap) (scanB s xc gx ga ap) c n.val n.isLt⟩ : (s : Shape) × FVec Ideal s .f32)) h (ix3 0 q w)
      = run a b 0 (q.val + 1) (c (ix3 0 0 w)) := by
  refine (concatenate_ofFn_apply (t := S1x256x1024) (s₁ := S1x8x1024) (1 : Fin 3)
    (fun n : Fin 32 => chain (scanA s ga ap) (scanB s xc gx ga ap) c n.val n.isLt) h
    rfl 8 rfl (ix3 0 q w) ⟨q.val / 8, by omega⟩ rfl (ix3 0 ⟨q.val % 8, by omega⟩ w) rfl ?_).trans ?_
  · intro b hb
    fin_cases b
    · rfl
    · exact absurd rfl hb
    · rfl
  · refine (chain_apply w ha hb hg c (q.val / 8) (by omega) ⟨q.val % 8, by omega⟩).trans ?_
    congr 1
    show 8 * (q.val / 8) + (q.val % 8 + 1) = q.val + 1
    omega

end

end Cert.Rglru
-- ==== Proof.Pieces.lean ====
/-
  What one grid point leaves in the two outputs and the two carried buffers, as the point's values of what it reads.
-/
module

public import proofs.«01_k».proof.Proof.Rows
public import proofs.«01_k».proof.Proof.Gen.KernelIdeal.Value
public import Idealize.ShloMosaic.Lib.Pipeline.ValueKit
public import Idealize.ShloMosaic.Lib.Pipeline.ReadBack
@[expose] public section

set_option maxRecDepth 16384

noncomputable section

namespace Cert.Rglru

open Idealize.ShloMosaic Idealize.ShloMosaic.TcCoe Idealize.ShloMosaic.Tactic Idealize.SL Idealize.SL.Sem
open Cert.KernelIdeal Cert.KernelIdeal.Gen

variable (m : (ℓ : Loc nD τ sig) → Buf (Elt Ideal) ℓ) (c : Dev nD) (t : Fin cfg0.N)

section
variable (v20 v26 v32 : Vec Ideal S1x256x1024 .f32) (c0 : Vec Ideal S1x1x1024 .f32)

/-- The point's place in its sequence. -/
abbrev placeOf : BitVec 32 := BitVec.ofNat 32 (grid0.coords t 1).val

/-- The point's convolution. -/
abbrev pointConv : FVec Ideal S256x1024 .f32 := convV (iblk m c 0 t) (iblk m c 4 t) (iblk m c 5 t) v20 v26 v32
/-- The point's input gate. -/
abbrev pointGx : FVec Ideal S256x1024 .f32 :=
  gxV (iblk m c 0 t) (iblk m c 4 t) (iblk m c 5 t) v20 v26 v32 (iblk m c 6 t) (iblk m c 7 t)
/-- The point's recurrence gate. -/
abbrev pointGa : FVec Ideal S256x1024 .f32 :=
  gaV (iblk m c 0 t) (iblk m c 4 t) (iblk m c 5 t) v20 v26 v32 (iblk m c 6 t) (iblk m c 8 t)
/-- The point's scanned factors. -/
abbrev pointA : FVec Ideal S1x256x1024 .f32 := scanA (placeOf t) (pointGa m c t v20 v26 v32) (iblk m c 9 t)
/-- The point's scanned addends. -/
abbrev pointB : FVec Ideal S1x256x1024 .f32 := scanB (placeOf t) (pointConv m c t v20 v26 v32) (pointGx m c t v20 v26 v32)
  (pointGa m c t v20 v26 v32) (iblk m c 9 t)

/-- The point's groups. -/
def pointChain (n : Fin 32) : FVec Ideal S1x8x1024 .f32 :=
  chain (pointA m c t v20 v26 v32) (pointB m c t v20 v26 v32) c0 n.val n.isLt

/-- The point's block of the first output. -/
def pointOut : FVec Ideal S256x1024 .f32 :=
  k0_pay3 (concatenate S1x256x1024 1 (List.ofFn fun n : Fin 32 => ⟨S1x8x1024, pointChain m c t v20 v26 v32 c0 n⟩)
    concatenates_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x8x1024_S1x256x1024_d1) (iblk m c 1 t)

end

/-- A window of 256 rows fits. -/
theorem windowFits (k : ℕ) (hk : k ≤ 8) : ∀ a, ![0, k, 0] a + ![1, 256, 1024] a ≤ S1x264x1024.size a :=
  fun a => by fin_cases a <;> simp [Shape.size] <;> omega

/-- The rows from the `k`-th on of a window. -/
abbrev rowsFrom (k : ℕ) (hk : k ≤ 8) : Rect S1x264x1024 :=
  Rect.unit (s := S1x264x1024) ![0, k, 0] ![1, 256, 1024] (windowFits k hk)

/-- The rows from the `k`-th on of the carried window at a sequence's first point. -/
abbrev windowA (k : ℕ) (hk : k ≤ 8) : Vec Ideal S1x256x1024 .f32 :=
  (View.whole cc0_scratch0).readCov (Val := Elt Ideal)
    [⟨Rect.unit ![0, 8, 0] ![1, 256, 1024] inb_S1x264x1024_S1x256x1024_0_8_0, k0_pay8 (iblk m c 0 t)⟩,
      ⟨Rect.unit ![0, 0, 0] ![1, 8, 1024] inb_S1x264x1024_S1x8x1024_0_0_0, k0_pay4 (iblk m c 2 t)⟩]
    (rowsFrom k hk).toLoadRect

theorem last_A (h : t.val % 16 = 0) : (outsAt0 m c t.val t.isLt).2.1
    = pointChain m c t (windowA m c t 7 (by norm_num)) (windowA m c t 6 (by norm_num)) (windowA m c t 5 (by norm_num))
      (k0_pay5 (iblk m c 3 t)) 31 := by
  rw [outsAt0_A m c t h]
  frame_out
  unfold pointChain
  refine Eq.trans ?_ (chain31 _ _ _)
  rfl

theorem state_A (h : t.val % 16 = 0) : (outsAt0 m c t.val t.isLt).2.2.2 = k0_pay2 (F := Ideal) (outsAt0 m c t.val t.isLt).2.1 := by
  rw [outsAt0_A m c t h]
  frame_out

theorem out_A (h : t.val % 16 = 0) : (outsAt0 m c t.val t.isLt).1
    = pointOut m c t (windowA m c t 7 (by norm_num)) (windowA m c t 6 (by norm_num)) (windowA m c t 5 (by norm_num))
      (k0_pay5 (iblk m c 3 t)) := by
  rw [outsAt0_A m c t h]
  frame_out
  unfold pointOut
  refine congrArg (fun z => k0_pay3 z (iblk m c 1 t)) ?_
  refine concat_congr (fun n => pointChain m c t (windowA m c t 7 (by norm_num)) (windowA m c t 6 (by norm_num)) (windowA m c t 5 (by norm_num))
      (k0_pay5 (iblk m c 3 t)) n) _ ?_ _ _
  frame_out
  rfl

/-- The carried window at a later point of a sequence. -/
abbrev windowB (k : ℕ) (hk : k ≤ 8) (old : Vec Ideal S1x264x1024 .f32) : Vec Ideal S1x256x1024 .f32 :=
  View.ld (View.read (Elt Ideal) (View.whole cc0_scratch0) ((View.whole cc0_scratch0).writes (Elt Ideal)
    ((Memref.isWhole_whole cc0_scratch0).unread old)
    [⟨Rect.unit ![0, 8, 0] ![1, 256, 1024] inb_S1x264x1024_S1x256x1024_0_8_0, k0_pay8 (iblk m c 0 t)⟩])) (rowsFrom k hk)

/-- What the point before left. -/
abbrev before : Vec Ideal S256x1024 .f32 × Vec Ideal S1x8x1024 .f32 × Vec Ideal S1x264x1024 .f32 × Vec Ideal S1x1x1024 .f32 := outsAt0 m c (t.val - 1) (Nat.lt_of_le_of_lt (Nat.sub_le t.val 1) t.isLt)

theorem last_B (h : ¬ t.val % 16 = 0) : (outsAt0 m c t.val t.isLt).2.1
    = pointChain m c t (windowB m c t 7 (by norm_num) (before m c t).2.2.1) (windowB m c t 6 (by norm_num) (before m c t).2.2.1)
      (windowB m c t 5 (by norm_num) (before m c t).2.2.1) (before m c t).2.2.2 31 := by
  rw [outsAt0_B m c t h]
  frame_out [read_unread_whole]
  unfold pointChain
  refine Eq.trans ?_ (chain31 _ _ _)
  rfl

theorem out_B (h : ¬ t.val % 16 = 0) : (outsAt0 m c t.val t.isLt).1
    = pointOut m c t (windowB m c t 7 (by norm_num) (before m c t).2.2.1) (windowB m c t 6 (by norm_num) (before m c t).2.2.1)
      (windowB m c t 5 (by norm_num) (before m c t).2.2.1) (before m c t).2.2.2 := by
  rw [outsAt0_B m c t h]
  frame_out
  unfold pointOut
  refine congrArg (fun z => k0_pay3 z (iblk m c 1 t)) ?_
  refine concat_congr (fun n => pointChain m c t (windowB m c t 7 (by norm_num) (before m c t).2.2.1)
    (windowB m c t 6 (by norm_num) (before m c t).2.2.1) (windowB m c t 5 (by norm_num) (before m c t).2.2.1)
    (before m c t).2.2.2 n) _ ?_ _ _
  frame_out [read_unread_whole]
  rfl

theorem state_B (h : ¬ t.val % 16 = 0) : (outsAt0 m c t.val t.isLt).2.2.2 = k0_pay2 (F := Ideal) (outsAt0 m c t.val t.isLt).2.1 := by
  rw [outsAt0_B m c t h]
  frame_out

end Cert.Rglru
-- ==== Proof.Windows.lean ====
/-
  The carried window at an index: the rows of the block written over it, and under those the rows carried into the point.
-/
module

public import proofs.«01_k».proof.Proof.Pieces
public import Idealize.ShloMosaic.Lib.WritesUnit

@[expose] public section

set_option maxRecDepth 16384

noncomputable section

namespace Cert.Rglru

open Idealize.ShloMosaic Idealize.ShloMosaic.TcCoe Idealize.ShloMosaic.Tactic Idealize.SL Idealize.SL.Sem
open Cert.KernelIdeal Cert.KernelIdeal.Gen

variable (m : (ℓ : Loc nD τ sig) → Buf (Elt Ideal) ℓ) (c : Dev nD) (t : Fin cfg0.N)

section
variable (f : (View.whole (κ := .tc) cc0_scratch0).ty.Contents (Elt Ideal)) (L : List (View.Piece (Elt Ideal) S1x264x1024 .f32))

/-- A row written by the store of the block. -/
theorem block_row (X : Vec Ideal S1x256x1024 .f32) (q : Fin 264) (r : Fin 256) (hq : q.val = 8 + r.val) (w : Fin 1024) :
    View.read (Elt Ideal) (View.whole cc0_scratch0) ((View.whole cc0_scratch0).writes (Elt Ideal) f
      (⟨Rect.unit ![0, 8, 0] ![1, 256, 1024] inb_S1x264x1024_S1x256x1024_0_8_0, X⟩ :: L)) (ix3 0 q w) = X (ix3 0 r w) :=
  View.read_writes_cons_unit_of_mem _ f _ X L (ix3 0 q w) (ix3 0 r w) rfl
    (fun a => by fin_cases a <;> simp [ix3, hq])

/-- A row the store of the block leaves. -/
theorem block_skip (X : Vec Ideal S1x256x1024 .f32) (q : Fin 264) (hq : q.val < 8) (w : Fin 1024) :
    View.read (Elt Ideal) (View.whole cc0_scratch0) ((View.whole cc0_scratch0).writes (Elt Ideal) f
      (⟨Rect.unit ![0, 8, 0] ![1, 256, 1024] inb_S1x264x1024_S1x256x1024_0_8_0, X⟩ :: L)) (ix3 0 q w)
      = View.read (Elt Ideal) (View.whole cc0_scratch0) ((View.whole cc0_scratch0).writes (Elt Ideal) f L) (ix3 0 q w) :=
  View.read_writes_cons_unit_of_not_mem _ f _ X L (ix3 0 q w) rfl 1 (Or.inl (show q.val < 8 from hq))

/-- A row written by a store of the first eight rows. -/
theorem head_row (X : Vec Ideal S1x8x1024 .f32) (q : Fin 264) (r : Fin 8) (hq : q.val = r.val) (w : Fin 1024) :
    View.read (Elt Ideal) (View.whole cc0_scratch0) ((View.whole cc0_scratch0).writes (Elt Ideal) f
      (⟨Rect.unit ![0, 0, 0] ![1, 8, 1024] inb_S1x264x1024_S1x8x1024_0_0_0, X⟩ :: L)) (ix3 0 q w) = X (ix3 0 r w) :=
  View.read_writes_cons_unit_of_mem _ f _ X L (ix3 0 q w) (ix3 0 r w) rfl
    (fun a => by fin_cases a <;> simp [ix3, hq])

end

theorem rows_idx (k : ℕ) (hk : k ≤ 8) (r : Fin 256) (w : Fin 1024) :
    (rowsFrom k hk).toLoadRect.idx (ix3 0 r w) = ix3 0 (⟨k + r.val, by omega⟩ : Fin 264) w :=
  funext fun a => Fin.ext (by fin_cases a <;> simp [rowsFrom, LoadRect.idx, Rect.toLoadRect, Rect.unit, ix3])

theorem pay8_apply (x : Vec Ideal S256x1024 .f32) (r : Fin 256) (w : Fin 1024) : k0_pay8 x (ix3 0 r w) = x (ix2 r w) := by
  pointwise [k0_pay8, k0_pay6]

theorem pay4_apply (x : Vec Ideal S1x8x1024 .f32) (r : Fin 8) (w : Fin 1024) : k0_pay4 x (ix3 0 r w) = x (ix3 0 r w) := by
  pointwise [k0_pay4]

theorem tail_apply (x : Vec Ideal S256x1024 .f32) (r : Fin 8) (w : Fin 1024) :
    k0_pay11 (k0_pay6 x) (ix3 0 r w) = x (ix2 (⟨248 + r.val, by omega⟩ : Fin 256) w) := by
  pointwise [k0_pay11, k0_pay6]

theorem windowA_old (k : ℕ) (hk : k ≤ 8) (r : Fin 256) (w : Fin 1024) (h : k + r.val < 8) :
    windowA m c t k hk (ix3 0 r w) = iblk m c 2 t (ix3 0 (⟨k + r.val, h⟩ : Fin 8) w) := by
  unfold windowA
  rw [View.readCov_eq_canon']
  dsimp only
  rw [rows_idx, ← View.read_writes_junk_apply_eq_canon (View.whole cc0_scratch0), block_skip _ _ _ _ h,
    head_row _ _ _ _ (⟨k + r.val, h⟩ : Fin 8) rfl, pay4_apply]

theorem windowA_new (k : ℕ) (hk : k ≤ 8) (r : Fin 256) (w : Fin 1024) (h : 8 ≤ k + r.val) :
    windowA m c t k hk (ix3 0 r w) = iblk m c 0 t (ix2 (⟨k + r.val - 8, by omega⟩ : Fin 256) w) := by
  unfold windowA
  rw [View.readCov_eq_canon']
  dsimp only
  rw [rows_idx, ← View.read_writes_junk_apply_eq_canon (View.whole cc0_scratch0),
    block_row _ _ _ _ (⟨k + r.val - 8, by omega⟩ : Fin 256) (by simp; omega), pay8_apply]

theorem windowB_old (k : ℕ) (hk : k ≤ 8) (old : Vec Ideal S1x264x1024 .f32) (r : Fin 256) (w : Fin 1024) (h : k + r.val < 8) :
    windowB m c t k hk old (ix3 0 r w) = old (ix3 0 (⟨k + r.val, by omega⟩ : Fin 264) w) := by
  unfold windowB
  show View.read _ _ _ ((rowsFrom k hk).toLoadRect.idx (ix3 0 r w)) = _
  rw [rows_idx, block_skip _ _ _ _ h, View.writes_nil, read_unread_whole]

theorem windowB_new (k : ℕ) (hk : k ≤ 8) (old : Vec Ideal S1x264x1024 .f32) (r : Fin 256) (w : Fin 1024) (h : 8 ≤ k + r.val) :
    windowB m c t k hk old (ix3 0 r w) = iblk m c 0 t (ix2 (⟨k + r.val - 8, by omega⟩ : Fin 256) w) := by
  unfold windowB
  show View.read _ _ _ ((rowsFrom k hk).toLoadRect.idx (ix3 0 r w)) = _
  rw [rows_idx, block_row _ _ _ _ (⟨k + r.val - 8, by omega⟩ : Fin 256) (by simp; omega), pay8_apply]

/-- What a point leaves in the window's first rows: the last rows of its block. -/
theorem carried (r : Fin 8) (w : Fin 1024) :
    (outsAt0 m c t.val t.isLt).2.2.1 (ix3 0 (⟨r.val, by omega⟩ : Fin 264) w)
      = iblk m c 0 t (ix2 (⟨248 + r.val, by omega⟩ : Fin 256) w) := by
  by_cases h : t.val % 16 = 0
  · rw [outsAt0_A m c t h]
    frame_out
    rw [← View.read_writes_junk_apply_eq_canon (View.whole cc0_scratch0), head_row _ _ _ _ r rfl, tail_apply]
  · rw [outsAt0_B m c t h]
    frame_out
    rw [← View.read_writes_junk_apply_eq_canon (View.whole cc0_scratch0), head_row _ _ _ _ r rfl, tail_apply]

/-- What a point leaves as the state: the last row of its last group. -/
theorem carriedState (w : Fin 1024) : (outsAt0 m c t.val t.isLt).2.2.2 (ix3 0 0 w) = (outsAt0 m c t.val t.isLt).2.1 (ix3 0 7 w) := by
  have e : (outsAt0 m c t.val t.isLt).2.2.2 = k0_pay2 (F := Ideal) (outsAt0 m c t.val t.isLt).2.1 := by
    by_cases h : t.val % 16 = 0
    · exact state_A m c t h
    · exact state_B m c t h
  rw [e]
  generalize (outsAt0 m c t.val t.isLt).2.1 = g
  pointwise [k0_pay2]

end Cert.Rglru
-- ==== Proof.Operands.lean ====
/-
  The blocks a grid point reads, in terms of the program's arguments.
-/
module

public import proofs.«01_k».proof.Proof.Windows
public import proofs.«01_k».proof.Proof.Spec
public import Idealize.ShloMosaic.Lib.Claim

@[expose] public section

set_option maxRecDepth 16384

noncomputable section

namespace Cert.Rglru

open Idealize.ShloMosaic Idealize.ShloMosaic.TcCoe Idealize.ShloMosaic.Tactic Idealize.SL Idealize.SL.Sem
open Cert.KernelIdeal Cert.KernelIdeal.Gen

variable (m : (ℓ : Loc nD τ sig) → Buf (Elt Ideal) ℓ) (c : Dev nD) (t : Fin cfg0.N)

/-- The recurrence's inputs in the program's arguments. -/
abbrev argInputs : Inputs := inputs (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

theorem coord1 : ∀ t : Fin cfg0.N, (grid0.coords t 1).val = t.val % 16 :=
  (by decide +kernel : ∀ t : Fin grid0.N, (grid0.coords t 1).val = t.val % 16)

theorem index0 : ∀ t : Fin cfg0.N, win0_0.index t 0 = t.val ∧ win0_0.index t 1 = 3 :=
  (by decide +kernel : ∀ t : Fin grid0.N, win0_0.index t 0 = t.val ∧ win0_0.index t 1 = 3)
theorem index1 : ∀ t : Fin cfg0.N, win0_1.index t 0 = t.val ∧ win0_1.index t 1 = 4 :=
  (by decide +kernel : ∀ t : Fin grid0.N, win0_1.index t 0 = t.val ∧ win0_1.index t 1 = 4)

theorem lt_N (t : Fin cfg0.N) : t.val < 64 := t.isLt

theorem x_read (r : Fin 256) (w : Fin 1024) :
    iblk m c 0 t (ix2 r w) = m ((c : Thread nD τ).loc main_arg0)
      (ix2 (⟨t.val * 256 + r.val, by have := lt_N t; omega⟩ : Fin 16384) (⟨3072 + w.val, by omega⟩ : Fin 7168)) := by
  blk_ext [iblk, V, index0 t]

theorem y_read (r : Fin 256) (w : Fin 1024) :
    iblk m c 1 t (ix2 r w) = m ((c : Thread nD τ).loc main_arg0)
      (ix2 (⟨t.val * 256 + r.val, by have := lt_N t; omega⟩ : Fin 16384) (⟨4096 + w.val, by omega⟩ : Fin 7168)) := by
  blk_ext [iblk, V, index1 t]

theorem index4 : win0_4.index t 0 = 0 ∧ win0_4.index t 1 = 0 := ⟨rfl, rfl⟩
theorem index5 : win0_5.index t 0 = 0 ∧ win0_5.index t 1 = 0 := ⟨rfl, rfl⟩
theorem index7 : win0_7.index t 0 = 0 ∧ win0_7.index t 1 = 0 := ⟨rfl, rfl⟩
theorem index8 : win0_8.index t 0 = 0 ∧ win0_8.index t 1 = 0 := ⟨rfl, rfl⟩
theorem index9 : win0_9.index t 0 = 0 ∧ win0_9.index t 1 = 0 := ⟨rfl, rfl⟩
theorem index6 : win0_6.index t 0 = 0 ∧ win0_6.index t 1 = 0 ∧ win0_6.index t 2 = 0 := ⟨rfl, rfl, rfl⟩

theorem tail_read (r : Fin 8) (w : Fin 1024) : iblk m c 2 t (ix3 0 r w) = (0 : EReal) := by
  unfold iblk
  entry_read
  blk_simp
  pointwise

theorem h0_read (w : Fin 1024) : iblk m c 3 t (ix3 0 0 w) = (0 : EReal) := by
  unfold iblk
  entry_read
  blk_simp
  pointwise

theorem cw_read (k : Fin 4) (w : Fin 1024) : iblk m c 4 t (ix2 k w) = m ((c : Thread nD τ).loc main_arg1) (ix3 0 k w) := by
  unfold iblk
  entry_read
  have e : (win0_4.blk t).view.emb (ix2 k w) = ix2 k w := by blk_ext [index4 t]
  blk_simp
  rw [e]
  pointwise

theorem cb_read (w : Fin 1024) : iblk m c 5 t (ix2 0 w) = m ((c : Thread nD τ).loc main_arg2) (ix2 0 w) := by
  unfold iblk
  entry_read
  have e : (win0_5.blk t).view.emb (ix2 0 w) = ix2 0 w := by blk_ext [index5 t]
  blk_simp
  rw [e]
  pointwise

theorem bgx_read (w : Fin 1024) : iblk m c 7 t (ix2 0 w) = m ((c : Thread nD τ).loc main_arg4) (ix2 0 w) := by
  unfold iblk
  entry_read
  have e : (win0_7.blk t).view.emb (ix2 0 w) = ix2 0 w := by blk_ext [index7 t]
  blk_simp
  rw [e]
  pointwise

theorem bga_read (w : Fin 1024) : iblk m c 8 t (ix2 0 w) = m ((c : Thread nD τ).loc main_arg6) (ix2 0 w) := by
  unfold iblk
  entry_read
  have e : (win0_8.blk t).view.emb (ix2 0 w) = ix2 0 w := by blk_ext [index8 t]
  blk_simp
  rw [e]
  pointwise

theorem ap_read (w : Fin 1024) : iblk m c 9 t (ix2 0 w) = m ((c : Thread nD τ).loc main_arg7) (ix2 0 w) := by
  unfold iblk
  entry_read
  have e : (win0_9.blk t).view.emb (ix2 0 w) = ix2 0 w := by blk_ext [index9 t]
  blk_simp
  rw [e]
  pointwise

end Cert.Rglru
-- ==== Proof.Weights.lean ====
/-
  The gates' weights: two blocks of 64 channels on the diagonal of one of 128, so a sum over 128 channels is one over 64.
-/
module

public import proofs.«01_k».proof.Proof.Operands
public import Idealize.ShloMosaic.Lib.Claim

@[expose] public section

set_option maxRecDepth 16384

noncomputable section

namespace Cert.Rglru

open Idealize.ShloMosaic Idealize.ShloMosaic.TcCoe Idealize.ShloMosaic.Tactic Idealize.SL Idealize.SL.Sem
open Cert.KernelIdeal Cert.KernelIdeal.Gen

variable (m : (ℓ : Loc nD τ sig) → Buf (Elt Ideal) ℓ) (c : Dev nD) (t : Fin cfg0.N)

/-- The identity's element, as a number. -/
theorem diag_apply (a b : ℕ) (ha : a < 2) (hb : b < 2) :
    FloatOps.uitofp (F := Ideal) .f32 (IntOp.cmpi .eq (IntOp.addi (BitVec.ofNat 32 a) 0#32) (BitVec.ofNat 32 b))
      = if a = b then (1 : EReal) else 0 := by
  interval_cases a <;> interval_cases b <;> simp [IntOp.cmpi, IntOp.addi, FloatOps.uitofp]

theorem wgx_read (X : Vec Ideal S1x16x64x64 .f32) (hX : m ((c : Thread nD τ).loc main_arg3) = X) (g : Fin 8) (k j : Fin 128) :
    iblk m c 6 t (ix3 g k (⟨j.val, by omega⟩ : Fin 256))
      = X (ix4 0 (⟨g.val * 2 + k.val / 64, by omega⟩ : Fin 16) (⟨k.val % 64, by omega⟩ : Fin 64)
          (⟨j.val % 64, by omega⟩ : Fin 64)) * (if k.val / 64 = j.val / 64 then (1 : EReal) else 0) := by
  unfold iblk
  entry_read
  have e : (win0_6.blk t).view.emb (ix3 g k (⟨j.val, by omega⟩ : Fin 256)) = ix3 g k (⟨j.val, by omega⟩ : Fin 256) := by
    blk_ext [index6 t]
  blk_simp
  rw [e]
  subst hX
  generalize hz : _ * (if k.val / 64 = j.val / 64 then (1 : EReal) else 0) = z
  pointwise
  refine Eq.trans (congrArg (fun y : EReal => (_ : EReal) * y)
    (diag_apply (k.val / 64) (j.val / 64) (by omega) (by omega))) ?_
  exact hz

theorem wga_read (X : Vec Ideal S1x16x64x64 .f32) (hX : m ((c : Thread nD τ).loc main_arg5) = X) (g : Fin 8) (k j : Fin 128) :
    iblk m c 6 t (ix3 g k (⟨128 + j.val, by omega⟩ : Fin 256))
      = X (ix4 0 (⟨g.val * 2 + k.val / 64, by omega⟩ : Fin 16) (⟨k.val % 64, by omega⟩ : Fin 64)
          (⟨j.val % 64, by omega⟩ : Fin 64)) * (if k.val / 64 = j.val / 64 then (1 : EReal) else 0) := by
  unfold iblk
  entry_read
  have e : (win0_6.blk t).view.emb (ix3 g k (⟨128 + j.val, by omega⟩ : Fin 256)) = ix3 g k (⟨128 + j.val, by omega⟩ : Fin 256) := by
    blk_ext [index6 t]
  blk_simp
  rw [e]
  subst hX
  generalize hz : _ * (if k.val / 64 = j.val / 64 then (1 : EReal) else 0) = z
  pointwise
  refine Eq.trans (congrArg (fun y : EReal => (_ : EReal) * y)
    (diag_apply (k.val / 64) (j.val / 64) (by omega) (by omega))) ?_
  exact hz

/-- A sum over a block of 128 whose terms outside one half vanish. -/
theorem sum_half (f : Fin 128 → EReal) (W : Fin 64 → EReal) (a : Fin 2) (q : ℕ) (hq : q / 64 = a.val) (u : Fin 128 → EReal)
    (hf : ∀ k, f k = u k * (W ⟨k.val % 64, by omega⟩ * (if k.val / 64 = q / 64 then (1 : EReal) else 0))) :
    ∑ k : Fin 128, f k = ∑ k : Fin 64, W k * u ⟨a.val * 64 + k.val, by omega⟩ := by
  have e : ∑ k : Fin 128, f k = ∑ x : Fin 2 × Fin 64, f ⟨x.1.val * 64 + x.2.val, by omega⟩ :=
    (Fintype.sum_equiv (finProdFinEquiv (m := 2) (n := 64)) _ _ (fun x => by
      refine congrArg f (Fin.ext ?_)
      show x.1.val * 64 + x.2.val = x.2.val + 64 * x.1.val
      omega)).symm
  rw [e, Fintype.sum_prod_type, Finset.sum_eq_single a]
  · refine Finset.sum_congr rfl fun k _ => ?_
    have e1 : (a.val * 64 + k.val) / 64 = a.val := by omega
    have e2 : (⟨(a.val * 64 + k.val) % 64, by omega⟩ : Fin 64) = k := Fin.ext (by show (a.val * 64 + k.val) % 64 = k.val; omega)
    rw [hf]
    dsimp only
    rw [e1, hq, if_pos rfl, mul_one, mul_comm, e2]
  · intro b _ hb
    refine Finset.sum_eq_zero fun k _ => ?_
    have e1 : (b.val * 64 + k.val) / 64 = b.val := by omega
    rw [hf]
    dsimp only
    rw [e1, hq, if_neg (fun h => hb (Fin.ext h)), mul_zero, mul_zero]
  · intro h; exact absurd (Finset.mem_univ _) h

end Cert.Rglru
-- ==== Proof.Point.lean ====
/-
  A grid point's results in the recurrence's terms, given what it was entered with.
-/
module

public import proofs.«01_k».proof.Proof.Weights
public import Idealize.ShloMosaic.Lib.Claim

@[expose] public section

set_option maxRecDepth 16384

noncomputable section

namespace Cert.Rglru

open Idealize.ShloMosaic Idealize.ShloMosaic.TcCoe Idealize.ShloMosaic.Tactic Idealize.SL Idealize.SL.Sem
open Cert.KernelIdeal Cert.KernelIdeal.Gen

variable (m : (ℓ : Loc nD τ sig) → Buf (Elt Ideal) ℓ) (c : Dev nD) (t : Fin cfg0.N)

/-- The point's sequence. -/
abbrev seqOf : Fin 4 := ⟨t.val / 16, by have := lt_N t; omega⟩

/-- The block's rows as the sequence's steps. -/
theorem x_step (r : Fin 256) (w : Fin 1024) :
    iblk m c 0 t (ix2 r w) = xPad (argInputs m c) (seqOf t) w (256 * (t.val % 16) + r.val + 3) := by
  have ht := lt_N t
  rw [x_read]
  unfold xPad
  rw [dif_pos ⟨by omega, by omega⟩]
  refine congrArg (fun k => m ((c : Thread nD τ).loc main_arg0) (ix2 k _)) (Fin.ext ?_)
  show t.val * 256 + r.val = t.val / 16 * 4096 + (256 * (t.val % 16) + r.val + 3 - 3)
  omega

/-- Before the first step the padded input is 0. -/
theorem xPad_zero (I : Inputs) (b : Fin 4) (w : Fin 1024) {q : ℕ} (h : q < 3) : xPad I b w q = 0 :=
  dif_neg (fun e => by omega)

/-- The point's place is the first exactly when its word is 0. -/
theorem place_zero (n : ℕ) (h : n < 256) : (placeOf t = 0#32 ∧ n = 0) ↔ 256 * (t.val % 16) + n = 0 := by
  have e : placeOf t = 0#32 ↔ t.val % 16 = 0 := by
    unfold placeOf
    rw [coord1]
    constructor
    · intro h
      have := congrArg BitVec.toNat h
      simp at this
      omega
    · intro h
      rw [h]
  rw [e]
  omega

theorem good_aStep (I : Inputs) (b : Fin 4) (q : ℕ) (w : Fin 1024) : Good (aStep I b q w) := by
  unfold aStep
  split_ifs
  · exact good_zero
  · exact good_exp (logDecay_ne_top (logistic_nonneg _) _)

/-- The states from step `lo` on. -/
theorem state_add (I : Inputs) (b : Fin 4) (w : Fin 1024) (lo n : ℕ) :
    run (fun q => aStep I b (lo + q) w) (fun q => bStep I b (lo + q) w) 0 n (state I b w lo) = state I b w (lo + n) := by
  unfold state
  rw [run_add]
  exact run_congr _ fun i _ => by rw [Nat.zero_add, Nat.zero_add]; exact ⟨rfl, rfl⟩

theorem gated_apply (h : FVec Ideal S1x256x1024 .f32) (y : Vec Ideal S256x1024 .f32) (q : Fin 256) (w : Fin 1024) :
    k0_pay3 h y (ix2 q w) = h (ix3 0 q w) * gelu (y (ix2 q w)) := by
  unfold gelu
  rw [mul_assoc (y (ix2 q w)) (y (ix2 q w)) (y (ix2 q w))]
  pointwise [k0_pay3]

section
variable (v20 v26 v32 : Vec Ideal S1x256x1024 .f32)
  (h20 : ∀ (r : Fin 256) (w : Fin 1024), v20 (ix3 0 r w) = xPad (argInputs m c) (seqOf t) w (256 * (t.val % 16) + r.val + 2))
  (h26 : ∀ (r : Fin 256) (w : Fin 1024), v26 (ix3 0 r w) = xPad (argInputs m c) (seqOf t) w (256 * (t.val % 16) + r.val + 1))
  (h32 : ∀ (r : Fin 256) (w : Fin 1024), v32 (ix3 0 r w) = xPad (argInputs m c) (seqOf t) w (256 * (t.val % 16) + r.val))
include h20 h26 h32

theorem pointConv_apply (r : Fin 256) (w : Fin 1024) :
    pointConv m c t v20 v26 v32 (ix2 r w) = conv (argInputs m c) (seqOf t) (256 * (t.val % 16) + r.val) w := by
  unfold pointConv
  rw [conv_apply, h20, h26, h32, x_step, cw_read, cw_read, cw_read, cw_read, cb_read]
  rfl

/-- A gate's sum over the 128 channels of its block. -/
theorem gate_sum (W : Fin 16 → Fin 64 → Fin 64 → EReal) (r : Fin 256) (w : Fin 1024) (V : Fin 128 → EReal)
    (hV : ∀ k : Fin 128, V k = W (⟨w.val / 128 * 2 + k.val / 64, by omega⟩ : Fin 16) (⟨k.val % 64, by omega⟩ : Fin 64)
      (⟨w.val % 128 % 64, by omega⟩ : Fin 64) * (if k.val / 64 = w.val % 128 / 64 then (1 : EReal) else 0)) :
    ∑ k : Fin 128, pointConv m c t v20 v26 v32 (ix2 r ⟨128 * (w.val / 128) + k.val, by omega⟩) * V k
      = ∑ k : Fin 64, W ⟨w.val / 64, by omega⟩ k ⟨w.val % 64, by omega⟩
        * conv (argInputs m c) (seqOf t) (256 * (t.val % 16) + r.val) ⟨w.val / 64 * 64 + k.val, by omega⟩ := by
  refine (sum_half _ (fun k => W ⟨w.val / 64, by omega⟩ k ⟨w.val % 64, by omega⟩)
    (⟨w.val % 128 / 64, by omega⟩ : Fin 2) (w.val % 128) rfl
    (fun k => conv (argInputs m c) (seqOf t) (256 * (t.val % 16) + r.val) ⟨128 * (w.val / 128) + k.val, by omega⟩) fun k => ?_).trans ?_
  · rw [pointConv_apply m c t v20 v26 v32 h20 h26 h32, hV]
    refine congrArg (fun z : EReal => conv (argInputs m c) (seqOf t) (256 * (t.val % 16) + r.val) ⟨128 * (w.val / 128) + k.val, by omega⟩ * z) ?_
    by_cases h : k.val / 64 = w.val % 128 / 64
    · rw [if_pos h]
      have e1 : (⟨w.val / 128 * 2 + k.val / 64, by omega⟩ : Fin 16) = ⟨w.val / 64, by omega⟩ :=
        Fin.ext (by show w.val / 128 * 2 + k.val / 64 = w.val / 64; omega)
      have e2 : (⟨w.val % 128 % 64, by omega⟩ : Fin 64) = ⟨w.val % 64, by omega⟩ :=
        Fin.ext (by show w.val % 128 % 64 = w.val % 64; omega)
      rw [e1, e2]
    · rw [if_neg h, mul_zero, mul_zero]
  · refine Finset.sum_congr rfl fun k _ => ?_
    have e : (⟨128 * (w.val / 128) + (w.val % 128 / 64 * 64 + k.val), by omega⟩ : Fin 1024) = ⟨w.val / 64 * 64 + k.val, by omega⟩ :=
      Fin.ext (by show 128 * (w.val / 128) + (w.val % 128 / 64 * 64 + k.val) = w.val / 64 * 64 + k.val; omega)
    exact congrArg (fun z : Fin 1024 => W ⟨w.val / 64, by omega⟩ k ⟨w.val % 64, by omega⟩
      * conv (argInputs m c) (seqOf t) (256 * (t.val % 16) + r.val) z) e

theorem pointGx_apply (r : Fin 256) (w : Fin 1024) :
    pointGx m c t v20 v26 v32 (ix2 r w)
      = gate (argInputs m c) (seqOf t) (256 * (t.val % 16) + r.val) w (argInputs m c).wgx (argInputs m c).bgx := by
  unfold pointGx
  rw [gx_apply, bgx_read]
  unfold gate
  refine congrArg (fun z : EReal => Ideal.logistic (z + (argInputs m c).bgx w)) ?_
  refine gate_sum m c t v20 v26 v32 h20 h26 h32 (argInputs m c).wgx r w _ fun k => ?_
  have e : (⟨0 + w.val % 128, by omega⟩ : Fin 256) = ⟨w.val % 128, by omega⟩ := Fin.ext (Nat.zero_add _)
  rw [e]
  exact wgx_read m c t _ rfl ⟨w.val / 128, by omega⟩ k ⟨w.val % 128, by omega⟩

theorem pointGa_apply (r : Fin 256) (w : Fin 1024) :
    pointGa m c t v20 v26 v32 (ix2 r w)
      = gate (argInputs m c) (seqOf t) (256 * (t.val % 16) + r.val) w (argInputs m c).wga (argInputs m c).bga := by
  unfold pointGa
  rw [ga_apply, bga_read]
  unfold gate
  refine congrArg (fun z : EReal => Ideal.logistic (z + (argInputs m c).bga w)) ?_
  refine gate_sum m c t v20 v26 v32 h20 h26 h32 (argInputs m c).wga r w _ fun k => ?_
  exact wga_read m c t _ rfl ⟨w.val / 128, by omega⟩ k ⟨w.val % 128, by omega⟩

theorem decay_point (g : Fin 32) (r : Fin 8) (w : Fin 1024) :
    decayV (placeOf t) (pointGa m c t v20 v26 v32) (iblk m c 9 t) (ix3 g r w)
      = aStep (argInputs m c) (seqOf t) (256 * (t.val % 16) + (8 * g.val + r.val)) w := by
  have e : g.val * 8 + r.val = 8 * g.val + r.val := by omega
  rw [decayV_apply, pointGa_apply m c t v20 v26 v32 h20 h26 h32, ap_read]
  unfold aStep logA
  dsimp only
  simp only [e, place_zero t _ (show 8 * g.val + r.val < 256 by omega)]
  rfl

theorem input_point (g : Fin 32) (r : Fin 8) (w : Fin 1024) :
    inputV (placeOf t) (pointConv m c t v20 v26 v32) (pointGx m c t v20 v26 v32) (pointGa m c t v20 v26 v32) (iblk m c 9 t) (ix3 g r w)
      = bStep (argInputs m c) (seqOf t) (256 * (t.val % 16) + (8 * g.val + r.val)) w := by
  have e : g.val * 8 + r.val = 8 * g.val + r.val := by omega
  rw [inputV_apply, pointGa_apply m c t v20 v26 v32 h20 h26 h32, pointGx_apply m c t v20 v26 v32 h20 h26 h32,
    pointConv_apply m c t v20 v26 v32 h20 h26 h32, ap_read]
  unfold bStep logA
  dsimp only
  simp only [e, place_zero t _ (show 8 * g.val + r.val < 256 by omega)]
  rfl

variable (c0 : Vec Ideal S1x1x1024 .f32)
  (hc : ∀ w : Fin 1024, c0 (ix3 0 0 w) = state (argInputs m c) (seqOf t) w (256 * (t.val % 16)))
include hc

theorem pointChain_apply (n : Fin 32) (r : Fin 8) (w : Fin 1024) :
    pointChain m c t v20 v26 v32 c0 n (ix3 0 r w)
      = state (argInputs m c) (seqOf t) w (256 * (t.val % 16) + (8 * n.val + (r.val + 1))) := by
  rw [← state_add, ← hc]
  exact chain_apply (a := fun q => aStep (argInputs m c) (seqOf t) (256 * (t.val % 16) + q) w)
    (b := fun q => bStep (argInputs m c) (seqOf t) (256 * (t.val % 16) + q) w) w
    (fun g r => decay_point m c t v20 v26 v32 h20 h26 h32 g r w) (fun g r => input_point m c t v20 v26 v32 h20 h26 h32 g r w)
    (fun q => good_aStep _ _ _ _) c0 n.val n.isLt r

theorem pointOut_apply (q : Fin 256) (w : Fin 1024) :
    pointOut m c t v20 v26 v32 c0 (ix2 q w)
      = state (argInputs m c) (seqOf t) w (256 * (t.val % 16) + (q.val + 1)) * gelu (iblk m c 1 t (ix2 q w)) := by
  unfold pointOut
  rw [gated_apply, ← state_add, ← hc]
  refine congrArg (fun z : EReal => z * gelu (iblk m c 1 t (ix2 q w))) ?_
  exact groups_apply (a := fun q => aStep (argInputs m c) (seqOf t) (256 * (t.val % 16) + q) w)
    (b := fun q => bStep (argInputs m c) (seqOf t) (256 * (t.val % 16) + q) w) w
    (fun g r => decay_point m c t v20 v26 v32 h20 h26 h32 g r w) (fun g r => input_point m c t v20 v26 v32 h20 h26 h32 g r w)
    (fun q => good_aStep _ _ _ _) c0 _ q
end

end Cert.Rglru
-- ==== Proof.Sweep.lean ====
/-
  The points in order: each is entered with the rows and the state the point before left, a sequence's first one with zeros.
-/
module

public import proofs.«01_k».proof.Proof.Point
public import proofs.«01_k».proof.Proof.Gen.KernelIdeal.Value
public import Idealize.ShloMosaic.Lib.Claim

@[expose] public section

set_option maxRecDepth 16384

noncomputable section

namespace Cert.Rglru

open Idealize.ShloMosaic Idealize.ShloMosaic.TcCoe Idealize.ShloMosaic.Tactic Idealize.SL Idealize.SL.Sem
open Cert.KernelIdeal Cert.KernelIdeal.Gen Cert.KernelIdeal.Value

variable (m : (ℓ : Loc nD τ sig) → Buf (Elt Ideal) ℓ) (c : Dev nD) (t : Fin cfg0.N)

theorem pay5_apply (x : Vec Ideal S1x1x1024 .f32) (w : Fin 1024) : k0_pay5 x (ix3 0 0 w) = x (ix3 0 0 w) := by
  pointwise [k0_pay5]

/-- The windows of a sequence's first point. -/
theorem windowA_step (h : t.val % 16 = 0) (k : ℕ) (hk : k ≤ 8) (hk5 : 5 ≤ k) (hk7 : k ≤ 7) (r : Fin 256) (w : Fin 1024) :
    windowA m c t k hk (ix3 0 r w) = xPad (argInputs m c) (seqOf t) w (256 * (t.val % 16) + r.val + (k - 5)) := by
  by_cases hr : k + r.val < 8
  · rw [windowA_old m c t k hk r w hr, tail_read, xPad_zero _ _ _ (by omega)]
  · rw [windowA_new m c t k hk r w (by omega), x_step]
    exact congrArg (xPad _ _ _) (by show 256 * (t.val % 16) + (k + r.val - 8) + 3 = _; omega)

/-- The windows of a later point. -/
theorem windowB_step (h : ¬ t.val % 16 = 0) (k : ℕ) (hk : k ≤ 8) (hk5 : 5 ≤ k) (r : Fin 256) (w : Fin 1024) :
    windowB m c t k hk (before m c t).2.2.1 (ix3 0 r w)
      = xPad (argInputs m c) (seqOf t) w (256 * (t.val % 16) + r.val + (k - 5)) := by
  by_cases hr : k + r.val < 8
  · rw [windowB_old m c t k hk _ r w hr]
    have e := carried m c ⟨t.val - 1, Nat.lt_of_le_of_lt (Nat.sub_le t.val 1) t.isLt⟩ ⟨k + r.val, hr⟩ w
    refine e.trans ?_
    rw [x_step]
    have e1 : seqOf ⟨t.val - 1, Nat.lt_of_le_of_lt (Nat.sub_le t.val 1) t.isLt⟩ = seqOf t :=
      Fin.ext (by show (t.val - 1) / 16 = t.val / 16; omega)
    rw [e1]
    exact congrArg (xPad _ _ _) (by show 256 * ((t.val - 1) % 16) + (248 + (k + r.val)) + 3 = _; omega)
  · rw [windowB_new m c t k hk _ r w (by omega), x_step]
    exact congrArg (xPad _ _ _) (by show 256 * (t.val % 16) + (k + r.val - 8) + 3 = _; omega)

/-- What a point leaves in the outputs' blocks. -/
structure Leaves : Prop where
  last : ∀ (r : Fin 8) (w : Fin 1024), (outsAt0 m c t.val t.isLt).2.1 (ix3 0 r w)
    = state (argInputs m c) (seqOf t) w (256 * (t.val % 16) + (248 + (r.val + 1)))
  out : ∀ (q : Fin 256) (w : Fin 1024), (outsAt0 m c t.val t.isLt).1 (ix2 q w)
    = state (argInputs m c) (seqOf t) w (256 * (t.val % 16) + (q.val + 1)) * gelu (iblk m c 1 t (ix2 q w))

theorem leaves_A (h : t.val % 16 = 0) : Leaves m c t := by
  have hc : ∀ w : Fin 1024, k0_pay5 (iblk m c 3 t) (ix3 0 0 w) = state (argInputs m c) (seqOf t) w (256 * (t.val % 16)) := fun w => by
    rw [pay5_apply, h0_read, h]
    rfl
  constructor
  · intro r w
    rw [last_A m c t h]
    exact pointChain_apply m c t _ _ _ (windowA_step m c t h 7 (by norm_num) (by norm_num) (by norm_num))
      (windowA_step m c t h 6 (by norm_num) (by norm_num) (by norm_num))
      (windowA_step m c t h 5 (by norm_num) (by norm_num) (by norm_num)) _ hc 31 r w
  · intro q w
    rw [out_A m c t h]
    exact pointOut_apply m c t _ _ _ (windowA_step m c t h 7 (by norm_num) (by norm_num) (by norm_num))
      (windowA_step m c t h 6 (by norm_num) (by norm_num) (by norm_num))
      (windowA_step m c t h 5 (by norm_num) (by norm_num) (by norm_num)) _ hc q w

theorem leaves_B (h : ¬ t.val % 16 = 0)
    (ih : Leaves m c ⟨t.val - 1, Nat.lt_of_le_of_lt (Nat.sub_le t.val 1) t.isLt⟩) : Leaves m c t := by
  have hc : ∀ w : Fin 1024, (before m c t).2.2.2 (ix3 0 0 w) = state (argInputs m c) (seqOf t) w (256 * (t.val % 16)) := fun w => by
    refine (carriedState m c ⟨t.val - 1, Nat.lt_of_le_of_lt (Nat.sub_le t.val 1) t.isLt⟩ w).trans ?_
    rw [ih.last]
    have e1 : seqOf ⟨t.val - 1, Nat.lt_of_le_of_lt (Nat.sub_le t.val 1) t.isLt⟩ = seqOf t :=
      Fin.ext (by show (t.val - 1) / 16 = t.val / 16; omega)
    rw [e1]
    exact congrArg (state _ _ _) (by show 256 * ((t.val - 1) % 16) + (248 + (7 + 1)) = _; omega)
  constructor
  · intro r w
    rw [last_B m c t h]
    exact pointChain_apply m c t _ _ _ (windowB_step m c t h 7 (by norm_num) (by norm_num))
      (windowB_step m c t h 6 (by norm_num) (by norm_num))
      (windowB_step m c t h 5 (by norm_num) (by norm_num)) _ hc 31 r w
  · intro q w
    rw [out_B m c t h]
    exact pointOut_apply m c t _ _ _ (windowB_step m c t h 7 (by norm_num) (by norm_num))
      (windowB_step m c t h 6 (by norm_num) (by norm_num))
      (windowB_step m c t h 5 (by norm_num) (by norm_num)) _ hc q w

theorem leaves : ∀ (n : ℕ) (hn : n < cfg0.N), Leaves m c ⟨n, hn⟩
  | 0, hn => leaves_A m c ⟨0, hn⟩ rfl
  | n + 1, hn => by
    by_cases h : (n + 1) % 16 = 0
    · exact leaves_A m c ⟨n + 1, hn⟩ h
    · exact leaves_B m c ⟨n + 1, hn⟩ h (leaves n (Nat.lt_of_succ_lt hn))

/-- The first output's array. -/
theorem array_r : G10 m c = resultR (argInputs m c) := by
  funext i
  obtain ⟨r, w, rfl⟩ : ∃ (r : Fin 16384) (w : Fin 1024), i = ix2 r w := ⟨i 0, i 1, by ext a; fin_cases a <;> rfl⟩
  have hp : pt10Of (ix2 r w) = r.val / 256 := by
    show 1 * (r.val / 256 - 0) + 1 * (w.val / 1024 - 0) = _
    omega
  have hN : pt10Of (ix2 r w) < cfg0.N := by
    rw [hp]; show r.val / 256 < grid0.N; rw [N_0]; omega
  have hl : loc10Of (ix2 r w) = ix2 (⟨r.val % 256, by omega⟩ : Fin 256) w := by
    ext a
    fin_cases a
    · rfl
    · show w.val % 1024 = w.val
      omega
  unfold G10
  rw [dif_pos hN, ← outsAt0_sweep m c _ hN, hl, (leaves m c _ hN).out, y_read]
  unfold resultR
  dsimp only
  have e1 : seqOf ⟨pt10Of (ix2 r w), hN⟩ = (⟨r.val / 4096, by omega⟩ : Fin 4) := Fin.ext (by
    show pt10Of (ix2 r w) / 16 = r.val / 4096
    rw [hp]; omega)
  rw [e1]
  have e2 : 256 * (pt10Of (ix2 r w) % 16) + (r.val % 256 + 1) = r.val % 4096 + 1 := by rw [hp]; omega
  rw [e2]
  refine congrArg (fun z => state (argInputs m c) (⟨r.val / 4096, by omega⟩ : Fin 4) w (r.val % 4096 + 1)
    * gelu (m ((c : Thread nD τ).loc main_arg0) (ix2 z (⟨4096 + w.val, by omega⟩ : Fin 7168)))) (Fin.ext ?_)
  show pt10Of (ix2 r w) * 256 + r.val % 256 = r.val / 4096 * 4096 + r.val % 4096
  rw [hp]; omega

/-- The second output's array. -/
theorem array_h : G11 m c = resultH (argInputs m c) := by
  funext i
  obtain ⟨b, r, w, rfl⟩ : ∃ (b : Fin 4) (r : Fin 8) (w : Fin 1024), i = ix3 b r w := ⟨i 0, i 1, i 2, by ext a; fin_cases a <;> rfl⟩
  have hp : pt11Of (ix3 b r w) = 16 * b.val + 15 := by
    show 16 * (1 * (b.val / 1 - 0) + 1 * (r.val / 8 - 0) + 1 * (w.val / 1024 - 0)) + 15 = _
    omega
  have hN : pt11Of (ix3 b r w) < cfg0.N := by
    rw [hp]; show 16 * b.val + 15 < grid0.N; rw [N_0]; omega
  have hl : loc11Of (ix3 b r w) = ix3 0 r w := by
    ext a
    fin_cases a
    · show b.val % 1 = 0
      omega
    · show r.val % 8 = r.val
      omega
    · show w.val % 1024 = w.val
      omega
  unfold G11
  rw [dif_pos hN, ← outsAt0_sweep m c _ hN, hl, (leaves m c _ hN).last]
  unfold resultH
  have e1 : seqOf ⟨pt11Of (ix3 b r w), hN⟩ = b := Fin.ext (by
    show pt11Of (ix3 b r w) / 16 = b.val
    rw [hp]; omega)
  rw [e1]
  refine congrArg (state _ _ _) ?_
  show 256 * (pt11Of (ix3 b r w) % 16) + (248 + (r.val + 1)) = 4088 + r.val + 1
  rw [hp]; omega

end Cert.Rglru
-- ==== Proof.Block.lean ====
/-
  The output block of one token in mathematics: the gated merge, the output projection, the SwiGLU, the layer embedding
  and the final norm, each as a function of the channel.
-/
module

public import Idealize.ShloMosaic.Lib.Pointwise
public import Idealize.ShloMosaic.Lib.IdealHost

@[expose] public section

noncomputable section

namespace Cert.Block

open Idealize.ShloMosaic

/-- A row divided by its root mean square and scaled by channel: 1024 channels, and 1e-6 under the root. -/
def rms (x g : Fin 1024 → EReal) (w : Fin 1024) : EReal :=
  x w * Ideal.rsqrt (Ideal.div (∑ k : Fin 1024, x k * x k) (Ideal.ofBits .f32 0x44800000#32) + Ideal.ofBits .f32 0x358637BD#32) * g w

/-- A row times a matrix. -/
def lin {n p : ℕ} (x : Fin n → EReal) (W : Fin n → Fin p → EReal) (w : Fin p) : EReal := ∑ k : Fin n, x k * W k w

/-- What a token brings. -/
structure Token where
  x : Fin 1024 → EReal
  o : Fin 1024 → EReal
  r : Fin 1024 → EReal
  ga : Fin 1024 → EReal
  gr : Fin 1024 → EReal
  p : Fin 256 → EReal

/-- The layer's weights. -/
structure Weights where
  b0 : Fin 1024 → EReal
  b1 : Fin 1024 → EReal
  wo : Fin 1024 → Fin 1024 → EReal
  gf : Fin 1024 → EReal
  wg : Fin 1024 → Fin 2816 → EReal
  wu : Fin 1024 → Fin 2816 → EReal
  wf : Fin 2816 → Fin 1024 → EReal
  gp : Fin 1024 → EReal
  wpg : Fin 1024 → Fin 1024 → EReal
  wpp : Fin 256 → Fin 1024 → EReal
  gz : Fin 1024 → EReal

variable (T : Token) (P : Weights)

/-- The two branches merged by their gates. -/
def mix (w : Fin 1024) : EReal := Ideal.logistic (T.ga w + P.b0 w) * T.o w + Ideal.logistic (T.gr w + P.b1 w) * T.r w

/-- The residual stream after the output projection. -/
def h1 (w : Fin 1024) : EReal := T.x w + lin (mix T P) P.wo w

/-- The gated product of the SwiGLU from its two projections. -/
def glu (g u : Fin 2816 → EReal) (k : Fin 2816) : EReal := g k * Ideal.logistic (g k) * u k

/-- The stream after the SwiGLU. -/
def h2 (w : Fin 1024) : EReal := h1 T P w + lin (glu (lin (rms (h1 T P) P.gf) P.wg) (lin (rms (h1 T P) P.gf) P.wu)) P.wf w

/-- The stream after the layer embedding. -/
def h3 (w : Fin 1024) : EReal := h2 T P w + Ideal.logistic (lin (rms (h2 T P) P.gp) P.wpg w) * lin T.p P.wpp w

/-- The block's result. -/
def y (w : Fin 1024) : EReal := rms (h3 T P) P.gz w

/-- The weights of the arguments' arrays. -/
def weights (b : Vec Ideal ⟨3, ![1, 2, 1024]⟩ .f32) (wo : Vec Ideal ⟨3, ![1, 1024, 1024]⟩ .f32) (gf : Vec Ideal ⟨2, ![1, 1024]⟩ .f32)
    (wi : Vec Ideal ⟨3, ![1, 1024, 5632]⟩ .f32) (wf : Vec Ideal ⟨3, ![1, 2816, 1024]⟩ .f32) (gp : Vec Ideal ⟨2, ![1, 1024]⟩ .f32)
    (wpg : Vec Ideal ⟨3, ![1, 1024, 1024]⟩ .f32) (wpp : Vec Ideal ⟨3, ![1, 256, 1024]⟩ .f32) (gz : Vec Ideal ⟨1, ![1024]⟩ .f32) : Weights where
  b0 w := b (ix3 0 0 w)
  b1 w := b (ix3 0 1 w)
  wo k w := wo (ix3 0 k w)
  gf w := gf (ix2 0 w)
  wg k j := wi (ix3 0 k ⟨j.val, by omega⟩)
  wu k j := wi (ix3 0 k ⟨2816 + j.val, by omega⟩)
  wf k w := wf (ix3 0 k w)
  gp w := gp (ix2 0 w)
  wpg k w := wpg (ix3 0 k w)
  wpp k w := wpp (ix3 0 k w)
  gz w := gz (ix1 w)

/-- Token number `q` of the arguments' arrays. -/
def token (x o r : Vec Ideal ⟨2, ![16384, 1024]⟩ .f32) (proj : Vec Ideal ⟨2, ![16384, 7168]⟩ .f32)
    (p : Vec Ideal ⟨4, ![1, 4, 4096, 256]⟩ .f32) (q : Fin 16384) : Token where
  x w := x (ix2 q w)
  o w := o (ix2 q w)
  r w := r (ix2 q w)
  ga w := proj (ix2 q ⟨5120 + w.val, by omega⟩)
  gr w := proj (ix2 q ⟨6144 + w.val, by omega⟩)
  p k := p (ix4 0 ⟨q.val / 4096, by omega⟩ ⟨q.val % 4096, by omega⟩ k)

/-- Token number `q` of the sample group's arrays. -/
def sampleToken (x o r : Vec Ideal ⟨2, ![256, 1024]⟩ .f32) (proj : Vec Ideal ⟨2, ![256, 7168]⟩ .f32)
    (p : Vec Ideal ⟨4, ![1, 32, 8, 256]⟩ .f32) (q : Fin 256) : Token where
  x w := x (ix2 q w)
  o w := o (ix2 q w)
  r w := r (ix2 q w)
  ga w := proj (ix2 q ⟨5120 + w.val, by omega⟩)
  gr w := proj (ix2 q ⟨6144 + w.val, by omega⟩)
  p k := p (ix4 0 ⟨q.val / 8, by omega⟩ ⟨q.val % 8, by omega⟩ k)

/-- The result array: every token's block. -/
def result {n : ℕ} (T : Fin n → Token) (P : Weights) : Vec Ideal ⟨2, ![n, 1024]⟩ .f32 := fun i => Block.y (T (i 0)) P (i 1)

end Cert.Block

end
-- ==== Proof.BlockRef.lean ====
/-
  The reference's output block: each of its arrays at a token and a channel.
-/
module

public import proofs.«01_k».proof.Proof.Block
public import proofs.«01_k».proof.Proof.Gen.Reference2Ideal.Run

@[expose] public section

set_option maxRecDepth 16384

noncomputable section

namespace Cert.Block

open Idealize.ShloMosaic Idealize.ShloMosaic.StableHlo Cert.Reference2Ideal Cert.Reference2Ideal.Gen Cert.Reference2Ideal.Value

variable (V : Valuation τ sig (Elt Ideal)) (q : Fin 16384) (w : Fin 1024)

abbrev refWeights : Weights := weights (V (Proc.devRef .tc main_arg5)) (V (Proc.devRef .tc main_arg6)) (V (Proc.devRef .tc main_arg7))
  (V (Proc.devRef .tc main_arg8)) (V (Proc.devRef .tc main_arg9)) (V (Proc.devRef .tc main_arg10)) (V (Proc.devRef .tc main_arg11))
  (V (Proc.devRef .tc main_arg12)) (V (Proc.devRef .tc main_arg13))

abbrev refToken : Token := token (V (Proc.devRef .tc main_arg0)) (V (Proc.devRef .tc main_arg1)) (V (Proc.devRef .tc main_arg2))
  (V (Proc.devRef .tc main_arg3)) (V (Proc.devRef .tc main_arg4)) q

theorem ref_h1 : (res_main_v29 V : Vec Ideal S16384x1024 .f32) (ix2 q w) = h1 (refToken V q) (refWeights V) w := by
  unfold h1 lin mix refToken refWeights token weights
  pointwise [res_main_v29]
  rfl

theorem ref_up (j : Fin 5632) : (res_main_v45 V : Vec Ideal S16384x5632 .f32) (ix2 q j)
    = lin (rms (fun k => (res_main_v29 V : Vec Ideal S16384x1024 .f32) (ix2 q k)) (refWeights V).gf)
        (fun k j => (V (Proc.devRef .tc main_arg8) : Vec Ideal S1x1024x5632 .f32) (ix3 0 k j)) j := by
  unfold lin rms refWeights weights
  pointwise [res_main_v45]

theorem ref_h2 : (res_main_v52 V : Vec Ideal S16384x1024 .f32) (ix2 q w) = h2 (refToken V q) (refWeights V) w := by
  unfold h2 glu
  unfold lin
  pointwise [res_main_v52, res_main_v46]
  simp only [ref_up, ref_h1]
  rfl

theorem ref_h3 : (res_main_v80 V : Vec Ideal S16384x1024 .f32) (ix2 q w) = h3 (refToken V q) (refWeights V) w := by
  unfold h3 lin rms
  pointwise [res_main_v80]
  simp only [ref_h2]
  rfl

/-- The reference's result. -/
abbrev refOut : Vec Ideal S16384x1024 .f32 :=
  mulf (mulf (res_main_v80 V) (broadcastInDim S16384x1024 ![0, 1] bcast_S16384x1_S16384x1024_0_1 (Host.rsqrt (addf (Host.divf (broadcastInDim S16384x1 ![0] bcast_S16384_S16384x1_0 (Host.reduceAdd (mulf (res_main_v80 V) (res_main_v80 V)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (V (Proc.devRef .tc main_arg13))))

theorem ref_out : refOut V (ix2 q w) = y (refToken V q) (refWeights V) w := by
  unfold y rms
  pointwise [refOut]
  simp only [ref_h3]
  rfl

end Cert.Block

end
-- ==== Proof.BlockTile.lean ====
/-
  A tile of the output block: each of the kernel's values at a row and a channel, from the tiles that it is computed from.
-/
module

public import proofs.«01_k».proof.Proof.Block
public import proofs.«01_k».proof.Proof.Gen.Kernel2Ideal.Frame
public import Idealize.ShloMosaic.Lib.Pipeline.ValueKit

@[expose] public section

set_option maxRecDepth 16384

noncomputable section

namespace Cert.Block

open Idealize.ShloMosaic Cert.Kernel2Ideal Cert.Kernel2Ideal.Gen

variable (r : Fin 256) (w : Fin 1024)

theorem pay2_apply (v0 : Vec Ideal S2x1024 .f32) (v2 v7 v9 v14 v17 : Vec Ideal S256x1024 .f32) (v19 : Vec Ideal S1024x1024 .bf16) :
    k0_pay2 v0 v2 v7 v9 v14 v17 v19 (ix2 r w)
      = v17 (ix2 r w) + lin (fun k => Ideal.logistic (v2 (ix2 r k) + v0 (ix2 0 k)) * v7 (ix2 r k)
          + Ideal.logistic (v9 (ix2 r k) + v0 (ix2 1 k)) * v14 (ix2 r k)) (fun k j => v19 (ix2 k j)) w := by
  unfold lin
  pointwise [k0_pay2]

theorem pay3_apply (v0 : Vec Ideal S2x1024 .f32) (v2 v7 v9 v14 v17 : Vec Ideal S256x1024 .f32) (v19 : Vec Ideal S1024x1024 .bf16)
    (v23 : Vec Ideal S1x1024 .f32) :
    k0_pay3 v0 v2 v7 v9 v14 v17 v19 v23 (ix2 r w)
      = rms (fun k => k0_pay2 v0 v2 v7 v9 v14 v17 v19 (ix2 r k)) (fun k => v23 (ix2 0 k)) w := by
  unfold rms
  pointwise [k0_pay3]

theorem pay4_apply (v22 : FVec Ideal S256x1024 .f32) (v37 : FVec Ideal S256x1024 .bf16) (v38 v41 : Vec Ideal S1024x2816 .bf16)
    (v48 : Vec Ideal S2816x1024 .bf16) :
    k0_pay4 v22 v37 v38 v41 v48 (ix2 r w)
      = v22 (ix2 r w) + lin (glu (lin (fun k => v37 (ix2 r k)) (fun k j => v38 (ix2 k j)))
          (lin (fun k => v37 (ix2 r k)) (fun k j => v41 (ix2 k j)))) (fun k j => v48 (ix2 k j)) w := by
  unfold glu lin
  pointwise [k0_pay4]

theorem pay5_apply (v22 : FVec Ideal S256x1024 .f32) (v37 : FVec Ideal S256x1024 .bf16) (v38 v41 : Vec Ideal S1024x2816 .bf16)
    (v48 : Vec Ideal S2816x1024 .bf16) (v52 : Vec Ideal S1x1024 .f32) (v67 : Vec Ideal S1024x1024 .bf16) :
    k0_pay5 v22 v37 v38 v41 v48 v52 v67 (ix2 r w)
      = Ideal.logistic (lin (rms (fun k => k0_pay4 v22 v37 v38 v41 v48 (ix2 r k)) (fun k => v52 (ix2 0 k)))
          (fun k j => v67 (ix2 k j)) w) := by
  unfold lin rms
  pointwise [k0_pay5]

theorem pay6_apply (v71 : Vec Ideal S256x256 .f32) (v74 : Vec Ideal S256x1024 .bf16) :
    k0_pay6 v71 v74 (ix2 r w) = lin (fun k => v71 (ix2 r k)) (fun k j => v74 (ix2 k j)) w := by
  unfold lin
  pointwise [k0_pay6]

theorem pay1_apply (v51 v70 v76 : FVec Ideal S256x1024 .f32) (v79 : Vec Ideal S1x1024 .f32) :
    k0_pay1 v51 v70 v76 v79 (ix2 r w)
      = rms (fun k => v51 (ix2 r k) + v70 (ix2 r k) * v76 (ix2 r k)) (fun k => v79 (ix2 0 k)) w := by
  unfold rms
  pointwise [k0_pay1]

section
variable (x0 x1 x2 x3 x4 : Vec Ideal S256x1024 .f32) (x5 : Vec Ideal S256x256 .f32) (x6 : Vec Ideal S2x1024 .f32)
  (x7 : Vec Ideal S1024x1024 .bf16) (x8 : Vec Ideal S1x1024 .f32) (x9 : Vec Ideal S1024x5632 .bf16)
  (x10 : Vec Ideal S2816x1024 .bf16) (x11 : Vec Ideal S1x1024 .f32) (x12 : Vec Ideal S1024x1024 .bf16)
  (x13 : Vec Ideal S256x1024 .bf16) (x14 : Vec Ideal S1x1024 .f32)

/-- A tile's row as a token. -/
def tileToken : Token where
  x w := x0 (ix2 r w)
  o w := x1 (ix2 r w)
  r w := x2 (ix2 r w)
  ga w := x3 (ix2 r w)
  gr w := x4 (ix2 r w)
  p k := x5 (ix2 r k)

/-- The weights' blocks as the layer's weights. -/
def tileWeights : Weights where
  b0 w := x6 (ix2 0 w)
  b1 w := x6 (ix2 1 w)
  wo k w := x7 (ix2 k w)
  gf w := x8 (ix2 0 w)
  wg k j := x9 (ix2 k ⟨j.val, by omega⟩)
  wu k j := x9 (ix2 k ⟨2816 + j.val, by omega⟩)
  wf k w := x10 (ix2 k w)
  gp w := x11 (ix2 0 w)
  wpg k w := x12 (ix2 k w)
  wpp k w := x13 (ix2 k w)
  gz w := x14 (ix2 0 w)

theorem zeros : (![0, 0] : Fin 2 → ℕ) = fun _ => 0 := funext fun a => by fin_cases a <;> rfl

theorem ld_gate (k : Fin 1024) (j : Fin 2816) : View.ld x9 r0_4 (ix2 k j) = x9 (ix2 k ⟨j.val, by omega⟩) :=
  View.ld_unit_apply_of x9 _ _ _ _ _ (fun a => by fin_cases a <;> simp)

theorem ld_up (k : Fin 1024) (j : Fin 2816) : View.ld x9 r0_5 (ix2 k j) = x9 (ix2 k ⟨2816 + j.val, by omega⟩) :=
  View.ld_unit_apply_of x9 _ _ _ _ _ (fun a => by fin_cases a <;> simp)

/-- What the kernel leaves in a tile of the result. -/
theorem tile_apply : out0_15 x0 x1 x2 x3 x4 x5 x6 x7 x8 x9 x10 x11 x12 x13 x14 (ix2 r w)
    = y (tileToken r x0 x1 x2 x3 x4 x5) (tileWeights x6 x7 x8 x9 x10 x11 x12 x13 x14) w := by
  have e1 : ∀ k : Fin 1024, k0_pay7 x0 x1 x2 x3 x4 x5 x6 x7 x8 x9 x10 x11 x12 x13 x14 (ix2 r k)
      = h1 (tileToken r x0 x1 x2 x3 x4 x5) (tileWeights x6 x7 x8 x9 x10 x11 x12 x13 x14) k := fun k => by
    unfold k0_pay7
    rw [View.ld_unit_zero zeros, View.ld_unit_zero zeros, View.ld_unit_zero zeros, View.ld_unit_zero zeros,
      View.ld_unit_zero zeros, View.ld_unit_zero zeros, View.ld_unit_zero zeros, pay2_apply]
    rfl
  have e2 : ∀ k : Fin 1024, k0_pay8 x0 x1 x2 x3 x4 x5 x6 x7 x8 x9 x10 x11 x12 x13 x14 (ix2 r k)
      = rms (h1 (tileToken r x0 x1 x2 x3 x4 x5) (tileWeights x6 x7 x8 x9 x10 x11 x12 x13 x14))
          (tileWeights x6 x7 x8 x9 x10 x11 x12 x13 x14).gf k := fun k => by
    have e := pay3_apply r k (View.ld x6 r0_0) (View.ld x3 r0_1) (View.ld x1 r0_1) (View.ld x4 r0_1) (View.ld x2 r0_1)
      (View.ld x0 r0_1) (View.ld x7 r0_2) (View.ld x8 r0_3)
    refine e.trans ?_
    rw [show (fun k => k0_pay2 (View.ld x6 r0_0) (View.ld x3 r0_1) (View.ld x1 r0_1) (View.ld x4 r0_1) (View.ld x2 r0_1)
      (View.ld x0 r0_1) (View.ld x7 r0_2) (ix2 r k)) = _ from funext e1, View.ld_unit_zero zeros]
    rfl
  have e4 : ∀ k : Fin 1024, k0_pay4 (k0_pay7 x0 x1 x2 x3 x4 x5 x6 x7 x8 x9 x10 x11 x12 x13 x14) (k0_pay8 x0 x1 x2 x3 x4 x5 x6 x7 x8 x9 x10 x11 x12 x13 x14) (View.ld x9 r0_4) (View.ld x9 r0_5) (View.ld x10 r0_6) (ix2 r k)
      = h2 (tileToken r x0 x1 x2 x3 x4 x5) (tileWeights x6 x7 x8 x9 x10 x11 x12 x13 x14) k := fun k => by
    rw [pay4_apply, View.ld_unit_zero zeros]
    simp only [e1, e2]
    have eg : (fun (k : Fin 1024) (j : Fin 2816) => View.ld x9 r0_4 (ix2 k j)) = (tileWeights x6 x7 x8 x9 x10 x11 x12 x13 x14).wg :=
      funext fun k => funext fun j => ld_gate x9 k j
    have eu : (fun (k : Fin 1024) (j : Fin 2816) => View.ld x9 r0_5 (ix2 k j)) = (tileWeights x6 x7 x8 x9 x10 x11 x12 x13 x14).wu :=
      funext fun k => funext fun j => ld_up x9 k j
    rw [eg, eu]
    rfl
  have e5 : ∀ k : Fin 1024, k0_pay5 (k0_pay7 x0 x1 x2 x3 x4 x5 x6 x7 x8 x9 x10 x11 x12 x13 x14) (k0_pay8 x0 x1 x2 x3 x4 x5 x6 x7 x8 x9 x10 x11 x12 x13 x14) (View.ld x9 r0_4) (View.ld x9 r0_5) (View.ld x10 r0_6)
      (View.ld x11 r0_3) (View.ld x12 r0_2) (ix2 r k)
      = Ideal.logistic (lin (rms (h2 (tileToken r x0 x1 x2 x3 x4 x5) (tileWeights x6 x7 x8 x9 x10 x11 x12 x13 x14))
          (tileWeights x6 x7 x8 x9 x10 x11 x12 x13 x14).gp) (tileWeights x6 x7 x8 x9 x10 x11 x12 x13 x14).wpg k) := fun k => by
    rw [pay5_apply]
    simp only [e4]
    rw [View.ld_unit_zero zeros, View.ld_unit_zero zeros]
    rfl
  unfold out0_15
  rw [View.canon_unit_zero zeros, pay1_apply]
  simp only [e4, e5, pay6_apply]
  rw [View.ld_unit_zero zeros, View.ld_unit_zero zeros, View.ld_unit_zero zeros]
  rfl

end

end Cert.Block

end
-- ==== Proof.BlockRun.lean ====
/-
  The output block's run: the blocks a grid point reads, in terms of the arguments, and the whole result array.
-/
module

public import proofs.«01_k».proof.Proof.BlockTile
public import proofs.«01_k».proof.Proof.Gen.Kernel2Ideal.Value
public import Idealize.ShloMosaic.Lib.Claim

@[expose] public section

set_option maxRecDepth 16384

noncomputable section

namespace Cert.Block

open Idealize.ShloMosaic Idealize.ShloMosaic.TcCoe Idealize.ShloMosaic.Tactic Idealize.SL Idealize.SL.Sem
open Cert.Kernel2Ideal Cert.Kernel2Ideal.Gen

variable (m : (ℓ : Loc nD τ sig) → Buf (Elt Ideal) ℓ) (c : Dev nD) (t : Fin cfg0.N)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 5 :=
  (by decide +kernel : ∀ t : Fin grid0.N, win0_3.index t 0 = t.val ∧ win0_3.index t 1 = 5)
theorem index4 : ∀ t : Fin cfg0.N, win0_4.index t 0 = t.val ∧ win0_4.index t 1 = 6 :=
  (by decide +kernel : ∀ t : Fin grid0.N, win0_4.index t 0 = t.val ∧ win0_4.index t 1 = 6)
theorem index5 : ∀ t : Fin cfg0.N, win0_5.index t 0 = t.val ∧ win0_5.index t 1 = 0 :=
  (by decide +kernel : ∀ t : Fin grid0.N, win0_5.index t 0 = t.val ∧ win0_5.index t 1 = 0)
theorem index15 : ∀ t : Fin cfg0.N, win0_15.index t 0 = t.val ∧ win0_15.index t 1 = 0 :=
  (by decide +kernel : ∀ t : Fin grid0.N, win0_15.index t 0 = t.val ∧ win0_15.index t 1 = 0)
theorem index6 : win0_6.index t 0 = 0 ∧ win0_6.index t 1 = 0 := ⟨rfl, rfl⟩
theorem index7 : win0_7.index t 0 = 0 ∧ win0_7.index t 1 = 0 := ⟨rfl, rfl⟩
theorem index8 : win0_8.index t 0 = 0 ∧ win0_8.index t 1 = 0 := ⟨rfl, rfl⟩
theorem index9 : win0_9.index t 0 = 0 ∧ win0_9.index t 1 = 0 := ⟨rfl, rfl⟩
theorem index10 : win0_10.index t 0 = 0 ∧ win0_10.index t 1 = 0 := ⟨rfl, rfl⟩
theorem index11 : win0_11.index t 0 = 0 ∧ win0_11.index t 1 = 0 := ⟨rfl, rfl⟩
theorem index12 : win0_12.index t 0 = 0 ∧ win0_12.index t 1 = 0 := ⟨rfl, rfl⟩
theorem index13 : win0_13.index t 0 = 0 ∧ win0_13.index t 1 = 0 := ⟨rfl, rfl⟩
theorem index14 : win0_14.index t 0 = 0 ∧ win0_14.index t 1 = 0 := ⟨rfl, rfl⟩

theorem lt_N (t : Fin cfg0.N) : t.val < 64 := t.isLt

/-- The token under a row of a point's tiles. -/
abbrev tokenOf (r : Fin 256) : Fin 16384 := ⟨t.val * 256 + r.val, by have := lt_N t; omega⟩

theorem read0 (r : Fin 256) (w : Fin 1024) : iblk m c 0 t (ix2 r w) = m ((c : Thread nD τ).loc main_arg0) (ix2 (tokenOf t r) w) := by
  blk_ext [iblk, V, index0 t]

theorem read1 (r : Fin 256) (w : Fin 1024) : iblk m c 1 t (ix2 r w) = m ((c : Thread nD τ).loc main_arg1) (ix2 (tokenOf t r) w) := by
  blk_ext [iblk, V, index1 t]

theorem read2 (r : Fin 256) (w : Fin 1024) : iblk m c 2 t (ix2 r w) = m ((c : Thread nD τ).loc main_arg2) (ix2 (tokenOf t r) w) := by
  blk_ext [iblk, V, index2 t]

theorem read3 (r : Fin 256) (w : Fin 1024) : iblk m c 3 t (ix2 r w)
    = m ((c : Thread nD τ).loc main_arg3) (ix2 (tokenOf t r) (⟨5120 + w.val, by omega⟩ : Fin 7168)) := by
  blk_ext [iblk, V, index3 t]

theorem read4 (r : Fin 256) (w : Fin 1024) : iblk m c 4 t (ix2 r w)
    = m ((c : Thread nD τ).loc main_arg3) (ix2 (tokenOf t r) (⟨6144 + w.val, by omega⟩ : Fin 7168)) := by
  blk_ext [iblk, V, index4 t]

theorem read5 (r : Fin 256) (k : Fin 256) : iblk m c 5 t (ix2 r k) = m ((c : Thread nD τ).loc main_arg4)
    (ix4 0 (⟨(tokenOf t r).val / 4096, by omega⟩ : Fin 4) (⟨(tokenOf t r).val % 4096, by omega⟩ : Fin 4096) k) := by
  unfold iblk
  entry_read
  have e : (win0_5.blk t).view.emb (ix2 r k) = ix2 (tokenOf t r) k := by blk_ext [index5 t]
  blk_simp
  rw [e]
  pointwise

theorem read6 (k : Fin 2) (w : Fin 1024) : iblk m c 6 t (ix2 k w) = m ((c : Thread nD τ).loc main_arg5) (ix3 0 k w) := by
  unfold iblk
  entry_read
  have e : (win0_6.blk t).view.emb (ix2 k w) = ix2 k w := by blk_ext [index6 t]
  blk_simp
  rw [e]
  pointwise

theorem read7 (k w : Fin 1024) : iblk m c 7 t (ix2 k w) = m ((c : Thread nD τ).loc main_arg6) (ix3 0 k w) := by
  unfold iblk
  entry_read
  have e : (win0_7.blk t).view.emb (ix2 k w) = ix2 k w := by blk_ext [index7 t]
  blk_simp
  rw [e]
  pointwise

theorem read8 (w : Fin 1024) : iblk m c 8 t (ix2 0 w) = m ((c : Thread nD τ).loc main_arg7) (ix2 0 w) := by
  unfold iblk
  entry_read
  have e : (win0_8.blk t).view.emb (ix2 0 w) = ix2 0 w := by blk_ext [index8 t]
  blk_simp
  rw [e]
  pointwise

theorem read9 (k : Fin 1024) (w : Fin 5632) : iblk m c 9 t (ix2 k w) = m ((c : Thread nD τ).loc main_arg8) (ix3 0 k w) := by
  unfold iblk
  entry_read
  have e : (win0_9.blk t).view.emb (ix2 k w) = ix2 k w := by blk_ext [index9 t]
  blk_simp
  rw [e]
  pointwise

theorem read10 (k : Fin 2816) (w : Fin 1024) : iblk m c 10 t (ix2 k w) = m ((c : Thread nD τ).loc main_arg9) (ix3 0 k w) := by
  unfold iblk
  entry_read
  have e : (win0_10.blk t).view.emb (ix2 k w) = ix2 k w := by blk_ext [index10 t]
  blk_simp
  rw [e]
  pointwise

theorem read11 (w : Fin 1024) : iblk m c 11 t (ix2 0 w) = m ((c : Thread nD τ).loc main_arg10) (ix2 0 w) := by
  unfold iblk
  entry_read
  have e : (win0_11.blk t).view.emb (ix2 0 w) = ix2 0 w := by blk_ext [index11 t]
  blk_simp
  rw [e]
  pointwise

theorem read12 (k w : Fin 1024) : iblk m c 12 t (ix2 k w) = m ((c : Thread nD τ).loc main_arg11) (ix3 0 k w) := by
  unfold iblk
  entry_read
  have e : (win0_12.blk t).view.emb (ix2 k w) = ix2 k w := by blk_ext [index12 t]
  blk_simp
  rw [e]
  pointwise

theorem read13 (k : Fin 256) (w : Fin 1024) : iblk m c 13 t (ix2 k w) = m ((c : Thread nD τ).loc main_arg12) (ix3 0 k w) := by
  unfold iblk
  entry_read
  have e : (win0_13.blk t).view.emb (ix2 k w) = ix2 k w := by blk_ext [index13 t]
  blk_simp
  rw [e]
  pointwise

theorem read14 (w : Fin 1024) : iblk m c 14 t (ix2 0 w) = m ((c : Thread nD τ).loc main_arg13) (ix1 w) := by
  unfold iblk
  entry_read
  have e : (win0_14.blk t).view.emb (ix2 0 w) = ix2 0 w := by blk_ext [index14 t]
  blk_simp
  rw [e]
  pointwise

abbrev argWeights : Weights := weights (m ((c : Thread nD τ).loc main_arg5)) (m ((c : Thread nD τ).loc main_arg6))
  (m ((c : Thread nD τ).loc main_arg7)) (m ((c : Thread nD τ).loc main_arg8)) (m ((c : Thread nD τ).loc main_arg9))
  (m ((c : Thread nD τ).loc main_arg10)) (m ((c : Thread nD τ).loc main_arg11)) (m ((c : Thread nD τ).loc main_arg12))
  (m ((c : Thread nD τ).loc main_arg13))

abbrev argToken (q : Fin 16384) : Token := token (m ((c : Thread nD τ).loc main_arg0)) (m ((c : Thread nD τ).loc main_arg1))
  (m ((c : Thread nD τ).loc main_arg2)) (m ((c : Thread nD τ).loc main_arg3)) (m ((c : Thread nD τ).loc main_arg4)) q

theorem tile_token (r : Fin 256) : tileToken r (iblk m c 0 t) (iblk m c 1 t) (iblk m c 2 t) (iblk m c 3 t) (iblk m c 4 t) (iblk m c 5 t)
    = argToken m c (tokenOf t r) := by
  unfold tileToken argToken token
  simp only [read0, read1, read2, read3, read4, read5]

theorem tile_weights : tileWeights (iblk m c 6 t) (iblk m c 7 t) (iblk m c 8 t) (iblk m c 9 t) (iblk m c 10 t) (iblk m c 11 t)
    (iblk m c 12 t) (iblk m c 13 t) (iblk m c 14 t) = argWeights m c := by
  unfold tileWeights argWeights weights
  simp only [read6, read7, read8, read9, read10, read11, read12, read13, read14]

theorem array : (dats m 0 c).arrAt 15 cfg0.N = result (argToken m c) (argWeights m c) := by
  refine (dats m 0 c).arrAt_eq_of_covers 15 _ (by decide +kernel) fun t hf y => ?_
  obtain ⟨r, w, rfl⟩ : ∃ (r : Fin 256) (w : Fin 1024), y = ix2 r w := ⟨y 0, y 1, by ext a; fin_cases a <;> rfl⟩
  have e : (win0_15.blk t).view.emb (ix2 r w) = ix2 (tokenOf t r) w := by blk_ext [index15 t]
  blk_simp
  rw [after0_15, e]
  refine (tile_apply r w _ _ _ _ _ _ _ _ _ _ _ _ _ _ _).trans ?_
  rw [tile_token, tile_weights]
  rfl

end Cert.Block

end
-- ==== Proof.BlockClaim.lean ====
/-
  The output block: the reference's frame, and the equality of the kernel's result with the reference's.
-/
module

public import proofs.«01_k».proof.Defs
public import proofs.«01_k».proof.Proof.BlockRef
public import proofs.«01_k».proof.Proof.BlockRun
public import proofs.«01_k».proof.Proof.Gen.Reference2Ideal
public import Idealize.ShloMosaic.Lib.Claim
public import Idealize.ShloMosaic.Adequacy
public import Idealize.ShloMosaic.Init

@[expose] public section

noncomputable section

namespace Cert.Block

open Idealize.ShloMosaic Idealize.ShloMosaic.TcCoe Idealize.ShloMosaic.Tactic Idealize.ShloMosaic.StableHlo Idealize.SL.Sem

section
open Cert.Reference2Ideal
variable (m : (ℓ : Loc nD τ sig) → Buf (Elt Ideal) ℓ) (c : Dev nD)

/-- The reference's result array, token by token. -/
theorem ref_array : refOut (launchContents m c) = result (refToken (launchContents m c)) (refWeights (launchContents m c)) :=
  funext fun i => by
    obtain ⟨q, w, rfl⟩ : ∃ (q : Fin 16384) (w : Fin 1024), i = ix2 q w := ⟨i 0, i 1, by ext a; fin_cases a <;> rfl⟩
    exact ref_out (launchContents m c) q w

end

theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- Kernel and reference compute the same array from equal arguments. -/
theorem equal : Cert.algebraic_Kernel2Ideal_Reference2Ideal := fun m ρ m' ρ' _ hag =>
  ⟨fun c => result (argToken m c) (argWeights m c),
    (θ_run Cert.Kernel2Ideal.defs _ _).mono (fun _ h c => ⟨(h c).1.trans (array m c), (h c).2⟩)
      (Cert.Kernel2Ideal.Value.run_blocks m ρ),
    (θ_run Cert.Reference2Ideal.defs _ _).mono (fun _ h c => by
      obtain ⟨h0, h1, h2, h3, h4, h5, h6, h7, h8, h9, h10, h11, h12, h13⟩ := hag c
      have eT : refToken (launchContents m' c) = argToken m c := by
        funext q
        show token (m' ((c.tc : Thread Cert.Reference2Ideal.nD Cert.Reference2Ideal.τ).loc Cert.Reference2Ideal.main_arg0))
            (m' ((c.tc : Thread Cert.Reference2Ideal.nD Cert.Reference2Ideal.τ).loc Cert.Reference2Ideal.main_arg1))
            (m' ((c.tc : Thread Cert.Reference2Ideal.nD Cert.Reference2Ideal.τ).loc Cert.Reference2Ideal.main_arg2))
            (m' ((c.tc : Thread Cert.Reference2Ideal.nD Cert.Reference2Ideal.τ).loc Cert.Reference2Ideal.main_arg3))
            (m' ((c.tc : Thread Cert.Reference2Ideal.nD Cert.Reference2Ideal.τ).loc Cert.Reference2Ideal.main_arg4)) q = _
        rw [h0, h1, h2, h3, h4]
      have eP : refWeights (launchContents m' c) = argWeights m c := by
        show weights (m' ((c.tc : Thread Cert.Reference2Ideal.nD Cert.Reference2Ideal.τ).loc Cert.Reference2Ideal.main_arg5))
            (m' ((c.tc : Thread Cert.Reference2Ideal.nD Cert.Reference2Ideal.τ).loc Cert.Reference2Ideal.main_arg6))
            (m' ((c.tc : Thread Cert.Reference2Ideal.nD Cert.Reference2Ideal.τ).loc Cert.Reference2Ideal.main_arg7))
            (m' ((c.tc : Thread Cert.Reference2Ideal.nD Cert.Reference2Ideal.τ).loc Cert.Reference2Ideal.main_arg8))
            (m' ((c.tc : Thread Cert.Reference2Ideal.nD Cert.Reference2Ideal.τ).loc Cert.Reference2Ideal.main_arg9))
            (m' ((c.tc : Thread Cert.Reference2Ideal.nD Cert.Reference2Ideal.τ).loc Cert.Reference2Ideal.main_arg10))
            (m' ((c.tc : Thread Cert.Reference2Ideal.nD Cert.Reference2Ideal.τ).loc Cert.Reference2Ideal.main_arg11))
            (m' ((c.tc : Thread Cert.Reference2Ideal.nD Cert.Reference2Ideal.τ).loc Cert.Reference2Ideal.main_arg12))
            (m' ((c.tc : Thread Cert.Reference2Ideal.nD Cert.Reference2Ideal.τ).loc Cert.Reference2Ideal.main_arg13)) = _
        rw [h5, h6, h7, h8, h9, h10, h11, h12, h13]
      exact ⟨(h c).1.trans ((ref_array m' c).trans (congrArg₂ result eT eP)), (h c).2⟩)
      (Cert.Reference2Ideal.Value.run m' ρ')⟩

end Cert.Block

end
-- ==== Proof.ProjectionRef.lean ====
/-
  The input projection in mathematics, and the reference's three arrays: each at a token and a channel.
-/
module

public import proofs.«01_k».proof.Proof.Block
public import proofs.«01_k».proof.Proof.Gen.Reference3Ideal.Run
public import Idealize.ShloMosaic.Lib.Pipeline.ValueKit

@[expose] public section

set_option maxRecDepth 16384

noncomputable section

namespace Cert.Projection

open Idealize.ShloMosaic

/-- A token's channel of the projection: its row, normed, times the weights. -/
def proj {n : ℕ} (x : Vec Ideal ⟨2, ![n, 1024]⟩ .f32) (g : Vec Ideal ⟨2, ![1, 1024]⟩ .f32) (W : Vec Ideal ⟨3, ![1, 1024, 7168]⟩ .f32)
    (q : Fin n) (w : Fin 7168) : EReal :=
  Block.lin (Block.rms (fun k => x (ix2 q k)) (fun k => g (ix2 0 k))) (fun k j => W (ix3 0 k j)) w

/-- The projection as an array. -/
def projArray {n : ℕ} (x : Vec Ideal ⟨2, ![n, 1024]⟩ .f32) (g : Vec Ideal ⟨2, ![1, 1024]⟩ .f32) (W : Vec Ideal ⟨3, ![1, 1024, 7168]⟩ .f32) :
    Vec Ideal ⟨2, ![n, 7168]⟩ .f32 := fun i => proj x g W (i 0) (i 1)

/-- A block of 1024 of its channels, one row per token and head. -/
def headArray (j : Fin 7) (x : Vec Ideal ⟨2, ![16384, 1024]⟩ .f32) (g : Vec Ideal ⟨2, ![1, 1024]⟩ .f32)
    (W : Vec Ideal ⟨3, ![1, 1024, 7168]⟩ .f32) : Vec Ideal ⟨2, ![131072, 128]⟩ .f32 := fun i =>
  proj x g W ⟨(i 0).val / 8, by have : (i 0).val < 131072 := (i 0).isLt; omega⟩
    ⟨1024 * j.val + (128 * ((i 0).val % 8) + (i 1).val), by have : (i 1).val < 128 := (i 1).isLt; omega⟩

section
open Cert.Reference3Ideal Cert.Reference3Ideal.Gen
variable (x : FVec Ideal S16384x1024 .f32) (g : FVec Ideal S1x1024 .f32) (W : FVec Ideal S1x1024x7168 .f32)

/-- The reference's projection. -/
def refProj : FVec Ideal S16384x7168 .f32 :=
  Host.dotGeneral dot_S16384x1024_S1024x7168_S16384x7168_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))) (shapeCast _ W shapeCasts_S1x1024x7168_S1024x7168)

theorem refProj_apply (q : Fin 16384) (w : Fin 7168) : refProj x g W (ix2 q w) = proj x g W q w := by
  unfold proj Block.lin Block.rms
  pointwise [refProj]

theorem refProj_eq : refProj x g W = projArray x g W := funext fun i => by
  obtain ⟨q, w, rfl⟩ : ∃ (q : Fin 16384) (w : Fin 7168), i = ix2 q w := ⟨i 0, i 1, by ext a; fin_cases a <;> rfl⟩
  exact refProj_apply x g W q w

/-- A block of the projection's channels cut into its heads' rows. -/
theorem rows_eq (j : Fin 7) (hs) : shapeCast S131072x128 (extractStridedSlice S16384x1024 ![0, 1024 * j.val] (refProj x g W) hs)
    shapeCasts_S16384x1024_S131072x128 = headArray j x g W := funext fun i => by
  have h0 : (i 0).val < 131072 := (i 0).isLt
  have h1 : (i 1).val < 128 := (i 1).isLt
  refine (shapeCast_apply _ _ i (ix2 (⟨(i 0).val / 8, by omega⟩ : Fin 16384) (⟨128 * ((i 0).val % 8) + (i 1).val, by omega⟩ : Fin 1024)) ?_).trans ?_
  · rw [Shape.rowMajor_val_two, Shape.rowMajor_val_two]
    show (i 0).val / 8 * 1024 + (128 * ((i 0).val % 8) + (i 1).val) = (i 0).val * 128 + (i 1).val
    omega
  refine (extractStridedSlice_apply _ _ _ _ (ix2 (⟨(i 0).val / 8, by omega⟩ : Fin 16384)
    (⟨1024 * j.val + (128 * ((i 0).val % 8) + (i 1).val), by omega⟩ : Fin 7168)) fun a => ?_).trans ?_
  · fin_cases a
    · show (i 0).val / 8 = 0 + (i 0).val / 8; omega
    · rfl
  exact refProj_apply x g W _ _

end

end Cert.Projection

end
-- ==== Proof.Projection.lean ====
/-
  The input projection's tile: the three arrays that the body leaves in its output windows, and why its stores make them.
  The projection is stored one block of 1024 columns at a time. The keys' and the values' rows are stored one head at a time,
  a head's row of every token at a stride of eight rows.
-/
module

public import proofs.«01_k».proof.Proof.Gen.Kernel3Ideal.Skeleton
public import Idealize.ShloMosaic.Lib.Pipeline.FrameBody
public import Idealize.ShloMosaic.Lib.Pipeline.ValueKit

@[expose] public section

set_option maxRecDepth 16384

noncomputable section

namespace Cert.Projection

open Idealize.ShloMosaic Idealize.ShloMosaic.TcCoe Idealize.ShloMosaic.Tactic
open Cert.Kernel3Ideal Cert.Kernel3Ideal.Gen

variable {F : FTy → Type} [FloatOps F]

/-- A block of 1024 columns of the projection's tile. -/
abbrev colRect (j : Fin 7) (h : ∀ a, (![0, 1024 * j.val] : Fin 2 → ℕ) a + S256x1024.size a ≤ S256x7168.size a) : Rect S256x7168 :=
  Rect.unit (s := S256x7168) ![0, 1024 * j.val] S256x1024.size h

/-- The same block of the weights. -/
abbrev wRect (j : Fin 7) (h : ∀ a, (![0, 1024 * j.val] : Fin 2 → ℕ) a + S1024x1024.size a ≤ S1024x7168.size a) : Rect S1024x7168 :=
  Rect.unit (s := S1024x7168) ![0, 1024 * j.val] S1024x1024.size h

/-- A head's row of every token. -/
abbrev headRect (k : Fin 8) (h : ∀ a, S256x128.size a = 0 ∨
    (![k.val, 0] : Fin 2 → ℕ) a + (![8, 1] : Fin 2 → ℕ) a * (S256x128.size a - 1) < S2048x128.size a) : Rect S2048x128 :=
  ⟨(⟨![k.val, 0], S256x128.size, ![8, 1], h⟩ : LoadRect S2048x128), spos_8_1⟩

variable (x0 : Vec F S256x1024 .f32) (x1 : Vec F S1x1024 .f32) (x2 : Vec F S1024x7168 .bf16)

/-- The normed tile. -/
def normed : FVec F S256x1024 .bf16 := k0_pay7 x0 x1

/-- A block of the weights, as an array of its own. -/
def wBlock (j : Fin 7) : Vec F S1024x1024 .bf16 := fun i =>
  x2 (ix2 (⟨(i 0).val, (i 0).isLt⟩ : Fin 1024) (⟨1024 * j.val + (i 1).val, by have := j.isLt; have : (i 1).val < 1024 := (i 1).isLt; omega⟩ : Fin 7168))

/-- A block of the projection. -/
def block (j : Fin 7) : FVec F S256x1024 .f32 := k0_pay3 (normed x0 x1) (wBlock x2 j)

/-- The projection's tile. -/
def tileProj : Vec F S256x7168 .f32 := fun y =>
  block x0 x1 x2 ⟨(y 1).val / 1024, by have : (y 1).val < 7168 := (y 1).isLt; omega⟩
    (ix2 (⟨(y 0).val, (y 0).isLt⟩ : Fin 256) (⟨(y 1).val % 1024, by omega⟩ : Fin 1024))

/-- The rows of a block, one row per token and head. -/
def tileHeads (j : Fin 7) : Vec F S2048x128 .f32 := fun y =>
  block x0 x1 x2 j (ix2 (⟨(y 0).val / 8, by have : (y 0).val < 2048 := (y 0).isLt; omega⟩ : Fin 256)
    (⟨128 * ((y 0).val % 8) + (y 1).val, by have : (y 1).val < 128 := (y 1).isLt; omega⟩ : Fin 1024))

theorem ld_wRect (j : Fin 7) (h) : View.ld x2 (wRect j h) = wBlock x2 j := funext fun i =>
  View.ld_unit_apply_of x2 _ _ _ _ _ (fun a => by fin_cases a <;> simp)

theorem zeros : (![0, 0] : Fin 2 → ℕ) = fun _ => 0 := funext fun a => by fin_cases a <;> rfl

theorem col_piece (j : Fin 7) (h) (x : (colRect j h).shape.Idx) :
    block x0 x1 x2 j x = tileProj x0 x1 x2 ((colRect j h).emb x) := by
  have hx : (x 1).val < 1024 := (x 1).isLt
  have e1 : ((colRect j h).emb x 1).val = 1024 * j.val + 1 * (x 1).val := rfl
  unfold tileProj
  rw [show (⟨((colRect j h).emb x 1).val / 1024, by rw [e1]; have := j.isLt; omega⟩ : Fin 7) = j from
    Fin.ext (by show ((colRect j h).emb x 1).val / 1024 = j.val; rw [e1]; omega)]
  congr 1
  funext a
  fin_cases a
  · exact Fin.ext (by show (x 0).val = 0 + 1 * (x 0).val; omega)
  · exact Fin.ext (by show (x 1).val = (1024 * j.val + 1 * (x 1).val) % 1024; omega)

theorem head_piece (j : Fin 7) (k : Fin 8) (h) (hs) (x : (headRect k h).shape.Idx) :
    extractStridedSlice S256x128 ![0, 128 * k.val] (block x0 x1 x2 j) hs x = tileHeads x0 x1 x2 j ((headRect k h).emb x) := by
  have h0 : (x 0).val < 256 := (x 0).isLt
  have h1 : (x 1).val < 128 := (x 1).isLt
  refine extractStridedSlice_apply _ _ _ x _ fun a => ?_
  fin_cases a
  · show (k.val + 8 * (x 0).val) / 8 = 0 + (x 0).val
    have := k.isLt; omega
  · show 128 * ((k.val + 8 * (x 0).val) % 8) + (0 + 1 * (x 1).val) = 128 * k.val + (x 1).val
    have := k.isLt; omega

theorem head_mem (k : Fin 8) (h) (y : S2048x128.Idx) (e : (y 0).val % 8 = k.val) : y ∈ (headRect k h).set :=
  (LoadRect.mem_set _).2 fun a => by
    have h0 : (y 0).val < 2048 := (y 0).isLt
    fin_cases a
    · exact ⟨(y 0).val / 8, by show (y 0).val / 8 < 256; omega, by show (y 0).val = k.val + 8 * ((y 0).val / 8); omega⟩
    · exact ⟨(y 1).val, (y 1).isLt, by show (y 1).val = 0 + 1 * (y 1).val; omega⟩

theorem col_mem (j : Fin 7) (h) (y : S256x7168.Idx) (e : (y 1).val / 1024 = j.val) : y ∈ (colRect j h).set :=
  (LoadRect.mem_set _).2 fun a => by
    fin_cases a
    · exact ⟨(y 0).val, (y 0).isLt, by show (y 0).val = 0 + 1 * (y 0).val; omega⟩
    · exact ⟨(y 1).val - 1024 * j.val, by show (y 1).val - 1024 * j.val < 1024; omega,
        by show (y 1).val = 1024 * j.val + 1 * ((y 1).val - 1024 * j.val); omega⟩

end Cert.Projection

end
-- ==== Proof.ProjectionRun.lean ====
/-
  The input projection runs: the body leaves the tiles of `Projection.lean` in its output windows, so every final state of the
  call has them in the arrays' blocks, and the arguments unchanged. Over any float values: both frames are instances.
-/
module

public import proofs.«01_k».proof.Proof.Projection
public import proofs.«01_k».proof.Proof.Gen.Kernel3Ideal.Frame
public import Idealize.ShloMosaic.Lib.Claim

@[expose] public section

set_option maxRecDepth 16384

noncomputable section

namespace Cert.Projection

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The stores -/

section stores
variable (x0 : Vec F S256x1024 .f32) (x1 : Vec F S1x1024 .f32) (x2 : Vec F S1024x7168 .bf16)

/-- A block of the projection, from the loads as the body writes them. -/
abbrev loaded (j : Fin 7) (h : ∀ a, (![0, 1024 * j.val] : Fin 2 → ℕ) a + S1024x1024.size a ≤ S1024x7168.size a) : FVec F S256x1024 .f32 :=
  k0_pay3 (k0_pay7 (View.ld x0 (Rect.unit (s := S256x1024) ![0, 0] S256x1024.size inb_S256x1024_S256x1024_0_0))
    (View.ld x1 (Rect.unit (s := S1x1024) ![0, 0] S1x1024.size inb_S1x1024_S1x1024_0_0))) (View.ld x2 (wRect j h))

theorem loaded_eq (j : Fin 7) (h) : loaded x0 x1 x2 j h = block x0 x1 x2 j := by
  unfold loaded block normed
  rw [ld_wRect, View.ld_unit_zero zeros, View.ld_unit_zero zeros]

/-- The projection's stores, the last one first. -/
abbrev projStores : List (View.Piece (Elt F) S256x7168 .f32) :=
  [⟨colRect 6 inb_S256x7168_S256x1024_0_6144, loaded x0 x1 x2 6 inb_S1024x7168_S1024x1024_0_6144⟩,
    ⟨colRect 5 inb_S256x7168_S256x1024_0_5120, loaded x0 x1 x2 5 inb_S1024x7168_S1024x1024_0_5120⟩,
    ⟨colRect 4 inb_S256x7168_S256x1024_0_4096, loaded x0 x1 x2 4 inb_S1024x7168_S1024x1024_0_4096⟩,
    ⟨colRect 3 inb_S256x7168_S256x1024_0_3072, loaded x0 x1 x2 3 inb_S1024x7168_S1024x1024_0_3072⟩,
    ⟨colRect 2 inb_S256x7168_S256x1024_0_2048, loaded x0 x1 x2 2 inb_S1024x7168_S1024x1024_0_2048⟩,
    ⟨colRect 1 inb_S256x7168_S256x1024_0_1024, loaded x0 x1 x2 1 inb_S1024x7168_S1024x1024_0_1024⟩,
    ⟨colRect 0 inb_S256x7168_S256x1024_0_0, loaded x0 x1 x2 0 inb_S1024x7168_S1024x1024_0_0⟩]

theorem proj_covered (y : S256x7168.Idx) : ∃ p ∈ projStores x0 x1 x2, y ∈ p.1.set := by
  have hy : (y 1).val < 7168 := (y 1).isLt
  obtain h | h | h | h | h | h | h : (y 1).val / 1024 = 6 ∨ (y 1).val / 1024 = 5 ∨ (y 1).val / 1024 = 4 ∨ (y 1).val / 1024 = 3
      ∨ (y 1).val / 1024 = 2 ∨ (y 1).val / 1024 = 1 ∨ (y 1).val / 1024 = 0 := by omega
  · exact ⟨_, List.mem_cons_self, col_mem 6 inb_S256x7168_S256x1024_0_6144 y h⟩
  · exact ⟨_, List.mem_cons_of_mem _ (List.mem_cons_self), col_mem 5 inb_S256x7168_S256x1024_0_5120 y h⟩
  · exact ⟨_, List.mem_cons_of_mem _ (List.mem_cons_of_mem _ (List.mem_cons_self)), col_mem 4 inb_S256x7168_S256x1024_0_4096 y h⟩
  · exact ⟨_, List.mem_cons_of_mem _ (List.mem_cons_of_mem _ (List.mem_cons_of_mem _ (List.mem_cons_self))), col_mem 3 inb_S256x7168_S256x1024_0_3072 y h⟩
  · exact ⟨_, List.mem_cons_of_mem _ (List.mem_cons_of_mem _ (List.mem_cons_of_mem _ (List.mem_cons_of_mem _ (List.mem_cons_self)))), col_mem 2 inb_S256x7168_S256x1024_0_2048 y h⟩
  · exact ⟨_, List.mem_cons_of_mem _ (List.mem_cons_of_mem _ (List.mem_cons_of_mem _ (List.mem_cons_of_mem _ (List.mem_cons_of_mem _ (List.mem_cons_self))))), col_mem 1 inb_S256x7168_S256x1024_0_1024 y h⟩
  · exact ⟨_, List.mem_cons_of_mem _ (List.mem_cons_of_mem _ (List.mem_cons_of_mem _ (List.mem_cons_of_mem _ (List.mem_cons_of_mem _ (List.mem_cons_of_mem _ (List.mem_cons_self)))))), col_mem 0 inb_S256x7168_S256x1024_0_0 y h⟩

theorem proj_stored : View.canon (projStores x0 x1 x2) = tileProj x0 x1 x2 := funext fun y =>
  View.canon_apply_of_pieces (tileProj x0 x1 x2) _ (by
    simp only [List.forall_mem_cons]
    refine ⟨?_, ?_, ?_, ?_, ?_, ?_, ?_, fun _ h => absurd h List.not_mem_nil⟩
    all_goals
      intro x
      refine (congrFun (loaded_eq x0 x1 x2 _ _) x).trans (col_piece x0 x1 x2 _ _ x)) y (proj_covered x0 x1 x2 y)

/-- The stores of a block's heads, the last one first. -/
abbrev headStores (j : Fin 7) (h : ∀ a, (![0, 1024 * j.val] : Fin 2 → ℕ) a + S1024x1024.size a ≤ S1024x7168.size a) :
    List (View.Piece (Elt F) S2048x128 .f32) :=
  [⟨headRect 7 inb_S2048x128_S256x128_7_0_s_8_1, extractStridedSlice S256x128 ![0, 896] (loaded x0 x1 x2 j h) slices_S256x1024_o0_896_S256x128⟩,
    ⟨headRect 6 inb_S2048x128_S256x128_6_0_s_8_1, extractStridedSlice S256x128 ![0, 768] (loaded x0 x1 x2 j h) slices_S256x1024_o0_768_S256x128⟩,
    ⟨headRect 5 inb_S2048x128_S256x128_5_0_s_8_1, extractStridedSlice S256x128 ![0, 640] (loaded x0 x1 x2 j h) slices_S256x1024_o0_640_S256x128⟩,
    ⟨headRect 4 inb_S2048x128_S256x128_4_0_s_8_1, extractStridedSlice S256x128 ![0, 512] (loaded x0 x1 x2 j h) slices_S256x1024_o0_512_S256x128⟩,
    ⟨headRect 3 inb_S2048x128_S256x128_3_0_s_8_1, extractStridedSlice S256x128 ![0, 384] (loaded x0 x1 x2 j h) slices_S256x1024_o0_384_S256x128⟩,
    ⟨headRect 2 inb_S2048x128_S256x128_2_0_s_8_1, extractStridedSlice S256x128 ![0, 256] (loaded x0 x1 x2 j h) slices_S256x1024_o0_256_S256x128⟩,
    ⟨headRect 1 inb_S2048x128_S256x128_1_0_s_8_1, extractStridedSlice S256x128 ![0, 128] (loaded x0 x1 x2 j h) slices_S256x1024_o0_128_S256x128⟩,
    ⟨headRect 0 inb_S2048x128_S256x128_0_0_s_8_1, extractStridedSlice S256x128 ![0, 0] (loaded x0 x1 x2 j h) slices_S256x1024_o0_0_S256x128⟩]

theorem heads_covered (j : Fin 7) (h) (y : S2048x128.Idx) : ∃ p ∈ headStores x0 x1 x2 j h, y ∈ p.1.set := by
  obtain e | e | e | e | e | e | e | e : (y 0).val % 8 = 7 ∨ (y 0).val % 8 = 6 ∨ (y 0).val % 8 = 5 ∨ (y 0).val % 8 = 4
      ∨ (y 0).val % 8 = 3 ∨ (y 0).val % 8 = 2 ∨ (y 0).val % 8 = 1 ∨ (y 0).val % 8 = 0 := by omega
  · exact ⟨_, List.mem_cons_self, head_mem 7 inb_S2048x128_S256x128_7_0_s_8_1 y e⟩
  · exact ⟨_, List.mem_cons_of_mem _ (List.mem_cons_self), head_mem 6 inb_S2048x128_S256x128_6_0_s_8_1 y e⟩
  · exact ⟨_, List.mem_cons_of_mem _ (List.mem_cons_of_mem _ (List.mem_cons_self)), head_mem 5 inb_S2048x128_S256x128_5_0_s_8_1 y e⟩
  · exact ⟨_, List.mem_cons_of_mem _ (List.mem_cons_of_mem _ (List.mem_cons_of_mem _ (List.mem_cons_self))), head_mem 4 inb_S2048x128_S256x128_4_0_s_8_1 y e⟩
  · exact ⟨_, List.mem_cons_of_mem _ (List.mem_cons_of_mem _ (List.mem_cons_of_mem _ (List.mem_cons_of_mem _ (List.mem_cons_self)))), head_mem 3 inb_S2048x128_S256x128_3_0_s_8_1 y e⟩
  · exact ⟨_, List.mem_cons_of_mem _ (List.mem_cons_of_mem _ (List.mem_cons_of_mem _ (List.mem_cons_of_mem _ (List.mem_cons_of_mem _ (List.mem_cons_self))))), head_mem 2 inb_S2048x128_S256x128_2_0_s_8_1 y e⟩
  · exact ⟨_, List.mem_cons_of_mem _ (List.mem_cons_of_mem _ (List.mem_cons_of_mem _ (List.mem_cons_of_mem _ (List.mem_cons_of_mem _ (List.mem_cons_of_mem _ (List.mem_cons_self)))))), head_mem 1 inb_S2048x128_S256x128_1_0_s_8_1 y e⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), head_mem 0 inb_S2048x128_S256x128_0_0_s_8_1 y e⟩

theorem heads_stored (j : Fin 7) (h) : View.canon (headStores x0 x1 x2 j h) = tileHeads x0 x1 x2 j := funext fun y =>
  View.canon_apply_of_pieces (tileHeads x0 x1 x2 j) _ (by
    unfold headStores
    rw [loaded_eq]
    simp only [List.forall_mem_cons]
    exact ⟨head_piece x0 x1 x2 j 7 inb_S2048x128_S256x128_7_0_s_8_1 slices_S256x1024_o0_896_S256x128,
      head_piece x0 x1 x2 j 6 inb_S2048x128_S256x128_6_0_s_8_1 slices_S256x1024_o0_768_S256x128,
      head_piece x0 x1 x2 j 5 inb_S2048x128_S256x128_5_0_s_8_1 slices_S256x1024_o0_640_S256x128,
      head_piece x0 x1 x2 j 4 inb_S2048x128_S256x128_4_0_s_8_1 slices_S256x1024_o0_512_S256x128,
      head_piece x0 x1 x2 j 3 inb_S2048x128_S256x128_3_0_s_8_1 slices_S256x1024_o0_384_S256x128,
      head_piece x0 x1 x2 j 2 inb_S2048x128_S256x128_2_0_s_8_1 slices_S256x1024_o0_256_S256x128,
      head_piece x0 x1 x2 j 1 inb_S2048x128_S256x128_1_0_s_8_1 slices_S256x1024_o0_128_S256x128,
      head_piece x0 x1 x2 j 0 inb_S2048x128_S256x128_0_0_s_8_1 slices_S256x1024_o0_0_S256x128, fun _ h => absurd h List.not_mem_nil⟩)
    y (heads_covered x0 x1 x2 j h y)

end stores

variable (m : (ℓ : Loc nD τ sig) → Buf (Elt F) ℓ) (ρ : Dev nD → PrngReg)

/-! ## The body -/

set_option maxHeartbeats 1000000 in
/-- The body leaves its input windows as they were, and its output windows at the tiles. -/
theorem body_runs (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x7168 .bf16) (harg3 : arg3.IsWhole) (arg4 : Memref sig .tc .vmem S256x7168 .f32) (harg4 : arg4.IsWhole) (arg5 : Memref sig .tc .vmem S2048x128 .f32) (harg5 : arg5.IsWhole) (arg6 : Memref sig .tc .vmem S2048x128 .f32) (harg6 : arg6.IsWhole)
    (x0 : Vec F S256x1024 .f32) (x1 : Vec F S1x1024 .f32) (x2 : Vec F S1024x7168 .bf16)
    (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
          ∗ owns (c : Thread nD τ) arg4 fullShare (tileProj x0 x1 x2) ∗ owns (c : Thread nD τ) arg5 fullShare (tileHeads x0 x1 x2 1)
          ∗ owns (c : Thread nD τ) arg6 fullShare (tileHeads x0 x1 x2 2)) -∗ K ⟨⟩))
      ⊢ wp frame (wpE (defs₀ (F := F)) Variants.none c none) E
          (cc0_inproj i arg1 harg1 arg2 harg2 arg3 harg3 arg4 harg4 arg5 harg5 arg6 harg6) K := by
  simp only [cc0_inproj_eq_skeleton]; unfold cc0_inproj_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ (projStores _ _ _) (proj_covered _ _ _)).trans (proj_stored _ _ _)
  isplitl [H4]
  · iexists _; isplitr
    swap; · iexact H4
    ipureintro
    exact (View.read_writes_eq_canon _ _ (headStores _ _ _ 1 inb_S1024x7168_S1024x1024_0_1024) (heads_covered _ _ _ 1 inb_S1024x7168_S1024x1024_0_1024)).trans (heads_stored _ _ _ 1 inb_S1024x7168_S1024x1024_0_1024)
  iexists _; isplitr
  swap; · iexact H5
  ipureintro
  exact (View.read_writes_eq_canon _ _ (headStores _ _ _ 2 inb_S1024x7168_S1024x1024_0_2048) (heads_covered _ _ _ 2 inb_S1024x7168_S1024x1024_0_2048)).trans (heads_stored _ _ _ 2 inb_S1024x7168_S1024x1024_0_2048)

/-! ## The arrays -/

/-- What the call computes on: its arrays as the region finds them, an input's window at its block and an output's at its
    tile after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileProj (iblk m c 0 t) (iblk m c 1 t) (iblk m c 2 t)
    | ⟨4, _⟩ => tileHeads (iblk m c 0 t) (iblk m c 1 t) (iblk m c 2 t) 1
    | ⟨5, _⟩ => tileHeads (iblk m c 0 t) (iblk m c 1 t) (iblk m c 2 t) 2
  Φ _ := Pipeline.ΦA spec0 c
  q _ := fullShare
  owed _ := 0

theorem entry (c : Dev nD) (w : Fin cfg0.W) : (dats m 0 c).A w = V m c (Pipeline.arrRef spec0 w) := by
  dsimp only [dats]

theorem after0 (c : Dev nD) (t : Fin cfg0.N) : (dats m 0 c).after 0 t = iblk m c 0 t := by
  dsimp only [dats]
theorem after1 (c : Dev nD) (t : Fin cfg0.N) : (dats m 0 c).after 1 t = iblk m c 1 t := by
  dsimp only [dats]
theorem after2 (c : Dev nD) (t : Fin cfg0.N) : (dats m 0 c).after 2 t = iblk m c 2 t := by
  dsimp only [dats]
theorem after3 (c : Dev nD) (t : Fin cfg0.N) : (dats m 0 c).after 3 t = tileProj (iblk m c 0 t) (iblk m c 1 t) (iblk m c 2 t) := by
  dsimp only [dats]
theorem after4 (c : Dev nD) (t : Fin cfg0.N) : (dats m 0 c).after 4 t = tileHeads (iblk m c 0 t) (iblk m c 1 t) (iblk m c 2 t) 1 := by
  dsimp only [dats]
theorem after5 (c : Dev nD) (t : Fin cfg0.N) : (dats m 0 c).after 5 t = tileHeads (iblk m c 0 t) (iblk m c 1 t) (iblk m c 2 t) 2 := by
  dsimp only [dats]
theorem before0 (c : Dev nD) (t : Fin cfg0.N) (d) : (dats m 0 c).before 0 t d = iblk m c 0 t :=
  before0_0_of m (dats m 0 c) (entry m c 0) (after0 m c) t d
theorem before1 (c : Dev nD) (t : Fin cfg0.N) (d) : (dats m 0 c).before 1 t d = iblk m c 1 t :=
  before0_1_of m (dats m 0 c) (entry m c 1) (after1 m c) t d
theorem before2 (c : Dev nD) (t : Fin cfg0.N) (d) : (dats m 0 c).before 2 t d = iblk m c 2 t :=
  before0_2_of m (dats m 0 c) (entry m c 2) (after2 m c) t d

/-- What a point's body is called with, -/
def pointPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def pointPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point_runs m c t) rfl .rfl fun _ => .rfl

/-! ## The run -/

set_option backward.isDefEq.respectTransparency.types false in
/-- Every execution ends, with the tiles in the arrays and every counter at zero. -/
theorem run : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := entry m) (hΦ := fun _ _ => rfl)

/-- Every execution leaves the arguments unchanged. -/
theorem run_unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (entry m) ((θ_run defs _ _).mono (fun _ h => h.1) (run m ρ)))
    ((θ_run defs _ _).mono (fun _ h => h.2) (run m ρ))

end Cert.Projection

end
-- ==== Proof.ProjectionValue.lean ====
/-
  The input projection's result arrays: each window's block as a part of its array, a tile's entries in mathematics, and the
  three arrays that the tiles make up.
-/
module

public import proofs.«01_k».proof.Proof.ProjectionRef
public import proofs.«01_k».proof.Proof.ProjectionRun
public import Idealize.ShloMosaic.Lib.Pipeline.Value

@[expose] public section

set_option maxRecDepth 16384

noncomputable section

namespace Cert.Projection

open Idealize.ShloMosaic Idealize.ShloMosaic.TcCoe Idealize.ShloMosaic.Tactic Idealize.SL Idealize.SL.Sem
open Cert.Kernel3Ideal Cert.Kernel3Ideal.Gen

/-! ## A tile's entries -/

section
variable (x0 : Vec Ideal S256x1024 .f32) (x1 : Vec Ideal S1x1024 .f32) (x2 : Vec Ideal S1024x7168 .bf16)

theorem normed_apply (r : Fin 256) (k : Fin 1024) :
    normed x0 x1 (ix2 r k) = Block.rms (fun k => x0 (ix2 r k)) (fun k => x1 (ix2 0 k)) k := by
  unfold normed Block.rms
  pointwise [k0_pay7]

theorem product_apply (y : FVec Ideal S256x1024 .bf16) (W : Vec Ideal S1024x1024 .bf16) (r : Fin 256) (w : Fin 1024) :
    k0_pay3 y W (ix2 r w) = Block.lin (fun k => y (ix2 r k)) (fun k j => W (ix2 k j)) w := by
  unfold Block.lin
  pointwise [k0_pay3]

theorem block_apply (j : Fin 7) (r : Fin 256) (w : Fin 1024) : block x0 x1 x2 j (ix2 r w)
    = Block.lin (Block.rms (fun k => x0 (ix2 r k)) (fun k => x1 (ix2 0 k))) (fun k n => x2 (ix2 k n))
        (⟨1024 * j.val + w.val, by omega⟩ : Fin 7168) := by
  unfold block
  rw [product_apply]
  unfold Block.lin
  exact Finset.sum_congr rfl fun k _ => congrArg (· * _) (normed_apply x0 x1 r k)

end

/-! ## The windows -/

variable (m : (ℓ : Loc nD τ sig) → Buf (Elt Ideal) ℓ) (c : Dev nD) (t : Fin cfg0.N)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : win0_1.index t 0 = 0 ∧ win0_1.index t 1 = 0 := ⟨rfl, rfl⟩
theorem index2 : win0_2.index t 0 = 0 ∧ win0_2.index t 1 = 0 := ⟨rfl, rfl⟩
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)

theorem points (t : Fin cfg0.N) : t.val < 64 := t.isLt

/-- The token under a row of a point's tile. -/
abbrev tokenOf (r : Fin 256) : Fin 16384 := ⟨t.val * 256 + r.val, by have := points t; omega⟩

theorem read0 (r : Fin 256) (k : Fin 1024) : iblk m c 0 t (ix2 r k) = m ((c : Thread nD τ).loc main_arg0) (ix2 (tokenOf t r) k) := by
  blk_ext [iblk, V, index0 t]

theorem read1 (k : Fin 1024) : iblk m c 1 t (ix2 0 k) = m ((c : Thread nD τ).loc main_arg1) (ix2 0 k) := by
  unfold iblk
  entry_read
  have e : (win0_1.blk t).view.emb (ix2 0 k) = ix2 0 k := by blk_ext [index1 t]
  blk_simp
  rw [e]
  pointwise

theorem read2 (k : Fin 1024) (n : Fin 7168) : iblk m c 2 t (ix2 k n) = m ((c : Thread nD τ).loc main_arg2) (ix3 0 k n) := by
  unfold iblk
  entry_read
  have e : (win0_2.blk t).view.emb (ix2 k n) = ix2 k n := by blk_ext [index2 t]
  blk_simp
  rw [e]
  pointwise

theorem block_proj (j : Fin 7) (r : Fin 256) (w : Fin 1024) : block (iblk m c 0 t) (iblk m c 1 t) (iblk m c 2 t) j (ix2 r w)
    = proj (m ((c : Thread nD τ).loc main_arg0)) (m ((c : Thread nD τ).loc main_arg1)) (m ((c : Thread nD τ).loc main_arg2))
        (tokenOf t r) ⟨1024 * j.val + w.val, by omega⟩ := by
  rw [block_apply]
  simp only [read0, read1, read2]
  rfl

/-! ## The arrays -/

theorem proj_final : (dats m 0 c).arrAt 3 cfg0.N
    = projArray (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, w, rfl⟩ : ∃ (r : Fin 256) (w : Fin 7168), y = ix2 r w := ⟨y 0, y 1, by ext a; fin_cases a <;> rfl⟩
  have e : (win0_3.blk t).view.emb (ix2 r w) = ix2 (tokenOf t r) w := by blk_ext [index3 t]
  blk_simp
  rw [after3, e]
  refine (block_proj m c t _ _ _).trans ?_
  show proj _ _ _ (tokenOf t r) _ = proj _ _ _ (tokenOf t r) w
  exact congrArg _ (Fin.ext (by show 1024 * (w.val / 1024) + w.val % 1024 = w.val; omega))

theorem head_entry (j : Fin 7) (r : Fin 2048) (w : Fin 128) (i : S131072x128.Idx) (h0 : (i 0).val = t.val * 2048 + r.val) (h1 : (i 1).val = w.val) :
    tileHeads (iblk m c 0 t) (iblk m c 1 t) (iblk m c 2 t) j (ix2 r w)
      = headArray j (m ((c : Thread nD τ).loc main_arg0)) (m ((c : Thread nD τ).loc main_arg1)) (m ((c : Thread nD τ).loc main_arg2)) i := by
  refine (block_proj m c t _ _ _).trans ?_
  unfold headArray
  exact congrArg₂ _ (Fin.ext (by show t.val * 256 + r.val / 8 = (i 0).val / 8; omega))
    (Fin.ext (by show 1024 * j.val + (128 * (r.val % 8) + w.val) = 1024 * j.val + (128 * ((i 0).val % 8) + (i 1).val); omega))

theorem keys_final : (dats m 0 c).arrAt 4 cfg0.N
    = headArray 1 (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨r, w, rfl⟩ : ∃ (r : Fin 2048) (w : Fin 128), y = ix2 r w := ⟨y 0, y 1, by ext a; fin_cases a <;> rfl⟩
  have e : (win0_4.blk t).view.emb (ix2 r w)
      = ix2 (⟨t.val * 2048 + r.val, by have := points t; omega⟩ : Fin 131072) w := by blk_ext [index4 t]
  blk_simp
  rw [after4, e]
  exact head_entry m c t 1 r w _ rfl rfl

theorem values_final : (dats m 0 c).arrAt 5 cfg0.N
    = headArray 2 (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨r, w, rfl⟩ : ∃ (r : Fin 2048) (w : Fin 128), y = ix2 r w := ⟨y 0, y 1, by ext a; fin_cases a <;> rfl⟩
  have e : (win0_5.blk t).view.emb (ix2 r w)
      = ix2 (⟨t.val * 2048 + r.val, by have := points t; omega⟩ : Fin 131072) w := by blk_ext [index5 t]
  blk_simp
  rw [after5, e]
  exact head_entry m c t 2 r w _ rfl rfl

end Cert.Projection

end
-- ==== Proof.ProjectionClaim.lean ====
/-
  The input projection: the frames, and the equality of the kernel's three arrays with the reference's.
-/
module

public import proofs.«01_k».proof.Defs
public import proofs.«01_k».proof.Proof.ProjectionRef
public import proofs.«01_k».proof.Proof.ProjectionValue
public import proofs.«01_k».proof.Proof.Gen.Kernel3
public import proofs.«01_k».proof.Proof.Gen.Reference3Ideal
public import Idealize.ShloMosaic.Lib.Claim
public import Idealize.ShloMosaic.Adequacy
public import Idealize.ShloMosaic.Init

@[expose] public section

set_option maxRecDepth 16384

noncomputable section

namespace Cert.Projection

open Idealize.ShloMosaic Idealize.ShloMosaic.TcCoe Idealize.ShloMosaic.Tactic Idealize.ShloMosaic.StableHlo Idealize.SL.Sem

/-- The program and its idealized form have the same bodies, -/
theorem same_bodies : Cert.Kernel3.defs₀ (F := Bits) = Cert.Kernel3Ideal.defs₀ (F := Bits) := by
  refine congrArg Defs.onTc (funext fun l => funext fun a => ?_)
  match l, a with
  | 0, (t, s) => rfl

/-- so the same calls. -/
theorem same_defs : Cert.Kernel3.defs (F := Bits) = Cert.Kernel3Ideal.defs (F := Bits) :=
  congrArg (Pipeline.defs Cert.Kernel3.pcfgs) same_bodies

/-- Both of the kernel's frames are the one run, each at its kind of float value. -/
theorem frame_kernel : Cert.quiescent_Kernel3 := fun m ρ _ => by
  rw [same_defs]
  exact run_unchanged (F := Bits) m ρ

theorem frame_ideal : Cert.quiescent_Kernel3Ideal := fun m ρ _ => run_unchanged (F := Ideal) m ρ

theorem frame_ref : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run m ρ)

section
open Cert.Kernel3Ideal Cert.Kernel3Ideal.Gen
variable (m : (ℓ : Loc nD τ sig) → Buf (Elt Ideal) ℓ) (ρ : Dev nD → PrngReg)

abbrev argX (c : Dev nD) : FVec Ideal S16384x1024 .f32 := m ((c : Thread nD τ).loc main_arg0)
abbrev argG (c : Dev nD) : FVec Ideal S1x1024 .f32 := m ((c : Thread nD τ).loc main_arg1)
abbrev argW (c : Dev nD) : FVec Ideal S1x1024x7168 .f32 := m ((c : Thread nD τ).loc main_arg2)

/-- The call's three arrays, and its arguments unchanged. -/
theorem run_arrays : θ_run defs (onTc (τ := τ) (main (F := Ideal))) ⟨m, fun _ => 0, ρ⟩ (fun r => ∀ c : Dev nD,
    r.2.mem ((c.tc : Thread nD τ).loc main_v4_0) = projArray (argX m c) (argG m c) (argW m c)
    ∧ r.2.mem ((c.tc : Thread nD τ).loc main_v4_1) = headArray 1 (argX m c) (argG m c) (argW m c)
    ∧ r.2.mem ((c.tc : Thread nD τ).loc main_v4_2) = headArray 2 (argX m c) (argG m c) (argW m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h.1.1 c).1 3).trans (proj_final m c), ((h.1.1 c).1 4).trans (keys_final m c),
      ((h.1.1 c).1 5).trans (values_final m c), h.2.1 c⟩)
    (θ_run_and (run m ρ) (run_unchanged m ρ))

end

/-- Kernel and reference compute the same three arrays from equal arguments. -/
theorem equal : Cert.algebraic_Kernel3Ideal_Reference3Ideal := fun m ρ m' ρ' _ hag =>
  ⟨fun c => projArray (argX m c) (argG m c) (argW m c), fun c => headArray 1 (argX m c) (argG m c) (argW m c),
    fun c => headArray 2 (argX m c) (argG m c) (argW m c), run_arrays m ρ,
    (θ_run Cert.Reference3Ideal.defs _ _).mono (fun _ h c => by
      obtain ⟨h0, h1, h2⟩ := hag c
      obtain ⟨e0, e1, e2, ea⟩ := h c
      refine ⟨e0.trans ?_, e1.trans ?_, e2.trans ?_, ea⟩
      · rw [h0, h1, h2]
        exact refProj_eq (argX m c) (argG m c) (argW m c)
      · rw [h0, h1, h2]
        exact rows_eq (argX m c) (argG m c) (argW m c) 1 _
      · rw [h0, h1, h2]
        exact rows_eq (argX m c) (argG m c) (argW m c) 2 _)
      (Cert.Reference3Ideal.Value.run m' ρ')⟩

end Cert.Projection

end
-- ==== Proof.SampleProjectionRun.lean ====
/-
  The sample group's input projection runs. Its tile is the prompt's, and so are the stores that fill its windows: only the
  arrays around it are smaller, and the grid has one point.
-/
module

public import proofs.«01_k».proof.Proof.ProjectionRun
public import proofs.«01_k».proof.Proof.Gen.Kernel4Ideal.Skeleton
public import proofs.«01_k».proof.Proof.Gen.Kernel4Ideal.Frame
public import Idealize.ShloMosaic.Lib.Claim

@[expose] public section

set_option maxRecDepth 16384

noncomputable section

namespace Cert.SampleProjection

open Cert.Kernel4Ideal Cert.Kernel4Ideal.Gen
open Cert.Projection (tileProj tileHeads projStores proj_covered proj_stored headStores heads_covered heads_stored)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The body -/

set_option maxHeartbeats 1000000 in
/-- The body leaves its input windows as they were, and its output windows at the tiles. -/
theorem body_runs (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x7168 .bf16) (harg3 : arg3.IsWhole) (arg4 : Memref sig .tc .vmem S256x7168 .f32) (harg4 : arg4.IsWhole) (arg5 : Memref sig .tc .vmem S2048x128 .f32) (harg5 : arg5.IsWhole) (arg6 : Memref sig .tc .vmem S2048x128 .f32) (harg6 : arg6.IsWhole)
    (x0 : Vec F S256x1024 .f32) (x1 : Vec F S1x1024 .f32) (x2 : Vec F S1024x7168 .bf16)
    (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
          ∗ owns (c : Thread nD τ) arg4 fullShare (tileProj x0 x1 x2) ∗ owns (c : Thread nD τ) arg5 fullShare (tileHeads x0 x1 x2 1)
          ∗ owns (c : Thread nD τ) arg6 fullShare (tileHeads x0 x1 x2 2)) -∗ K ⟨⟩))
      ⊢ wp frame (wpE (defs₀ (F := F)) Variants.none c none) E
          (cc0_inproj i arg1 harg1 arg2 harg2 arg3 harg3 arg4 harg4 arg5 harg5 arg6 harg6) K := by
  simp only [cc0_inproj_eq_skeleton]; unfold cc0_inproj_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ (projStores _ _ _) (proj_covered _ _ _)).trans (proj_stored _ _ _)
  isplitl [H4]
  · iexists _; isplitr
    swap; · iexact H4
    ipureintro
    exact (View.read_writes_eq_canon _ _ (headStores _ _ _ 1 inb_S1024x7168_S1024x1024_0_1024) (heads_covered _ _ _ 1 inb_S1024x7168_S1024x1024_0_1024)).trans (heads_stored _ _ _ 1 inb_S1024x7168_S1024x1024_0_1024)
  iexists _; isplitr
  swap; · iexact H5
  ipureintro
  exact (View.read_writes_eq_canon _ _ (headStores _ _ _ 2 inb_S1024x7168_S1024x1024_0_2048) (heads_covered _ _ _ 2 inb_S1024x7168_S1024x1024_0_2048)).trans (heads_stored _ _ _ 2 inb_S1024x7168_S1024x1024_0_2048)

/-! ## The arrays -/

/-- What the call computes on: its arrays as the region finds them, an input's window at its block and an output's at its
    tile after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileProj (iblk m c 0 t) (iblk m c 1 t) (iblk m c 2 t)
    | ⟨4, _⟩ => tileHeads (iblk m c 0 t) (iblk m c 1 t) (iblk m c 2 t) 1
    | ⟨5, _⟩ => tileHeads (iblk m c 0 t) (iblk m c 1 t) (iblk m c 2 t) 2
  Φ _ := Pipeline.ΦA spec0 c
  q _ := fullShare
  owed _ := 0

theorem entry (c : Dev nD) (w : Fin cfg0.W) : (dats m 0 c).A w = V m c (Pipeline.arrRef spec0 w) := by
  dsimp only [dats]

theorem after0 (c : Dev nD) (t : Fin cfg0.N) : (dats m 0 c).after 0 t = iblk m c 0 t := by
  dsimp only [dats]
theorem after1 (c : Dev nD) (t : Fin cfg0.N) : (dats m 0 c).after 1 t = iblk m c 1 t := by
  dsimp only [dats]
theorem after2 (c : Dev nD) (t : Fin cfg0.N) : (dats m 0 c).after 2 t = iblk m c 2 t := by
  dsimp only [dats]
theorem after3 (c : Dev nD) (t : Fin cfg0.N) : (dats m 0 c).after 3 t = tileProj (iblk m c 0 t) (iblk m c 1 t) (iblk m c 2 t) := by
  dsimp only [dats]
theorem after4 (c : Dev nD) (t : Fin cfg0.N) : (dats m 0 c).after 4 t = tileHeads (iblk m c 0 t) (iblk m c 1 t) (iblk m c 2 t) 1 := by
  dsimp only [dats]
theorem after5 (c : Dev nD) (t : Fin cfg0.N) : (dats m 0 c).after 5 t = tileHeads (iblk m c 0 t) (iblk m c 1 t) (iblk m c 2 t) 2 := by
  dsimp only [dats]
theorem before0 (c : Dev nD) (t : Fin cfg0.N) (d) : (dats m 0 c).before 0 t d = iblk m c 0 t :=
  before0_0_of m (dats m 0 c) (entry m c 0) (after0 m c) t d
theorem before1 (c : Dev nD) (t : Fin cfg0.N) (d) : (dats m 0 c).before 1 t d = iblk m c 1 t :=
  before0_1_of m (dats m 0 c) (entry m c 1) (after1 m c) t d
theorem before2 (c : Dev nD) (t : Fin cfg0.N) (d) : (dats m 0 c).before 2 t d = iblk m c 2 t :=
  before0_2_of m (dats m 0 c) (entry m c 2) (after2 m c) t d

/-- What a point's body is called with, -/
def pointPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def pointPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point_runs m c t) rfl .rfl fun _ => .rfl

/-! ## The run -/

set_option backward.isDefEq.respectTransparency.types false in
/-- Every execution ends, with the tiles in the arrays and every counter at zero. -/
theorem run : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := entry m) (hΦ := fun _ _ => rfl)

/-- Every execution leaves the arguments unchanged. -/
theorem run_unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (entry m) ((θ_run defs _ _).mono (fun _ h => h.1) (run m ρ)))
    ((θ_run defs _ _).mono (fun _ h => h.2) (run m ρ))

end Cert.SampleProjection

end
-- ==== Proof.SampleProjection.lean ====
/-
  The input projection of the sample group: its result arrays, the reference's, and the claims.
-/
module

public import proofs.«01_k».proof.Defs
public import proofs.«01_k».proof.Proof.ProjectionValue
public import proofs.«01_k».proof.Proof.SampleProjectionRun
public import proofs.«01_k».proof.Proof.Gen.Kernel4
public import proofs.«01_k».proof.Proof.Gen.Reference4Ideal
public import proofs.«01_k».proof.Proof.Gen.Reference4Ideal.Run
public import Idealize.ShloMosaic.Lib.Pipeline.Value
public import Idealize.ShloMosaic.Lib.Claim
public import Idealize.ShloMosaic.Adequacy
public import Idealize.ShloMosaic.Init

@[expose] public section

set_option maxRecDepth 16384

noncomputable section

namespace Cert.SampleProjection

open Idealize.ShloMosaic
open Cert.Projection (proj projArray block tileHeads block_apply)

/-- A block of 1024 of its channels, one row per token and head. -/
def headArray (j : Fin 7) (x : Vec Ideal ⟨2, ![256, 1024]⟩ .f32) (g : Vec Ideal ⟨2, ![1, 1024]⟩ .f32)
    (W : Vec Ideal ⟨3, ![1, 1024, 7168]⟩ .f32) : Vec Ideal ⟨2, ![2048, 128]⟩ .f32 := fun i =>
  proj x g W ⟨(i 0).val / 8, by have : (i 0).val < 2048 := (i 0).isLt; omega⟩
    ⟨1024 * j.val + (128 * ((i 0).val % 8) + (i 1).val), by have : (i 1).val < 128 := (i 1).isLt; omega⟩

section
open Cert.Reference4Ideal Cert.Reference4Ideal.Gen
variable (x : FVec Ideal S256x1024 .f32) (g : FVec Ideal S1x1024 .f32) (W : FVec Ideal S1x1024x7168 .f32)

/-- The reference's projection. -/
def refProj : FVec Ideal S256x7168 .f32 :=
  Host.dotGeneral dot_S256x1024_S1024x7168_S256x7168_1_0_0_1_n_n none (mulf (mulf x (broadcastInDim S256x1024 ![0, 1] bcast_S256x1_S256x1024_0_1 (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 (shapeCast _ g shapeCasts_S1x1024_S1024)))) (shapeCast _ W shapeCasts_S1x1024x7168_S1024x7168)

theorem refProj_apply (q : Fin 256) (w : Fin 7168) : refProj x g W (ix2 q w) = proj x g W q w := by
  unfold proj Block.lin Block.rms
  pointwise [refProj]

theorem refProj_eq : refProj x g W = projArray x g W := funext fun i => by
  obtain ⟨q, w, rfl⟩ : ∃ (q : Fin 256) (w : Fin 7168), i = ix2 q w := ⟨i 0, i 1, by ext a; fin_cases a <;> rfl⟩
  exact refProj_apply x g W q w

/-- A block of the projection's channels cut into its heads' rows. -/
theorem rows_eq (j : Fin 7) (hs) : shapeCast S2048x128 (extractStridedSlice S256x1024 ![0, 1024 * j.val] (refProj x g W) hs)
    shapeCasts_S256x1024_S2048x128 = headArray j x g W := funext fun i => by
  have h0 : (i 0).val < 2048 := (i 0).isLt
  have h1 : (i 1).val < 128 := (i 1).isLt
  refine (shapeCast_apply _ _ i (ix2 (⟨(i 0).val / 8, by omega⟩ : Fin 256) (⟨128 * ((i 0).val % 8) + (i 1).val, by omega⟩ : Fin 1024)) ?_).trans ?_
  · rw [Shape.rowMajor_val_two, Shape.rowMajor_val_two]
    show (i 0).val / 8 * 1024 + (128 * ((i 0).val % 8) + (i 1).val) = (i 0).val * 128 + (i 1).val
    omega
  refine (extractStridedSlice_apply _ _ _ _ (ix2 (⟨(i 0).val / 8, by omega⟩ : Fin 256)
    (⟨1024 * j.val + (128 * ((i 0).val % 8) + (i 1).val), by omega⟩ : Fin 7168)) fun a => ?_).trans ?_
  · fin_cases a
    · show (i 0).val / 8 = 0 + (i 0).val / 8; omega
    · rfl
  exact refProj_apply x g W _ _

end

section
open Idealize.ShloMosaic Idealize.ShloMosaic.TcCoe Idealize.ShloMosaic.Tactic Idealize.ShloMosaic.StableHlo Idealize.SL Idealize.SL.Sem
open Cert.Kernel4Ideal Cert.Kernel4Ideal.Gen

/-! ## The windows -/

variable (m : (ℓ : Loc nD τ sig) → Buf (Elt Ideal) ℓ) (c : Dev nD) (t : Fin cfg0.N)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : win0_1.index t 0 = 0 ∧ win0_1.index t 1 = 0 := ⟨rfl, rfl⟩
theorem index2 : win0_2.index t 0 = 0 ∧ win0_2.index t 1 = 0 := ⟨rfl, rfl⟩
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)

theorem points (t : Fin cfg0.N) : t.val < 1 := t.isLt

/-- The token under a row of a point's tile. -/
abbrev tokenOf (r : Fin 256) : Fin 256 := ⟨t.val * 256 + r.val, by have := points t; omega⟩

theorem read0 (r : Fin 256) (k : Fin 1024) : iblk m c 0 t (ix2 r k) = m ((c : Thread nD τ).loc main_arg0) (ix2 (tokenOf t r) k) := by
  blk_ext [iblk, V, index0 t]

theorem read1 (k : Fin 1024) : iblk m c 1 t (ix2 0 k) = m ((c : Thread nD τ).loc main_arg1) (ix2 0 k) := by
  unfold iblk
  entry_read
  have e : (win0_1.blk t).view.emb (ix2 0 k) = ix2 0 k := by blk_ext [index1 t]
  blk_simp
  rw [e]
  pointwise

theorem read2 (k : Fin 1024) (n : Fin 7168) : iblk m c 2 t (ix2 k n) = m ((c : Thread nD τ).loc main_arg2) (ix3 0 k n) := by
  unfold iblk
  entry_read
  have e : (win0_2.blk t).view.emb (ix2 k n) = ix2 k n := by blk_ext [index2 t]
  blk_simp
  rw [e]
  pointwise

theorem block_proj (j : Fin 7) (r : Fin 256) (w : Fin 1024) : block (iblk m c 0 t) (iblk m c 1 t) (iblk m c 2 t) j (ix2 r w)
    = proj (m ((c : Thread nD τ).loc main_arg0)) (m ((c : Thread nD τ).loc main_arg1)) (m ((c : Thread nD τ).loc main_arg2))
        (tokenOf t r) ⟨1024 * j.val + w.val, by omega⟩ := by
  rw [block_apply]
  simp only [read0, read1, read2]
  rfl

/-! ## The arrays -/

theorem proj_final : (dats m 0 c).arrAt 3 cfg0.N
    = projArray (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, w, rfl⟩ : ∃ (r : Fin 256) (w : Fin 7168), y = ix2 r w := ⟨y 0, y 1, by ext a; fin_cases a <;> rfl⟩
  have e : (win0_3.blk t).view.emb (ix2 r w) = ix2 (tokenOf t r) w := by blk_ext [index3 t]
  blk_simp
  rw [after3, e]
  refine (block_proj m c t _ _ _).trans ?_
  show proj _ _ _ (tokenOf t r) _ = proj _ _ _ (tokenOf t r) w
  exact congrArg _ (Fin.ext (by show 1024 * (w.val / 1024) + w.val % 1024 = w.val; omega))

theorem head_entry (j : Fin 7) (r : Fin 2048) (w : Fin 128) (i : S2048x128.Idx) (h0 : (i 0).val = t.val * 2048 + r.val) (h1 : (i 1).val = w.val) :
    tileHeads (iblk m c 0 t) (iblk m c 1 t) (iblk m c 2 t) j (ix2 r w)
      = headArray j (m ((c : Thread nD τ).loc main_arg0)) (m ((c : Thread nD τ).loc main_arg1)) (m ((c : Thread nD τ).loc main_arg2)) i := by
  refine (block_proj m c t _ _ _).trans ?_
  unfold headArray
  exact congrArg₂ _ (Fin.ext (by show t.val * 256 + r.val / 8 = (i 0).val / 8; omega))
    (Fin.ext (by show 1024 * j.val + (128 * (r.val % 8) + w.val) = 1024 * j.val + (128 * ((i 0).val % 8) + (i 1).val); omega))

theorem keys_final : (dats m 0 c).arrAt 4 cfg0.N
    = headArray 1 (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨r, w, rfl⟩ : ∃ (r : Fin 2048) (w : Fin 128), y = ix2 r w := ⟨y 0, y 1, by ext a; fin_cases a <;> rfl⟩
  have e : (win0_4.blk t).view.emb (ix2 r w)
      = ix2 (⟨t.val * 2048 + r.val, by have := points t; omega⟩ : Fin 2048) w := by blk_ext [index4 t]
  blk_simp
  rw [after4, e]
  exact head_entry m c t 1 r w _ rfl rfl

theorem values_final : (dats m 0 c).arrAt 5 cfg0.N
    = headArray 2 (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨r, w, rfl⟩ : ∃ (r : Fin 2048) (w : Fin 128), y = ix2 r w := ⟨y 0, y 1, by ext a; fin_cases a <;> rfl⟩
  have e : (win0_5.blk t).view.emb (ix2 r w)
      = ix2 (⟨t.val * 2048 + r.val, by have := points t; omega⟩ : Fin 2048) w := by blk_ext [index5 t]
  blk_simp
  rw [after5, e]
  exact head_entry m c t 2 r w _ rfl rfl

end

open Idealize.ShloMosaic Idealize.ShloMosaic.TcCoe Idealize.ShloMosaic.Tactic Idealize.ShloMosaic.StableHlo Idealize.SL.Sem

/-- The program and its idealized form have the same bodies, -/
theorem same_bodies : Cert.Kernel4.defs₀ (F := Bits) = Cert.Kernel4Ideal.defs₀ (F := Bits) := by
  refine congrArg Defs.onTc (funext fun l => funext fun a => ?_)
  match l, a with
  | 0, (t, s) => rfl

/-- so the same calls. -/
theorem same_defs : Cert.Kernel4.defs (F := Bits) = Cert.Kernel4Ideal.defs (F := Bits) :=
  congrArg (Pipeline.defs Cert.Kernel4.pcfgs) same_bodies

/-- Both of the kernel's frames are the one run, each at its kind of float value. -/
theorem frame_kernel : Cert.quiescent_Kernel4 := fun m ρ _ => by
  rw [same_defs]
  exact run_unchanged (F := Bits) m ρ

theorem frame_ideal : Cert.quiescent_Kernel4Ideal := fun m ρ _ => run_unchanged (F := Ideal) m ρ

theorem frame_ref : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run m ρ)

section
open Cert.Kernel4Ideal Cert.Kernel4Ideal.Gen
variable (m : (ℓ : Loc nD τ sig) → Buf (Elt Ideal) ℓ) (ρ : Dev nD → PrngReg)

abbrev argX (c : Dev nD) : FVec Ideal S256x1024 .f32 := m ((c : Thread nD τ).loc main_arg0)
abbrev argG (c : Dev nD) : FVec Ideal S1x1024 .f32 := m ((c : Thread nD τ).loc main_arg1)
abbrev argW (c : Dev nD) : FVec Ideal S1x1024x7168 .f32 := m ((c : Thread nD τ).loc main_arg2)

/-- The call's three arrays, and its arguments unchanged. -/
theorem run_arrays : θ_run defs (onTc (τ := τ) (main (F := Ideal))) ⟨m, fun _ => 0, ρ⟩ (fun r => ∀ c : Dev nD,
    r.2.mem ((c.tc : Thread nD τ).loc main_v4_0) = projArray (argX m c) (argG m c) (argW m c)
    ∧ r.2.mem ((c.tc : Thread nD τ).loc main_v4_1) = headArray 1 (argX m c) (argG m c) (argW m c)
    ∧ r.2.mem ((c.tc : Thread nD τ).loc main_v4_2) = headArray 2 (argX m c) (argG m c) (argW m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h.1.1 c).1 3).trans (proj_final m c), ((h.1.1 c).1 4).trans (keys_final m c),
      ((h.1.1 c).1 5).trans (values_final m c), h.2.1 c⟩)
    (θ_run_and (run m ρ) (run_unchanged m ρ))

end

/-- Kernel and reference compute the same three arrays from equal arguments. -/
theorem equal : Cert.algebraic_Kernel4Ideal_Reference4Ideal := fun m ρ m' ρ' _ hag =>
  ⟨fun c => projArray (argX m c) (argG m c) (argW m c), fun c => headArray 1 (argX m c) (argG m c) (argW m c),
    fun c => headArray 2 (argX m c) (argG m c) (argW m c), run_arrays m ρ,
    (θ_run Cert.Reference4Ideal.defs _ _).mono (fun _ h c => by
      obtain ⟨h0, h1, h2⟩ := hag c
      obtain ⟨e0, e1, e2, ea⟩ := h c
      refine ⟨e0.trans ?_, e1.trans ?_, e2.trans ?_, ea⟩
      · rw [h0, h1, h2]
        exact refProj_eq (argX m c) (argG m c) (argW m c)
      · rw [h0, h1, h2]
        exact rows_eq (argX m c) (argG m c) (argW m c) 1 _
      · rw [h0, h1, h2]
        exact rows_eq (argX m c) (argG m c) (argW m c) 2 _)
      (Cert.Reference4Ideal.Value.run m' ρ')⟩

end Cert.SampleProjection

end
-- ==== Proof.SampleBlockRef.lean ====
/-
  The reference's output block of the sample group: each of its arrays at a token and a channel.
-/
module

public import proofs.«01_k».proof.Proof.Block
public import proofs.«01_k».proof.Proof.Gen.Reference5Ideal.Run

@[expose] public section

set_option maxRecDepth 16384

noncomputable section

namespace Cert.SampleBlock

open Cert.Block (Token Weights rms lin mix h1 glu h2 h3 y weights sampleToken)
open Idealize.ShloMosaic Idealize.ShloMosaic.StableHlo Cert.Reference5Ideal Cert.Reference5Ideal.Gen Cert.Reference5Ideal.Value

variable (V : Valuation τ sig (Elt Ideal)) (q : Fin 256) (w : Fin 1024)

abbrev refWeights : Weights := weights (V (Proc.devRef .tc main_arg5)) (V (Proc.devRef .tc main_arg6)) (V (Proc.devRef .tc main_arg7))
  (V (Proc.devRef .tc main_arg8)) (V (Proc.devRef .tc main_arg9)) (V (Proc.devRef .tc main_arg10)) (V (Proc.devRef .tc main_arg11))
  (V (Proc.devRef .tc main_arg12)) (V (Proc.devRef .tc main_arg13))

abbrev refToken : Token := sampleToken (V (Proc.devRef .tc main_arg0)) (V (Proc.devRef .tc main_arg1)) (V (Proc.devRef .tc main_arg2))
  (V (Proc.devRef .tc main_arg3)) (V (Proc.devRef .tc main_arg4)) q

theorem ref_h1 : (res_main_v29 V : Vec Ideal S256x1024 .f32) (ix2 q w) = h1 (refToken V q) (refWeights V) w := by
  unfold h1 lin mix refToken refWeights sampleToken weights
  pointwise [res_main_v29]
  rfl

theorem ref_up (j : Fin 5632) : (res_main_v45 V : Vec Ideal S256x5632 .f32) (ix2 q j)
    = lin (rms (fun k => (res_main_v29 V : Vec Ideal S256x1024 .f32) (ix2 q k)) (refWeights V).gf)
        (fun k j => (V (Proc.devRef .tc main_arg8) : Vec Ideal S1x1024x5632 .f32) (ix3 0 k j)) j := by
  unfold lin rms refWeights weights
  pointwise [res_main_v45]

theorem ref_h2 : (res_main_v52 V : Vec Ideal S256x1024 .f32) (ix2 q w) = h2 (refToken V q) (refWeights V) w := by
  unfold h2 glu
  unfold lin
  pointwise [res_main_v52, res_main_v46]
  simp only [ref_up, ref_h1]
  rfl

theorem ref_h3 : (res_main_v80 V : Vec Ideal S256x1024 .f32) (ix2 q w) = h3 (refToken V q) (refWeights V) w := by
  unfold h3 lin rms
  pointwise [res_main_v80]
  simp only [ref_h2]
  rfl

/-- The reference's result. -/
abbrev refOut : Vec Ideal S256x1024 .f32 :=
  mulf (mulf (res_main_v80 V) (broadcastInDim S256x1024 ![0, 1] bcast_S256x1_S256x1024_0_1 (Host.rsqrt (addf (Host.divf (broadcastInDim S256x1 ![0] bcast_S256_S256x1_0 (Host.reduceAdd (mulf (res_main_v80 V) (res_main_v80 V)) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 (V (Proc.devRef .tc main_arg13))))

theorem ref_out : refOut V (ix2 q w) = y (refToken V q) (refWeights V) w := by
  unfold y rms
  pointwise [refOut]
  simp only [ref_h3]
  rfl

end Cert.SampleBlock

end
-- ==== Proof.SampleBlock.lean ====
/-
  The output block of the sample group: the blocks its one grid point reads, the whole result array, and the claims.
-/
module

public import proofs.«01_k».proof.Defs
public import proofs.«01_k».proof.Proof.BlockTile
public import proofs.«01_k».proof.Proof.SampleBlockRef
public import proofs.«01_k».proof.Proof.Gen.Kernel5Ideal.Value
public import proofs.«01_k».proof.Proof.Gen.Reference5Ideal
public import Idealize.ShloMosaic.Lib.Claim
public import Idealize.ShloMosaic.Adequacy
public import Idealize.ShloMosaic.Init

@[expose] public section

set_option maxRecDepth 16384

noncomputable section

namespace Cert.SampleBlock

open Cert.Block (Token Weights y weights sampleToken result tileToken tileWeights tile_apply)

section
open Idealize.ShloMosaic Idealize.ShloMosaic.TcCoe Idealize.ShloMosaic.Tactic Idealize.SL Idealize.SL.Sem
open Cert.Kernel5Ideal Cert.Kernel5Ideal.Gen

variable (m : (ℓ : Loc nD τ sig) → Buf (Elt Ideal) ℓ) (c : Dev nD) (t : Fin cfg0.N)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 5 :=
  (by decide +kernel : ∀ t : Fin grid0.N, win0_3.index t 0 = t.val ∧ win0_3.index t 1 = 5)
theorem index4 : ∀ t : Fin cfg0.N, win0_4.index t 0 = t.val ∧ win0_4.index t 1 = 6 :=
  (by decide +kernel : ∀ t : Fin grid0.N, win0_4.index t 0 = t.val ∧ win0_4.index t 1 = 6)
theorem index5 : ∀ t : Fin cfg0.N, win0_5.index t 0 = t.val ∧ win0_5.index t 1 = 0 :=
  (by decide +kernel : ∀ t : Fin grid0.N, win0_5.index t 0 = t.val ∧ win0_5.index t 1 = 0)
theorem index15 : ∀ t : Fin cfg0.N, win0_15.index t 0 = t.val ∧ win0_15.index t 1 = 0 :=
  (by decide +kernel : ∀ t : Fin grid0.N, win0_15.index t 0 = t.val ∧ win0_15.index t 1 = 0)
theorem index6 : win0_6.index t 0 = 0 ∧ win0_6.index t 1 = 0 := ⟨rfl, rfl⟩
theorem index7 : win0_7.index t 0 = 0 ∧ win0_7.index t 1 = 0 := ⟨rfl, rfl⟩
theorem index8 : win0_8.index t 0 = 0 ∧ win0_8.index t 1 = 0 := ⟨rfl, rfl⟩
theorem index9 : win0_9.index t 0 = 0 ∧ win0_9.index t 1 = 0 := ⟨rfl, rfl⟩
theorem index10 : win0_10.index t 0 = 0 ∧ win0_10.index t 1 = 0 := ⟨rfl, rfl⟩
theorem index11 : win0_11.index t 0 = 0 ∧ win0_11.index t 1 = 0 := ⟨rfl, rfl⟩
theorem index12 : win0_12.index t 0 = 0 ∧ win0_12.index t 1 = 0 := ⟨rfl, rfl⟩
theorem index13 : win0_13.index t 0 = 0 ∧ win0_13.index t 1 = 0 := ⟨rfl, rfl⟩
theorem index14 : win0_14.index t 0 = 0 ∧ win0_14.index t 1 = 0 := ⟨rfl, rfl⟩

theorem lt_N (t : Fin cfg0.N) : t.val < 1 := t.isLt

/-- The token under a row of a point's tiles. -/
abbrev tokenOf (r : Fin 256) : Fin 256 := ⟨t.val * 256 + r.val, by have := lt_N t; omega⟩

theorem read0 (r : Fin 256) (w : Fin 1024) : iblk m c 0 t (ix2 r w) = m ((c : Thread nD τ).loc main_arg0) (ix2 (tokenOf t r) w) := by
  blk_ext [iblk, V, index0 t]

theorem read1 (r : Fin 256) (w : Fin 1024) : iblk m c 1 t (ix2 r w) = m ((c : Thread nD τ).loc main_arg1) (ix2 (tokenOf t r) w) := by
  blk_ext [iblk, V, index1 t]

theorem read2 (r : Fin 256) (w : Fin 1024) : iblk m c 2 t (ix2 r w) = m ((c : Thread nD τ).loc main_arg2) (ix2 (tokenOf t r) w) := by
  blk_ext [iblk, V, index2 t]

theorem read3 (r : Fin 256) (w : Fin 1024) : iblk m c 3 t (ix2 r w)
    = m ((c : Thread nD τ).loc main_arg3) (ix2 (tokenOf t r) (⟨5120 + w.val, by omega⟩ : Fin 7168)) := by
  blk_ext [iblk, V, index3 t]

theorem read4 (r : Fin 256) (w : Fin 1024) : iblk m c 4 t (ix2 r w)
    = m ((c : Thread nD τ).loc main_arg3) (ix2 (tokenOf t r) (⟨6144 + w.val, by omega⟩ : Fin 7168)) := by
  blk_ext [iblk, V, index4 t]

theorem read5 (r : Fin 256) (k : Fin 256) : iblk m c 5 t (ix2 r k) = m ((c : Thread nD τ).loc main_arg4)
    (ix4 0 (⟨(tokenOf t r).val / 8, by omega⟩ : Fin 32) (⟨(tokenOf t r).val % 8, by omega⟩ : Fin 8) k) := by
  unfold iblk
  entry_read
  have e : (win0_5.blk t).view.emb (ix2 r k) = ix2 (tokenOf t r) k := by blk_ext [index5 t]
  blk_simp
  rw [e]
  pointwise

theorem read6 (k : Fin 2) (w : Fin 1024) : iblk m c 6 t (ix2 k w) = m ((c : Thread nD τ).loc main_arg5) (ix3 0 k w) := by
  unfold iblk
  entry_read
  have e : (win0_6.blk t).view.emb (ix2 k w) = ix2 k w := by blk_ext [index6 t]
  blk_simp
  rw [e]
  pointwise

theorem read7 (k w : Fin 1024) : iblk m c 7 t (ix2 k w) = m ((c : Thread nD τ).loc main_arg6) (ix3 0 k w) := by
  unfold iblk
  entry_read
  have e : (win0_7.blk t).view.emb (ix2 k w) = ix2 k w := by blk_ext [index7 t]
  blk_simp
  rw [e]
  pointwise

theorem read8 (w : Fin 1024) : iblk m c 8 t (ix2 0 w) = m ((c : Thread nD τ).loc main_arg7) (ix2 0 w) := by
  unfold iblk
  entry_read
  have e : (win0_8.blk t).view.emb (ix2 0 w) = ix2 0 w := by blk_ext [index8 t]
  blk_simp
  rw [e]
  pointwise

theorem read9 (k : Fin 1024) (w : Fin 5632) : iblk m c 9 t (ix2 k w) = m ((c : Thread nD τ).loc main_arg8) (ix3 0 k w) := by
  unfold iblk
  entry_read
  have e : (win0_9.blk t).view.emb (ix2 k w) = ix2 k w := by blk_ext [index9 t]
  blk_simp
  rw [e]
  pointwise

theorem read10 (k : Fin 2816) (w : Fin 1024) : iblk m c 10 t (ix2 k w) = m ((c : Thread nD τ).loc main_arg9) (ix3 0 k w) := by
  unfold iblk
  entry_read
  have e : (win0_10.blk t).view.emb (ix2 k w) = ix2 k w := by blk_ext [index10 t]
  blk_simp
  rw [e]
  pointwise

theorem read11 (w : Fin 1024) : iblk m c 11 t (ix2 0 w) = m ((c : Thread nD τ).loc main_arg10) (ix2 0 w) := by
  unfold iblk
  entry_read
  have e : (win0_11.blk t).view.emb (ix2 0 w) = ix2 0 w := by blk_ext [index11 t]
  blk_simp
  rw [e]
  pointwise

theorem read12 (k w : Fin 1024) : iblk m c 12 t (ix2 k w) = m ((c : Thread nD τ).loc main_arg11) (ix3 0 k w) := by
  unfold iblk
  entry_read
  have e : (win0_12.blk t).view.emb (ix2 k w) = ix2 k w := by blk_ext [index12 t]
  blk_simp
  rw [e]
  pointwise

theorem read13 (k : Fin 256) (w : Fin 1024) : iblk m c 13 t (ix2 k w) = m ((c : Thread nD τ).loc main_arg12) (ix3 0 k w) := by
  unfold iblk
  entry_read
  have e : (win0_13.blk t).view.emb (ix2 k w) = ix2 k w := by blk_ext [index13 t]
  blk_simp
  rw [e]
  pointwise

theorem read14 (w : Fin 1024) : iblk m c 14 t (ix2 0 w) = m ((c : Thread nD τ).loc main_arg13) (ix1 w) := by
  unfold iblk
  entry_read
  have e : (win0_14.blk t).view.emb (ix2 0 w) = ix2 0 w := by blk_ext [index14 t]
  blk_simp
  rw [e]
  pointwise

abbrev argWeights : Weights := weights (m ((c : Thread nD τ).loc main_arg5)) (m ((c : Thread nD τ).loc main_arg6))
  (m ((c : Thread nD τ).loc main_arg7)) (m ((c : Thread nD τ).loc main_arg8)) (m ((c : Thread nD τ).loc main_arg9))
  (m ((c : Thread nD τ).loc main_arg10)) (m ((c : Thread nD τ).loc main_arg11)) (m ((c : Thread nD τ).loc main_arg12))
  (m ((c : Thread nD τ).loc main_arg13))

abbrev argToken (q : Fin 256) : Token := sampleToken (m ((c : Thread nD τ).loc main_arg0)) (m ((c : Thread nD τ).loc main_arg1))
  (m ((c : Thread nD τ).loc main_arg2)) (m ((c : Thread nD τ).loc main_arg3)) (m ((c : Thread nD τ).loc main_arg4)) q

theorem tile_token (r : Fin 256) : tileToken r (iblk m c 0 t) (iblk m c 1 t) (iblk m c 2 t) (iblk m c 3 t) (iblk m c 4 t) (iblk m c 5 t)
    = argToken m c (tokenOf t r) := by
  unfold tileToken argToken sampleToken
  simp only [read0, read1, read2, read3, read4, read5]

theorem tile_weights : tileWeights (iblk m c 6 t) (iblk m c 7 t) (iblk m c 8 t) (iblk m c 9 t) (iblk m c 10 t) (iblk m c 11 t)
    (iblk m c 12 t) (iblk m c 13 t) (iblk m c 14 t) = argWeights m c := by
  unfold tileWeights argWeights weights
  simp only [read6, read7, read8, read9, read10, read11, read12, read13, read14]

theorem array : (dats m 0 c).arrAt 15 cfg0.N = result (argToken m c) (argWeights m c) := by
  refine (dats m 0 c).arrAt_eq_of_covers 15 _ (by decide +kernel) fun t hf y => ?_
  obtain ⟨r, w, rfl⟩ : ∃ (r : Fin 256) (w : Fin 1024), y = ix2 r w := ⟨y 0, y 1, by ext a; fin_cases a <;> rfl⟩
  have e : (win0_15.blk t).view.emb (ix2 r w) = ix2 (tokenOf t r) w := by blk_ext [index15 t]
  blk_simp
  rw [after0_15, e]
  refine (tile_apply r w _ _ _ _ _ _ _ _ _ _ _ _ _ _ _).trans ?_
  rw [tile_token, tile_weights]
  rfl

end

open Idealize.ShloMosaic Idealize.ShloMosaic.TcCoe Idealize.ShloMosaic.Tactic Idealize.ShloMosaic.StableHlo Idealize.SL.Sem

section
open Cert.Reference5Ideal
variable (m : (ℓ : Loc nD τ sig) → Buf (Elt Ideal) ℓ) (c : Dev nD)

/-- The reference's result array, token by token. -/
theorem ref_array : refOut (launchContents m c) = result (refToken (launchContents m c)) (refWeights (launchContents m c)) :=
  funext fun i => by
    obtain ⟨q, w, rfl⟩ : ∃ (q : Fin 256) (w : Fin 1024), i = ix2 q w := ⟨i 0, i 1, by ext a; fin_cases a <;> rfl⟩
    exact ref_out (launchContents m c) q w

end

theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- Kernel and reference compute the same array from equal arguments. -/
theorem equal : Cert.algebraic_Kernel5Ideal_Reference5Ideal := fun m ρ m' ρ' _ hag =>
  ⟨fun c => result (argToken m c) (argWeights m c),
    (θ_run Cert.Kernel5Ideal.defs _ _).mono (fun _ h c => ⟨(h c).1.trans (array m c), (h c).2⟩)
      (Cert.Kernel5Ideal.Value.run_blocks m ρ),
    (θ_run Cert.Reference5Ideal.defs _ _).mono (fun _ h c => by
      obtain ⟨h0, h1, h2, h3, h4, h5, h6, h7, h8, h9, h10, h11, h12, h13⟩ := hag c
      have eT : refToken (launchContents m' c) = argToken m c := by
        funext q
        show sampleToken (m' ((c.tc : Thread Cert.Reference5Ideal.nD Cert.Reference5Ideal.τ).loc Cert.Reference5Ideal.main_arg0))
            (m' ((c.tc : Thread Cert.Reference5Ideal.nD Cert.Reference5Ideal.τ).loc Cert.Reference5Ideal.main_arg1))
            (m' ((c.tc : Thread Cert.Reference5Ideal.nD Cert.Reference5Ideal.τ).loc Cert.Reference5Ideal.main_arg2))
            (m' ((c.tc : Thread Cert.Reference5Ideal.nD Cert.Reference5Ideal.τ).loc Cert.Reference5Ideal.main_arg3))
            (m' ((c.tc : Thread Cert.Reference5Ideal.nD Cert.Reference5Ideal.τ).loc Cert.Reference5Ideal.main_arg4)) q = _
        rw [h0, h1, h2, h3, h4]
      have eP : refWeights (launchContents m' c) = argWeights m c := by
        show weights (m' ((c.tc : Thread Cert.Reference5Ideal.nD Cert.Reference5Ideal.τ).loc Cert.Reference5Ideal.main_arg5))
            (m' ((c.tc : Thread Cert.Reference5Ideal.nD Cert.Reference5Ideal.τ).loc Cert.Reference5Ideal.main_arg6))
            (m' ((c.tc : Thread Cert.Reference5Ideal.nD Cert.Reference5Ideal.τ).loc Cert.Reference5Ideal.main_arg7))
            (m' ((c.tc : Thread Cert.Reference5Ideal.nD Cert.Reference5Ideal.τ).loc Cert.Reference5Ideal.main_arg8))
            (m' ((c.tc : Thread Cert.Reference5Ideal.nD Cert.Reference5Ideal.τ).loc Cert.Reference5Ideal.main_arg9))
            (m' ((c.tc : Thread Cert.Reference5Ideal.nD Cert.Reference5Ideal.τ).loc Cert.Reference5Ideal.main_arg10))
            (m' ((c.tc : Thread Cert.Reference5Ideal.nD Cert.Reference5Ideal.τ).loc Cert.Reference5Ideal.main_arg11))
            (m' ((c.tc : Thread Cert.Reference5Ideal.nD Cert.Reference5Ideal.τ).loc Cert.Reference5Ideal.main_arg12))
            (m' ((c.tc : Thread Cert.Reference5Ideal.nD Cert.Reference5Ideal.τ).loc Cert.Reference5Ideal.main_arg13)) = _
        rw [h5, h6, h7, h8, h9, h10, h11, h12, h13]
      exact ⟨(h c).1.trans ((ref_array m' c).trans (congrArg₂ result eT eP)), (h c).2⟩)
      (Cert.Reference5Ideal.Value.run m' ρ')⟩

end Cert.SampleBlock

end
-- ==== Proof.SampleSpec.lean ====
/-
  The sample group's recurrence in mathematics: eight steps of every sequence, continued from the three inputs before them
  and from a given state.
-/
module

public import proofs.«01_k».proof.Proof.Spec

@[expose] public section

noncomputable section

namespace Cert.SampleRglru

open Idealize.ShloMosaic
open Cert.Rglru (run logDecay gelu Good good_exp logDecay_ne_top logistic_nonneg)

/-- A call's inputs by row and channel. -/
structure Inputs where
  /-- The recurrence's input: sequence, step, channel. -/
  x : Fin 32 → Fin 8 → Fin 1024 → EReal
  /-- The output's gate: sequence, step, channel. -/
  y : Fin 32 → Fin 8 → Fin 1024 → EReal
  /-- The three inputs before the first step. -/
  past : Fin 32 → Fin 3 → Fin 1024 → EReal
  /-- The state before the first step. -/
  h0 : Fin 32 → Fin 1024 → EReal
  cw : Fin 4 → Fin 1024 → EReal
  cb : Fin 1024 → EReal
  /-- The gates' weights: block, input channel, output channel. -/
  wgx : Fin 16 → Fin 64 → Fin 64 → EReal
  bgx : Fin 1024 → EReal
  wga : Fin 16 → Fin 64 → Fin 64 → EReal
  bga : Fin 1024 → EReal
  ap : Fin 1024 → EReal

/-- The inputs of the arguments' arrays. -/
def inputs (P : Vec Ideal ⟨2, ![256, 7168]⟩ .f32) (sc : Vec Ideal ⟨4, ![1, 32, 3, 1024]⟩ .f32) (sr : Vec Ideal ⟨3, ![1, 32, 1024]⟩ .f32)
    (cw : Vec Ideal ⟨3, ![1, 4, 1024]⟩ .f32) (cb : Vec Ideal ⟨2, ![1, 1024]⟩ .f32)
    (wgx : Vec Ideal ⟨4, ![1, 16, 64, 64]⟩ .f32) (bgx : Vec Ideal ⟨2, ![1, 1024]⟩ .f32)
    (wga : Vec Ideal ⟨4, ![1, 16, 64, 64]⟩ .f32) (bga ap : Vec Ideal ⟨2, ![1, 1024]⟩ .f32) : Inputs where
  x b p w := P (ix2 ⟨b.val * 8 + p.val, by omega⟩ ⟨3072 + w.val, by omega⟩)
  y b p w := P (ix2 ⟨b.val * 8 + p.val, by omega⟩ ⟨4096 + w.val, by omega⟩)
  past b q w := sc (ix4 0 b q w)
  h0 b w := sr (ix3 0 b w)
  cw k w := cw (ix3 0 k w)
  cb w := cb (ix2 0 w)
  wgx n k j := wgx (ix4 0 n k j)
  bgx w := bgx (ix2 0 w)
  wga n k j := wga (ix4 0 n k j)
  bga w := bga (ix2 0 w)
  ap w := ap (ix2 0 w)

variable (I : Inputs) (b : Fin 32) (p : ℕ) (w : Fin 1024)

/-- The input at step `q - 3`, of the past for `q < 3`. -/
def xPad (q : ℕ) : EReal :=
  if h : q < 3 then I.past b ⟨q, h⟩ w else if h' : q - 3 < 8 then I.x b ⟨q - 3, h'⟩ w else 0

/-- The convolution of the last four steps. -/
def conv : EReal :=
  I.cb w + xPad I b w (p + 3) * I.cw 3 w + xPad I b w (p + 2) * I.cw 2 w + xPad I b w (p + 1) * I.cw 1 w
    + xPad I b w p * I.cw 0 w

/-- A gate: the block's weights applied to the block's channels. -/
def gate (W : Fin 16 → Fin 64 → Fin 64 → EReal) (bias : Fin 1024 → EReal) : EReal :=
  Ideal.logistic ((∑ k : Fin 64, W ⟨w.val / 64, by omega⟩ k ⟨w.val % 64, by omega⟩
    * conv I b p ⟨w.val / 64 * 64 + k.val, by omega⟩) + bias w)

/-- The decay's logarithm. -/
def logA : EReal := logDecay (gate I b p w I.wga I.bga) (I.ap w)

/-- The decay. -/
def aStep : EReal := Ideal.exp (logA I b p w)

/-- The gated input. -/
def bStep : EReal :=
  conv I b p w * gate I b p w I.wgx I.bgx * Ideal.sqrt (-(Ideal.exp (Ideal.ofBits .f32 0x40000000#32 * logA I b p w) - 1))

/-- The state after `n` steps. -/
def state (n : ℕ) : EReal := run (aStep I b · w) (bStep I b · w) 0 n (I.h0 b w)

/-- The first result: the gated states, sequence after sequence. -/
def resultR : Vec Ideal ⟨2, ![256, 1024]⟩ .f32 := fun i =>
  have h : (i 0).val < 256 := (i 0).isLt
  state I ⟨(i 0).val / 8, by omega⟩ (i 1) ((i 0).val % 8 + 1)
    * gelu (I.y ⟨(i 0).val / 8, by omega⟩ ⟨(i 0).val % 8, by omega⟩ (i 1))

/-- The second result: the eight states of every sequence. -/
def resultH : Vec Ideal ⟨3, ![32, 8, 1024]⟩ .f32 := fun i => state I (i 0) (i 2) ((i 1).val + 1)

theorem good_aStep : Good (aStep I b p w) := good_exp (logDecay_ne_top (logistic_nonneg _) _)

end Cert.SampleRglru
-- ==== Proof.SampleRows.lean ====
/-
  One grid point of the sample group's recurrence kernel as a function of what it reads, at an index: the convolution, the
  gates, the decay and the gated input, and the scan's three rounds over the sequence's eight rows.
-/
module

public import proofs.«01_k».proof.Proof.SampleSpec
public import proofs.«01_k».proof.Proof.Rows
public import proofs.«01_k».proof.Proof.Gen.Kernel6Ideal.Skeleton

@[expose] public section

set_option maxRecDepth 16384

noncomputable section

namespace Cert.SampleRglru

open Idealize.ShloMosaic Cert.Kernel6Ideal Cert.Kernel6Ideal.Gen
open Cert.Rglru (run run_congr logDecay softplusNeg gelu Good tanh_expm1 roundA roundB roundA_congr roundB_congr scan8 from_select)

/-- The row numbers. -/
abbrev rowIota : IVec S1x8x1024 32 := iota Kind.tc S1x8x1024 32 [1] iota_S1x8x1024_d1_w32

/-- The weights of the `n`-th block of 128 channels. -/
abbrev wgBlock (wg : Vec Ideal S8x128x256 .bf16) (n : ℕ) (h : ∀ a, ![n, 0, 0] a + ![1, 128, 256] a ≤ S8x128x256.size a) :
    Vec Ideal S1x128x256 .bf16 := View.ld wg (Rect.unit (s := S8x128x256) ![n, 0, 0] ![1, 128, 256] h)

section
variable (x : Vec Ideal S8x1024 .f32) (cw : Vec Ideal S4x1024 .f32) (cb : Vec Ideal S1x1024 .f32)
  (v20 v26 v32 : Vec Ideal S1x8x1024 .f32) (wg : Vec Ideal S8x128x256 .bf16) (bgx bga ap : Vec Ideal S1x1024 .f32)

/-- The three newest taps of the convolution. -/
abbrev conv3 : FVec Ideal S1x8x1024 .f32 := k0_pay6 x cw cb v20 v26
/-- The convolution. -/
def convV : FVec Ideal S8x1024 .f32 := k0_pay9 (conv3 x cw cb v20 v26) v32 (k0_pay7 cw)

/-- The input gate. -/
def gxV : FVec Ideal S8x1024 .f32 :=
  k0_pay28 (k0_pay10 (conv3 x cw cb v20 v26) v32 (k0_pay7 cw))
    (k0_pay12 (conv3 x cw cb v20 v26) v32 (k0_pay7 cw) (wgBlock wg 0 inb_S8x128x256_S1x128x256_0_0_0))
    (k0_pay15 (conv3 x cw cb v20 v26) v32 (k0_pay7 cw) (wgBlock wg 1 inb_S8x128x256_S1x128x256_1_0_0))
    (k0_pay18 (conv3 x cw cb v20 v26) v32 (k0_pay7 cw) (wgBlock wg 2 inb_S8x128x256_S1x128x256_2_0_0))
    (k0_pay21 (conv3 x cw cb v20 v26) v32 (k0_pay7 cw) (wgBlock wg 3 inb_S8x128x256_S1x128x256_3_0_0))
    (k0_pay24 (conv3 x cw cb v20 v26) v32 (k0_pay7 cw) (wgBlock wg 4 inb_S8x128x256_S1x128x256_4_0_0))
    (wgBlock wg 5 inb_S8x128x256_S1x128x256_5_0_0) (wgBlock wg 6 inb_S8x128x256_S1x128x256_6_0_0)
    (wgBlock wg 7 inb_S8x128x256_S1x128x256_7_0_0) bgx

/-- The recurrence gate. -/
def gaV : FVec Ideal S8x1024 .f32 :=
  k0_pay29 (k0_pay10 (conv3 x cw cb v20 v26) v32 (k0_pay7 cw))
    (k0_pay13 (conv3 x cw cb v20 v26) v32 (k0_pay7 cw) (wgBlock wg 0 inb_S8x128x256_S1x128x256_0_0_0))
    (k0_pay16 (conv3 x cw cb v20 v26) v32 (k0_pay7 cw) (wgBlock wg 1 inb_S8x128x256_S1x128x256_1_0_0))
    (k0_pay19 (conv3 x cw cb v20 v26) v32 (k0_pay7 cw) (wgBlock wg 2 inb_S8x128x256_S1x128x256_2_0_0))
    (k0_pay22 (conv3 x cw cb v20 v26) v32 (k0_pay7 cw) (wgBlock wg 3 inb_S8x128x256_S1x128x256_3_0_0))
    (k0_pay23 (conv3 x cw cb v20 v26) v32 (k0_pay7 cw) (wgBlock wg 4 inb_S8x128x256_S1x128x256_4_0_0))
    (wgBlock wg 5 inb_S8x128x256_S1x128x256_5_0_0) (wgBlock wg 6 inb_S8x128x256_S1x128x256_6_0_0)
    (wgBlock wg 7 inb_S8x128x256_S1x128x256_7_0_0) bga

theorem conv_apply (r : Fin 8) (w : Fin 1024) :
    convV x cw cb v20 v26 v32 (ix2 r w)
      = cb (ix2 0 w) + x (ix2 r w) * cw (ix2 3 w) + v20 (ix3 0 r w) * cw (ix2 2 w) + v26 (ix3 0 r w) * cw (ix2 1 w)
        + v32 (ix3 0 r w) * cw (ix2 0 w) := by
  pointwise [convV, k0_pay9, k0_pay6, k0_pay7, k0_pay4, k0_pay3]

theorem slicesIn (n : Fin 8) : S8x1024.Slices ![0, 128 * n.val] S8x128 :=
  ⟨rfl, fun a => by fin_cases a <;> simp [Shape.size] <;> omega⟩

theorem inbBlock (n : Fin 8) : ∀ a, ![n.val, 0, 0] a + ![1, 128, 256] a ≤ S8x128x256.size a :=
  fun a => by fin_cases a <;> simp [Shape.size] <;> omega

/-- The product of the `n`-th 128 channels with their weights. -/
def blockDot (v : FVec Ideal S8x1024 .bf16) (n : Fin 8) : FVec Ideal S8x256 .f32 :=
  have u : FVec Ideal S8x128 .bf16 := extractStridedSlice S8x128 ![0, 128 * n.val] v (slicesIn n)
  have y : FVec Ideal S128x256 .bf16 := shapeCast S128x256 (wgBlock wg n.val (inbBlock n)) shapeCasts_S1x128x256_S128x256
  matmul dot_S8x128_S128x256_S8x256_1_0_0_1_n_n none u y (constant S8x256 .f32 0x00000000#32)

theorem blockDot_apply (v : FVec Ideal S8x1024 .bf16) (n : Fin 8) (r : Fin 8) (j : Fin 256) :
    blockDot wg v n (ix2 r j) = ∑ k : Fin 128, v (ix2 r ⟨128 * n.val + k.val, by omega⟩) * wg (ix3 n k j) := by
  pointwise [blockDot, wgBlock]

/-- Half of a product's columns, from the `o`-th on. -/
def blockPart (v : FVec Ideal S8x1024 .bf16) (o : ℕ) (hs : S8x256.Slices ![0, o] S8x128) (n : Fin 8) : FVec Ideal S8x128 .f32 :=
  extractStridedSlice S8x128 ![0, o] (blockDot wg v n) hs

/-- A gate's 1024 channels are eight blocks of 128. -/
theorem blocks_apply (v : FVec Ideal S8x1024 .bf16) (o : ℕ) (ho : o + 128 ≤ 256) (hs : S8x256.Slices ![0, o] S8x128) (h)
    (r : Fin 8) (w : Fin 1024) :
    concatenate S8x1024 1 (List.ofFn fun n : Fin 8 => (⟨S8x128, blockPart wg v o hs n⟩ : (s : Shape) × FVec Ideal s .f32)) h (ix2 r w)
      = ∑ k : Fin 128, v (ix2 r ⟨128 * (w.val / 128) + k.val, by omega⟩)
          * wg (ix3 ⟨w.val / 128, by omega⟩ k ⟨o + w.val % 128, by omega⟩) := by
  refine (concatenate_ofFn_apply (t := S8x1024) (s₁ := S8x128) (1 : Fin 2) (fun n : Fin 8 => blockPart wg v o hs n) h
    rfl 128 rfl (ix2 r w) ⟨w.val / 128, by omega⟩ rfl (ix2 r ⟨w.val % 128, by omega⟩) rfl ?_).trans ?_
  · intro b hb
    fin_cases b
    · rfl
    · exact absurd rfl hb
  · refine Eq.trans ?_ (blockDot_apply wg v ⟨w.val / 128, by omega⟩ r ⟨o + w.val % 128, by omega⟩)
    pointwise [blockPart]

theorem gx_apply (r : Fin 8) (w : Fin 1024) :
    gxV x cw cb v20 v26 v32 wg bgx (ix2 r w)
      = Ideal.logistic ((∑ k : Fin 128, convV x cw cb v20 v26 v32 (ix2 r ⟨128 * (w.val / 128) + k.val, by omega⟩)
          * wg (ix3 ⟨w.val / 128, by omega⟩ k ⟨0 + w.val % 128, by omega⟩)) + bgx (ix2 0 w)) := by
  have e := blocks_apply wg (k0_pay10 (conv3 x cw cb v20 v26) v32 (k0_pay7 cw)) 0 (by omega) slices_S8x256_o0_0_S8x128
    concatenates_S8x128_S8x128_S8x128_S8x128_S8x128_S8x128_S8x128_S8x128_S8x1024_d1 r w
  refine Eq.trans ?_ (congrArg (fun y => Ideal.logistic (y + bgx (ix2 0 w))) e)
  have e2 : shapeCast S1x1024 bgx shapeCasts_S1x1024_S1x1024 (ix2 0 w) = bgx (ix2 0 w) := by pointwise
  rw [← e2]
  rfl

theorem ga_apply (r : Fin 8) (w : Fin 1024) :
    gaV x cw cb v20 v26 v32 wg bga (ix2 r w)
      = Ideal.logistic ((∑ k : Fin 128, convV x cw cb v20 v26 v32 (ix2 r ⟨128 * (w.val / 128) + k.val, by omega⟩)
          * wg (ix3 ⟨w.val / 128, by omega⟩ k ⟨128 + w.val % 128, by omega⟩)) + bga (ix2 0 w)) := by
  have e := blocks_apply wg (k0_pay10 (conv3 x cw cb v20 v26) v32 (k0_pay7 cw)) 128 (by omega) slices_S8x256_o0_128_S8x128
    concatenates_S8x128_S8x128_S8x128_S8x128_S8x128_S8x128_S8x128_S8x128_S8x1024_d1 r w
  refine Eq.trans ?_ (congrArg (fun y => Ideal.logistic (y + bga (ix2 0 w))) e)
  have e2 : shapeCast S1x1024 bga shapeCasts_S1x1024_S1x1024 (ix2 0 w) = bga (ix2 0 w) := by pointwise
  rw [← e2]
  rfl

end

section
variable (xc gx ga : FVec Ideal S8x1024 .f32) (ap : Vec Ideal S1x1024 .f32)

theorem logDecay_apply (r : Fin 8) (w : Fin 1024) :
    k0_pay34 ga (k0_pay31 ap) (k0_pay32 ap) k0_pay33 (ix2 r w) = logDecay (ga (ix2 r w)) (ap (ix2 0 w)) := by
  unfold logDecay softplusNeg
  pointwise [k0_pay34, k0_pay31, k0_pay32, k0_pay33, k0_pay30]
  simp only [zero_sub]
  rfl

/-- The decay by row. -/
def decayV : FVec Ideal S1x8x1024 .f32 := k0_pay36 ga (k0_pay31 ap) (k0_pay32 ap) k0_pay33

/-- The gated input by row. -/
def inputV : FVec Ideal S1x8x1024 .f32 :=
  shapeCast S1x8x1024 (mulf (mulf xc gx) (sqrt (mulf
    (subf (broadcast S8x1024 (Scalar.ofBits .f32 0x00000000#32)) (tanh (k0_pay34 ga (k0_pay31 ap) (k0_pay32 ap) k0_pay33)))
    (addf (mulf (k0_pay35 ga (k0_pay31 ap) (k0_pay32 ap) k0_pay33) (k0_pay35 ga (k0_pay31 ap) (k0_pay32 ap) k0_pay33))
      (broadcast S8x1024 (Scalar.ofBits .f32 0x3F800000#32)))))) shapeCasts_S8x1024_S1x8x1024

theorem decayV_apply (r : Fin 8) (w : Fin 1024) :
    decayV ga ap (ix3 0 r w) = Ideal.exp (logDecay (ga (ix2 r w)) (ap (ix2 0 w))) := by
  pointwise [decayV, k0_pay36, k0_pay35]
  simp only [logDecay_apply]

theorem inputV_apply (r : Fin 8) (w : Fin 1024) :
    inputV xc gx ga ap (ix3 0 r w) = xc (ix2 r w) * gx (ix2 r w)
      * Ideal.sqrt (-(Ideal.exp (Ideal.ofBits .f32 0x40000000#32 * logDecay (ga (ix2 r w)) (ap (ix2 0 w))) - 1)) := by
  rw [← tanh_expm1]
  pointwise [inputV, k0_pay35]
  simp only [logDecay_apply]

end

/-! The scan's rounds. -/

section
variable (d : ℕ) (A B : FVec Ideal S1x8x1024 .f32)

/-- The rows from the `d`-th on. -/
def fromRow : IVec S1x8x1024 1 := cmpi .sge rowIota (broadcast S1x8x1024 (BitVec.ofNat 32 d))

/-- One round on the factors. -/
def stepA : FVec Ideal S1x8x1024 .f32 :=
  mulf A (select (fromRow d) (dynamicRotate 1 (BitVec.ofNat 32 d) none A rotates_S1x8x1024_d1)
    (broadcast S1x8x1024 (Scalar.ofBits .f32 0x3F800000#32)))

/-- One round on the addends. -/
def stepB : FVec Ideal S1x8x1024 .f32 :=
  addf (mulf A (select (fromRow d) (dynamicRotate 1 (BitVec.ofNat 32 d) none B rotates_S1x8x1024_d1)
    (broadcast S1x8x1024 (Scalar.ofBits .f32 0x00000000#32)))) B

/-- The rows at a channel. -/
def rows (w : Fin 1024) (q : ℕ) : EReal := A (ix3 0 ⟨q % 8, Nat.mod_lt _ (by norm_num)⟩ w)

variable {d A B}

theorem rows_val (w : Fin 1024) (r : Fin 8) : rows A w r.val = A (ix3 0 r w) := by
  unfold rows
  exact congrArg (fun k => A (ix3 0 k w)) (Fin.ext (Nat.mod_eq_of_lt r.isLt))

/-- A row `d` above, where there is one. -/
theorem turned (hd : d < 8) (r : Fin 8) (w : Fin 1024) (z : EReal) :
    (if d ≤ r.val then A (ix3 0 ⟨(r.val + 8 - (BitVec.ofNat 32 d).toNat % 8) % 8, Nat.mod_lt _ (by norm_num)⟩ w) else z)
      = if d ≤ r.val then rows A w (r.val - d) else z := by
  split_ifs with h
  · refine congrArg (fun k => A (ix3 0 k w)) (Fin.ext ?_)
    have e : (BitVec.ofNat 32 d).toNat = d := by rw [BitVec.toNat_ofNat]; omega
    show (r.val + 8 - (BitVec.ofNat 32 d).toNat % 8) % 8 = (r.val - d) % 8
    rw [e]
    omega
  · rfl

theorem stepA_apply (hd : d < 8) (r : Fin 8) (w : Fin 1024) : stepA d A (ix3 0 r w) = roundA d (rows A w) r.val := by
  unfold roundA
  rw [rows_val, ← turned hd]
  rw [← from_select hd]
  pointwise [stepA, fromRow, rowIota]

theorem stepB_apply (hd : d < 8) (r : Fin 8) (w : Fin 1024) :
    stepB d A B (ix3 0 r w) = roundB d (rows A w) (rows B w) r.val := by
  unfold roundB
  rw [rows_val, rows_val, ← turned hd]
  rw [← from_select hd]
  pointwise [stepB, fromRow, rowIota]

theorem rows_stepA (hd : d < 8) (w : Fin 1024) {a : ℕ → EReal} (h : ∀ q < 8, rows A w q = a q) :
    ∀ q < 8, rows (stepA d A) w q = roundA d a q := fun q hq =>
  (rows_val w ⟨q, hq⟩).trans ((stepA_apply hd ⟨q, hq⟩ w).trans (roundA_congr h hq))

theorem rows_stepB (hd : d < 8) (w : Fin 1024) {a b : ℕ → EReal} (h : ∀ q < 8, rows A w q = a q)
    (h' : ∀ q < 8, rows B w q = b q) : ∀ q < 8, rows (stepB d A B) w q = roundB d a b q := fun q hq =>
  (rows_val w ⟨q, hq⟩).trans ((stepB_apply hd ⟨q, hq⟩ w).trans (roundB_congr h h' hq))

end

section
variable (xc gx ga : FVec Ideal S8x1024 .f32) (ap : Vec Ideal S1x1024 .f32) (c : Vec Ideal S1x1x1024 .f32)

/-- The point's eight states. -/
def statesV : FVec Ideal S1x8x1024 .f32 :=
  k0_pay43 (k0_pay40 rowIota xc gx ga (k0_pay31 ap) (k0_pay32 ap) k0_pay33)
    (k0_pay41 rowIota ga (k0_pay31 ap) (k0_pay32 ap) k0_pay33) (k0_pay42 rowIota) 4#32 c

theorem statesV_eq : statesV xc gx ga ap c
    = addf (mulf (stepA 4 (stepA 2 (stepA 1 (decayV ga ap)))) (broadcastTo S1x8x1024 c broadcasts_S1x1x1024_S1x8x1024))
      (stepB 4 (stepA 2 (stepA 1 (decayV ga ap)))
        (stepB 2 (stepA 1 (decayV ga ap)) (stepB 1 (decayV ga ap) (inputV xc gx ga ap)))) := rfl

variable {xc gx ga ap}

/-- The eight rows run the recurrence from the state before them. -/
theorem statesV_apply {a b : ℕ → EReal} (w : Fin 1024) (ha : ∀ r : Fin 8, decayV ga ap (ix3 0 r w) = a r.val)
    (hb : ∀ r : Fin 8, inputV xc gx ga ap (ix3 0 r w) = b r.val) (hg : ∀ q, Good (a q)) (r : Fin 8) :
    statesV xc gx ga ap c (ix3 0 r w) = run a b 0 (r.val + 1) (c (ix3 0 0 w)) := by
  have ra : ∀ q < 8, rows (decayV ga ap) w q = a q := fun q hq => (rows_val w ⟨q, hq⟩).trans (ha ⟨q, hq⟩)
  have rb : ∀ q < 8, rows (inputV xc gx ga ap) w q = b q := fun q hq => (rows_val w ⟨q, hq⟩).trans (hb ⟨q, hq⟩)
  have r1 := rows_stepA (d := 1) (by norm_num) w ra
  have r2 := rows_stepA (d := 2) (by norm_num) w r1
  have r4 := rows_stepA (d := 4) (by norm_num) w r2
  have s1 := rows_stepB (d := 1) (by norm_num) w ra rb
  have s2 := rows_stepB (d := 2) (by norm_num) w r1 s1
  have s4 := rows_stepB (d := 4) (by norm_num) w r2 s2
  rw [statesV_eq, ← scan8 hg r.isLt, ← r4 _ r.isLt, ← s4 _ r.isLt, rows_val, rows_val]
  have e2 : broadcastTo S1x8x1024 c broadcasts_S1x1x1024_S1x8x1024 (ix3 0 r w) = c (ix3 0 0 w) := by pointwise
  rw [← e2]
  rfl

end

/-- The gated states of a point. -/
theorem gated_apply (v152 v153 : FVec Ideal S1x8x1024 .f32) (v155 : IVec S1x8x1024 1) (k : BitVec 32) (c : Vec Ideal S1x1x1024 .f32)
    (y : Vec Ideal S8x1024 .f32) (q : Fin 8) (w : Fin 1024) :
    k0_pay45 v152 v153 v155 k c y (ix2 q w) = k0_pay43 v152 v153 v155 k c (ix3 0 q w) * gelu (y (ix2 q w)) := by
  unfold gelu k0_pay45
  rw [mul_assoc (y (ix2 q w)) (y (ix2 q w)) (y (ix2 q w))]
  generalize k0_pay43 v152 v153 v155 k c = g
  pointwise

end Cert.SampleRglru
-- ==== Proof.SamplePoint.lean ====
/-
  What one grid point of the sample group's recurrence leaves in the two outputs, in the recurrence's terms.
-/
module

public import proofs.«01_k».proof.Proof.SampleRows
public import proofs.«01_k».proof.Proof.Weights
public import proofs.«01_k».proof.Proof.Gen.Kernel6Ideal.Value
public import Idealize.ShloMosaic.Lib.Pipeline.ValueKit
public import Idealize.ShloMosaic.Lib.Pipeline.ReadBack
public import Idealize.ShloMosaic.Lib.WritesUnit
public import Idealize.ShloMosaic.Lib.Claim
public import Idealize.ShloMosaic.Lib.KernelVsHost

@[expose] public section

set_option maxRecDepth 16384

noncomputable section

namespace Cert.SampleRglru

open Idealize.ShloMosaic Idealize.ShloMosaic.TcCoe Idealize.ShloMosaic.Tactic Idealize.SL Idealize.SL.Sem
open Cert.Kernel6Ideal Cert.Kernel6Ideal.Gen
open Cert.Rglru (run gelu Good sum_half diag_apply)

variable (m : (ℓ : Loc nD τ sig) → Buf (Elt Ideal) ℓ) (c : Dev nD) (t : Fin cfg0.N)

/-! What the point leaves, as the point's values of what it reads. -/

/-- The rows from the `k`-th on of the carried window fit. -/
theorem windowFits (k : ℕ) (hk : k ≤ 8) : ∀ a, ![0, k, 0] a + ![1, 8, 1024] a ≤ S1x16x1024.size a :=
  fun a => by fin_cases a <;> simp [Shape.size] <;> omega

/-- The rows from the `k`-th on of a window. -/
abbrev rowsFrom (k : ℕ) (hk : k ≤ 8) : Rect S1x16x1024 :=
  Rect.unit (s := S1x16x1024) ![0, k, 0] ![1, 8, 1024] (windowFits k hk)

/-- The rows from the `k`-th on of the carried window. -/
abbrev window (k : ℕ) (hk : k ≤ 8) : Vec Ideal S1x8x1024 .f32 :=
  (View.whole cc0_scratch0).readCov (Val := Elt Ideal)
    [⟨Rect.unit ![0, 8, 0] ![1, 8, 1024] inb_S1x16x1024_S1x8x1024_0_8_0, k0_pay5 (iblk m c 0 t)⟩,
      ⟨Rect.unit ![0, 0, 0] ![1, 8, 1024] inb_S1x16x1024_S1x8x1024_0_0_0, k0_pay1 (iblk m c 2 t)⟩]
    (rowsFrom k hk).toLoadRect

/-- The point's convolution. -/
abbrev pointConv : FVec Ideal S8x1024 .f32 := convV (iblk m c 0 t) (iblk m c 4 t) (iblk m c 5 t)
  (window m c t 7 (by norm_num)) (window m c t 6 (by norm_num)) (window m c t 5 (by norm_num))
/-- The point's input gate. -/
abbrev pointGx : FVec Ideal S8x1024 .f32 := gxV (iblk m c 0 t) (iblk m c 4 t) (iblk m c 5 t)
  (window m c t 7 (by norm_num)) (window m c t 6 (by norm_num)) (window m c t 5 (by norm_num)) (iblk m c 6 t) (iblk m c 7 t)
/-- The point's recurrence gate. -/
abbrev pointGa : FVec Ideal S8x1024 .f32 := gaV (iblk m c 0 t) (iblk m c 4 t) (iblk m c 5 t)
  (window m c t 7 (by norm_num)) (window m c t 6 (by norm_num)) (window m c t 5 (by norm_num)) (iblk m c 6 t) (iblk m c 8 t)
/-- The point's states. -/
def pointStates : FVec Ideal S1x8x1024 .f32 :=
  statesV (pointConv m c t) (pointGx m c t) (pointGa m c t) (iblk m c 9 t) (k0_pay2 (iblk m c 3 t))

theorem left_h : (outsAt0 m c t).2 = pointStates m c t := by
  unfold outsAt0
  frame_out
  rfl

theorem left_r (q : Fin 8) (w : Fin 1024) :
    (outsAt0 m c t).1 (ix2 q w) = pointStates m c t (ix3 0 q w) * gelu (iblk m c 1 t (ix2 q w)) := by
  refine Eq.trans ?_ (gated_apply _ _ _ _ _ _ q w)
  unfold outsAt0
  frame_out
  rfl

/-! The carried window at an index. -/

section
variable (f : (View.whole (κ := .tc) cc0_scratch0).ty.Contents (Elt Ideal)) (L : List (View.Piece (Elt Ideal) S1x16x1024 .f32))

/-- A row written by the store of the block. -/
theorem block_row (X : Vec Ideal S1x8x1024 .f32) (q : Fin 16) (r : Fin 8) (hq : q.val = 8 + r.val) (w : Fin 1024) :
    View.read (Elt Ideal) (View.whole cc0_scratch0) ((View.whole cc0_scratch0).writes (Elt Ideal) f
      (⟨Rect.unit ![0, 8, 0] ![1, 8, 1024] inb_S1x16x1024_S1x8x1024_0_8_0, X⟩ :: L)) (ix3 0 q w) = X (ix3 0 r w) :=
  View.read_writes_cons_unit_of_mem _ f _ X L (ix3 0 q w) (ix3 0 r w) rfl
    (fun a => by fin_cases a <;> simp [ix3, hq])

/-- A row the store of the block leaves. -/
theorem block_skip (X : Vec Ideal S1x8x1024 .f32) (q : Fin 16) (hq : q.val < 8) (w : Fin 1024) :
    View.read (Elt Ideal) (View.whole cc0_scratch0) ((View.whole cc0_scratch0).writes (Elt Ideal) f
      (⟨Rect.unit ![0, 8, 0] ![1, 8, 1024] inb_S1x16x1024_S1x8x1024_0_8_0, X⟩ :: L)) (ix3 0 q w)
      = View.read (Elt Ideal) (View.whole cc0_scratch0) ((View.whole cc0_scratch0).writes (Elt Ideal) f L) (ix3 0 q w) :=
  View.read_writes_cons_unit_of_not_mem _ f _ X L (ix3 0 q w) rfl 1 (Or.inl (show q.val < 8 from hq))

/-- A row written by a store of the first eight rows. -/
theorem head_row (X : Vec Ideal S1x8x1024 .f32) (q : Fin 16) (r : Fin 8) (hq : q.val = r.val) (w : Fin 1024) :
    View.read (Elt Ideal) (View.whole cc0_scratch0) ((View.whole cc0_scratch0).writes (Elt Ideal) f
      (⟨Rect.unit ![0, 0, 0] ![1, 8, 1024] inb_S1x16x1024_S1x8x1024_0_0_0, X⟩ :: L)) (ix3 0 q w) = X (ix3 0 r w) :=
  View.read_writes_cons_unit_of_mem _ f _ X L (ix3 0 q w) (ix3 0 r w) rfl
    (fun a => by fin_cases a <;> simp [ix3, hq])

end

theorem rows_idx (k : ℕ) (hk : k ≤ 8) (r : Fin 8) (w : Fin 1024) :
    (rowsFrom k hk).toLoadRect.idx (ix3 0 r w) = ix3 0 (⟨k + r.val, by omega⟩ : Fin 16) w :=
  funext fun a => Fin.ext (by fin_cases a <;> simp [rowsFrom, LoadRect.idx, Rect.toLoadRect, Rect.unit, ix3])

theorem pay5_apply (x : Vec Ideal S8x1024 .f32) (r : Fin 8) (w : Fin 1024) : k0_pay5 x (ix3 0 r w) = x (ix2 r w) := by
  pointwise [k0_pay5, k0_pay3]

theorem pay1_apply (x : Vec Ideal S1x8x1024 .f32) (r : Fin 8) (w : Fin 1024) : k0_pay1 x (ix3 0 r w) = x (ix3 0 r w) := by
  pointwise [k0_pay1]

theorem pay2_apply (x : Vec Ideal S1x1x1024 .f32) (w : Fin 1024) : k0_pay2 x (ix3 0 0 w) = x (ix3 0 0 w) := by
  pointwise [k0_pay2]

theorem window_old (k : ℕ) (hk : k ≤ 8) (r : Fin 8) (w : Fin 1024) (h : k + r.val < 8) :
    window m c t k hk (ix3 0 r w) = iblk m c 2 t (ix3 0 (⟨k + r.val, h⟩ : Fin 8) w) := by
  unfold window
  rw [View.readCov_eq_canon']
  dsimp only
  rw [rows_idx, ← View.read_writes_junk_apply_eq_canon (View.whole cc0_scratch0), block_skip _ _ _ _ h,
    head_row _ _ _ _ (⟨k + r.val, h⟩ : Fin 8) rfl, pay1_apply]

theorem window_new (k : ℕ) (hk : k ≤ 8) (r : Fin 8) (w : Fin 1024) (h : 8 ≤ k + r.val) :
    window m c t k hk (ix3 0 r w) = iblk m c 0 t (ix2 (⟨k + r.val - 8, by omega⟩ : Fin 8) w) := by
  unfold window
  rw [View.readCov_eq_canon']
  dsimp only
  rw [rows_idx, ← View.read_writes_junk_apply_eq_canon (View.whole cc0_scratch0),
    block_row _ _ _ _ (⟨k + r.val - 8, by omega⟩ : Fin 8) (by simp; omega), pay5_apply]

/-! The blocks the point reads, in terms of the program's arguments. -/

/-- The recurrence's inputs in the program's arguments. -/
abbrev argInputs : Inputs := inputs (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9))

theorem index0 : ∀ t : Fin cfg0.N, win0_0.index t 0 = t.val ∧ win0_0.index t 1 = 3 :=
  (by decide +kernel : ∀ t : Fin grid0.N, win0_0.index t 0 = t.val ∧ win0_0.index t 1 = 3)
theorem index1 : ∀ t : Fin cfg0.N, win0_1.index t 0 = t.val ∧ win0_1.index t 1 = 4 :=
  (by decide +kernel : ∀ t : Fin grid0.N, win0_1.index t 0 = t.val ∧ win0_1.index t 1 = 4)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

theorem lt_N (t : Fin cfg0.N) : t.val < 32 := t.isLt

/-- The point's sequence. -/
abbrev seqOf : Fin 32 := ⟨t.val, lt_N t⟩

theorem x_read (r : Fin 8) (w : Fin 1024) : iblk m c 0 t (ix2 r w) = (argInputs m c).x (seqOf t) r w := by
  show _ = m ((c : Thread nD τ).loc main_arg0)
      (ix2 (⟨t.val * 8 + r.val, by have := lt_N t; omega⟩ : Fin 256) (⟨3072 + w.val, by omega⟩ : Fin 7168))
  blk_ext [iblk, V, index0 t]

theorem y_read (r : Fin 8) (w : Fin 1024) : iblk m c 1 t (ix2 r w) = (argInputs m c).y (seqOf t) r w := by
  show _ = m ((c : Thread nD τ).loc main_arg0)
      (ix2 (⟨t.val * 8 + r.val, by have := lt_N t; omega⟩ : Fin 256) (⟨4096 + w.val, by omega⟩ : Fin 7168))
  blk_ext [iblk, V, index1 t]

theorem index4 : win0_4.index t 0 = 0 ∧ win0_4.index t 1 = 0 := ⟨rfl, rfl⟩
theorem index5 : win0_5.index t 0 = 0 ∧ win0_5.index t 1 = 0 := ⟨rfl, rfl⟩
theorem index7 : win0_7.index t 0 = 0 ∧ win0_7.index t 1 = 0 := ⟨rfl, rfl⟩
theorem index8 : win0_8.index t 0 = 0 ∧ win0_8.index t 1 = 0 := ⟨rfl, rfl⟩
theorem index9 : win0_9.index t 0 = 0 ∧ win0_9.index t 1 = 0 := ⟨rfl, rfl⟩
theorem index6 : win0_6.index t 0 = 0 ∧ win0_6.index t 1 = 0 ∧ win0_6.index t 2 = 0 := ⟨rfl, rfl, rfl⟩

theorem past_cast (X : Vec Ideal S1x32x3x1024 .f32) (b : Fin 32) (q : Fin 3) (w : Fin 1024) :
    shapeCast S32x3x1024 X shapeCasts_S1x32x3x1024_S32x3x1024 (ix3 b q w) = X (ix4 0 b q w) := by
  pointwise

set_option maxHeartbeats 1000000 in
theorem tail_read (q : Fin 3) (w : Fin 1024) :
    iblk m c 2 t (ix3 0 (⟨5 + q.val, by omega⟩ : Fin 8) w) = (argInputs m c).past (seqOf t) q w := by
  unfold iblk
  simp only [V, hostOps0, hostOps0_1, hostOps0_2, List.flatten_cons, List.flatten_nil, List.append_nil, List.cons_append, List.nil_append]
  entry_read
  have e : (win0_2.blk t).view.emb (ix3 0 (⟨5 + q.val, by omega⟩ : Fin 8) w) = ix3 (seqOf t) (⟨5 + q.val, by omega⟩ : Fin 8) w := by
    blk_ext [index2 t]
  blk_simp
  rw [e]
  refine (pad_apply_of_inside (α := EReal) (s := S32x3x1024) (t := S32x8x1024) ![0, 5, 0] ![0, 0, 0] ![0, 0, 0]
    (shapeCast S32x3x1024 (m (c, Proc.tc.devRef main_arg1)) shapeCasts_S1x32x3x1024_S32x3x1024)
    (sitofp (F := Ideal) FTy.f32 (constantI S_ 32 0#32)) pads_S32x3x1024_S32x8x1024_000_500_000 h_S_
    (ix3 (seqOf t) (⟨5 + q.val, by omega⟩ : Fin 8) w) (ix3 (seqOf t) q w) fun a => ?_).trans ?_
  swap
  · exact past_cast (m (c, Proc.tc.devRef main_arg1)) (seqOf t) q w
  fin_cases a
  · show t.val = 0 + t.val * (0 + 1)
    omega
  · show 5 + q.val = 5 + q.val * (0 + 1)
    omega
  · show w.val = 0 + w.val * (0 + 1)
    omega

theorem h0_read (w : Fin 1024) : iblk m c 3 t (ix3 0 0 w) = (argInputs m c).h0 (seqOf t) w := by
  unfold iblk
  simp only [V, hostOps0, hostOps0_1, hostOps0_2, List.flatten_cons, List.flatten_nil, List.append_nil, List.cons_append, List.nil_append]
  entry_read
  have e : (win0_3.blk t).view.emb (ix3 0 0 w) = ix3 (seqOf t) 0 w := by blk_ext [index3 t]
  blk_simp
  rw [e]
  pointwise
  rfl

theorem cw_read (k : Fin 4) (w : Fin 1024) : iblk m c 4 t (ix2 k w) = (argInputs m c).cw k w := by
  unfold iblk
  simp only [V, hostOps0, hostOps0_1, hostOps0_2, List.flatten_cons, List.flatten_nil, List.append_nil, List.cons_append, List.nil_append]
  entry_read
  have e : (win0_4.blk t).view.emb (ix2 k w) = ix2 k w := by blk_ext [index4 t]
  blk_simp
  rw [e]
  pointwise
  rfl

theorem cb_read (w : Fin 1024) : iblk m c 5 t (ix2 0 w) = (argInputs m c).cb w := by
  unfold iblk
  simp only [V, hostOps0, hostOps0_1, hostOps0_2, List.flatten_cons, List.flatten_nil, List.append_nil, List.cons_append, List.nil_append]
  entry_read
  have e : (win0_5.blk t).view.emb (ix2 0 w) = ix2 0 w := by blk_ext [index5 t]
  blk_simp
  rw [e]
  pointwise
  rfl

theorem bgx_read (w : Fin 1024) : iblk m c 7 t (ix2 0 w) = (argInputs m c).bgx w := by
  unfold iblk
  simp only [V, hostOps0, hostOps0_1, hostOps0_2, List.flatten_cons, List.flatten_nil, List.append_nil, List.cons_append, List.nil_append]
  entry_read
  have e : (win0_7.blk t).view.emb (ix2 0 w) = ix2 0 w := by blk_ext [index7 t]
  blk_simp
  rw [e]
  pointwise
  rfl

theorem bga_read (w : Fin 1024) : iblk m c 8 t (ix2 0 w) = (argInputs m c).bga w := by
  unfold iblk
  simp only [V, hostOps0, hostOps0_1, hostOps0_2, List.flatten_cons, List.flatten_nil, List.append_nil, List.cons_append, List.nil_append]
  entry_read
  have e : (win0_8.blk t).view.emb (ix2 0 w) = ix2 0 w := by blk_ext [index8 t]
  blk_simp
  rw [e]
  pointwise
  rfl

theorem ap_read (w : Fin 1024) : iblk m c 9 t (ix2 0 w) = (argInputs m c).ap w := by
  unfold iblk
  simp only [V, hostOps0, hostOps0_1, hostOps0_2, List.flatten_cons, List.flatten_nil, List.append_nil, List.cons_append, List.nil_append]
  entry_read
  have e : (win0_9.blk t).view.emb (ix2 0 w) = ix2 0 w := by blk_ext [index9 t]
  blk_simp
  rw [e]
  pointwise
  rfl

theorem wgx_read (X : Vec Ideal S1x16x64x64 .f32) (hX : m ((c : Thread nD τ).loc main_arg5) = X) (g : Fin 8) (k j : Fin 128) :
    iblk m c 6 t (ix3 g k (⟨j.val, by omega⟩ : Fin 256))
      = X (ix4 0 (⟨g.val * 2 + k.val / 64, by omega⟩ : Fin 16) (⟨k.val % 64, by omega⟩ : Fin 64)
          (⟨j.val % 64, by omega⟩ : Fin 64)) * (if k.val / 64 = j.val / 64 then (1 : EReal) else 0) := by
  unfold iblk
  simp only [V, hostOps0, hostOps0_1, hostOps0_2, List.flatten_cons, List.flatten_nil, List.append_nil, List.cons_append, List.nil_append]
  entry_read
  have e : (win0_6.blk t).view.emb (ix3 g k (⟨j.val, by omega⟩ : Fin 256)) = ix3 g k (⟨j.val, by omega⟩ : Fin 256) := by
    blk_ext [index6 t]
  blk_simp
  rw [e]
  subst hX
  generalize hz : _ * (if k.val / 64 = j.val / 64 then (1 : EReal) else 0) = z
  pointwise
  refine Eq.trans (congrArg (fun y : EReal => (_ : EReal) * y)
    (diag_apply (k.val / 64) (j.val / 64) (by omega) (by omega))) ?_
  exact hz

theorem wga_read (X : Vec Ideal S1x16x64x64 .f32) (hX : m ((c : Thread nD τ).loc main_arg7) = X) (g : Fin 8) (k j : Fin 128) :
    iblk m c 6 t (ix3 g k (⟨128 + j.val, by omega⟩ : Fin 256))
      = X (ix4 0 (⟨g.val * 2 + k.val / 64, by omega⟩ : Fin 16) (⟨k.val % 64, by omega⟩ : Fin 64)
          (⟨j.val % 64, by omega⟩ : Fin 64)) * (if k.val / 64 = j.val / 64 then (1 : EReal) else 0) := by
  unfold iblk
  simp only [V, hostOps0, hostOps0_1, hostOps0_2, List.flatten_cons, List.flatten_nil, List.append_nil, List.cons_append, List.nil_append]
  entry_read
  have e : (win0_6.blk t).view.emb (ix3 g k (⟨128 + j.val, by omega⟩ : Fin 256)) = ix3 g k (⟨128 + j.val, by omega⟩ : Fin 256) := by
    blk_ext [index6 t]
  blk_simp
  rw [e]
  subst hX
  generalize hz : _ * (if k.val / 64 = j.val / 64 then (1 : EReal) else 0) = z
  pointwise
  refine Eq.trans (congrArg (fun y : EReal => (_ : EReal) * y)
    (diag_apply (k.val / 64) (j.val / 64) (by omega) (by omega))) ?_
  exact hz

/-! The point's values in the recurrence's terms. -/

theorem x_step (r : Fin 8) (w : Fin 1024) : iblk m c 0 t (ix2 r w) = xPad (argInputs m c) (seqOf t) w (r.val + 3) := by
  rw [x_read]
  unfold xPad
  rw [dif_neg (by omega), dif_pos (show r.val + 3 - 3 < 8 by omega)]
  rfl

theorem window_step (k : ℕ) (hk : k ≤ 8) (hk5 : 5 ≤ k) (hk7 : k ≤ 7) (r : Fin 8) (w : Fin 1024) :
    window m c t k hk (ix3 0 r w) = xPad (argInputs m c) (seqOf t) w (r.val + (k - 5)) := by
  by_cases hr : k + r.val < 8
  · rw [window_old m c t k hk r w hr]
    have e : (⟨k + r.val, hr⟩ : Fin 8) = ⟨5 + (⟨r.val + (k - 5), by omega⟩ : Fin 3).val, by show 5 + (r.val + (k - 5)) < 8; omega⟩ :=
      Fin.ext (by show k + r.val = 5 + (r.val + (k - 5)); omega)
    rw [e, tail_read]
    unfold xPad
    rw [dif_pos (show r.val + (k - 5) < 3 by omega)]
  · rw [window_new m c t k hk r w (by omega), x_step]
    exact congrArg (xPad _ _ _) (by show k + r.val - 8 + 3 = _; omega)

theorem pointConv_apply (r : Fin 8) (w : Fin 1024) :
    pointConv m c t (ix2 r w) = conv (argInputs m c) (seqOf t) r.val w := by
  unfold pointConv
  rw [conv_apply, window_step m c t 7 _ (by norm_num) (by norm_num), window_step m c t 6 _ (by norm_num) (by norm_num),
    window_step m c t 5 _ (by norm_num) (by norm_num), x_step, cw_read, cw_read, cw_read, cw_read, cb_read]
  rfl

/-- A gate's sum over the 128 channels of its block. -/
theorem gate_sum (W : Fin 16 → Fin 64 → Fin 64 → EReal) (r : Fin 8) (w : Fin 1024) (V : Fin 128 → EReal)
    (hV : ∀ k : Fin 128, V k = W (⟨w.val / 128 * 2 + k.val / 64, by omega⟩ : Fin 16) (⟨k.val % 64, by omega⟩ : Fin 64)
      (⟨w.val % 128 % 64, by omega⟩ : Fin 64) * (if k.val / 64 = w.val % 128 / 64 then (1 : EReal) else 0)) :
    ∑ k : Fin 128, pointConv m c t (ix2 r ⟨128 * (w.val / 128) + k.val, by omega⟩) * V k
      = ∑ k : Fin 64, W ⟨w.val / 64, by omega⟩ k ⟨w.val % 64, by omega⟩
        * conv (argInputs m c) (seqOf t) r.val ⟨w.val / 64 * 64 + k.val, by omega⟩ := by
  refine (sum_half _ (fun k => W ⟨w.val / 64, by omega⟩ k ⟨w.val % 64, by omega⟩)
    (⟨w.val % 128 / 64, by omega⟩ : Fin 2) (w.val % 128) rfl
    (fun k => conv (argInputs m c) (seqOf t) r.val ⟨128 * (w.val / 128) + k.val, by omega⟩) fun k => ?_).trans ?_
  · rw [pointConv_apply m c t, hV]
    refine congrArg (fun z : EReal => conv (argInputs m c) (seqOf t) r.val ⟨128 * (w.val / 128) + k.val, by omega⟩ * z) ?_
    by_cases h : k.val / 64 = w.val % 128 / 64
    · rw [if_pos h]
      have e1 : (⟨w.val / 128 * 2 + k.val / 64, by omega⟩ : Fin 16) = ⟨w.val / 64, by omega⟩ :=
        Fin.ext (by show w.val / 128 * 2 + k.val / 64 = w.val / 64; omega)
      have e2 : (⟨w.val % 128 % 64, by omega⟩ : Fin 64) = ⟨w.val % 64, by omega⟩ :=
        Fin.ext (by show w.val % 128 % 64 = w.val % 64; omega)
      rw [e1, e2]
    · rw [if_neg h, mul_zero, mul_zero]
  · refine Finset.sum_congr rfl fun k _ => ?_
    have e : (⟨128 * (w.val / 128) + (w.val % 128 / 64 * 64 + k.val), by omega⟩ : Fin 1024) = ⟨w.val / 64 * 64 + k.val, by omega⟩ :=
      Fin.ext (by show 128 * (w.val / 128) + (w.val % 128 / 64 * 64 + k.val) = w.val / 64 * 64 + k.val; omega)
    exact congrArg (fun z : Fin 1024 => W ⟨w.val / 64, by omega⟩ k ⟨w.val % 64, by omega⟩
      * conv (argInputs m c) (seqOf t) r.val z) e

theorem pointGx_apply (r : Fin 8) (w : Fin 1024) :
    pointGx m c t (ix2 r w) = gate (argInputs m c) (seqOf t) r.val w (argInputs m c).wgx (argInputs m c).bgx := by
  unfold pointGx
  rw [gx_apply, bgx_read]
  unfold gate
  refine congrArg (fun z : EReal => Ideal.logistic (z + (argInputs m c).bgx w)) ?_
  refine gate_sum m c t (argInputs m c).wgx r w _ fun k => ?_
  have e : (⟨0 + w.val % 128, by omega⟩ : Fin 256) = ⟨w.val % 128, by omega⟩ := Fin.ext (Nat.zero_add _)
  rw [e]
  exact wgx_read m c t _ rfl ⟨w.val / 128, by omega⟩ k ⟨w.val % 128, by omega⟩

theorem pointGa_apply (r : Fin 8) (w : Fin 1024) :
    pointGa m c t (ix2 r w) = gate (argInputs m c) (seqOf t) r.val w (argInputs m c).wga (argInputs m c).bga := by
  unfold pointGa
  rw [ga_apply, bga_read]
  unfold gate
  refine congrArg (fun z : EReal => Ideal.logistic (z + (argInputs m c).bga w)) ?_
  refine gate_sum m c t (argInputs m c).wga r w _ fun k => ?_
  exact wga_read m c t _ rfl ⟨w.val / 128, by omega⟩ k ⟨w.val % 128, by omega⟩

theorem decay_point (r : Fin 8) (w : Fin 1024) :
    decayV (pointGa m c t) (iblk m c 9 t) (ix3 0 r w) = aStep (argInputs m c) (seqOf t) r.val w := by
  rw [decayV_apply, pointGa_apply m c t, ap_read]
  rfl

theorem input_point (r : Fin 8) (w : Fin 1024) :
    inputV (pointConv m c t) (pointGx m c t) (pointGa m c t) (iblk m c 9 t) (ix3 0 r w)
      = bStep (argInputs m c) (seqOf t) r.val w := by
  rw [inputV_apply, pointGa_apply m c t, pointGx_apply m c t, pointConv_apply m c t, ap_read]
  rfl

/-- The point's states are its sequence's. -/
theorem pointStates_apply (r : Fin 8) (w : Fin 1024) :
    pointStates m c t (ix3 0 r w) = state (argInputs m c) (seqOf t) w (r.val + 1) := by
  unfold pointStates state
  rw [← h0_read, ← pay2_apply (iblk m c 3 t) w]
  exact statesV_apply (a := fun q => aStep (argInputs m c) (seqOf t) q w) (b := fun q => bStep (argInputs m c) (seqOf t) q w)
    _ w (fun r => decay_point m c t r w) (fun r => input_point m c t r w) (fun q => good_aStep _ _ _ _) r

end Cert.SampleRglru
-- ==== Proof.SampleRefLoop.lean ====
/-
  The sample recurrence's reference: its loop over the 8 time steps: what its carried buffers hold before each trip is a state, one trip takes
  it to the next, and the results are read from the last one.
-/
module

public import proofs.«01_k».proof.Proof.Gen.Reference6Ideal.Run
public import proofs.«01_k».proof.Proof.Gen.Reference6Ideal.Step

@[expose] public section

noncomputable section

namespace Cert.SampleRglru

open Idealize.ShloMosaic Idealize.ShloMosaic.TcCoe Idealize.SL.Sem Idealize.ShloMosaic.StableHlo
open Cert.Reference6Ideal Cert.Reference6Ideal.Gen Cert.Reference6Ideal.Value
open Cert.Reference6Ideal.Step (State step init R_main_v116 R_main_v99)

variable {F : FTy → Type} [FloatOps F]

/-- The carried buffers of a valuation as a state. -/
def stateOf (V : Valuation τ sig (Elt F)) : State F where
  main_v98_3 := V (Proc.devRef .tc main_v98_3)
  main_v98_4 := V (Proc.devRef .tc main_v98_4)
  main_v98_0 := V (Proc.devRef .tc main_v98_0)
  main_v98_1 := V (Proc.devRef .tc main_v98_1)

/-- The loop's counter. -/
abbrev counterIs (V : Valuation τ sig (Elt F)) (j : ℕ) : Prop :=
  V (Proc.devRef .tc main_v98_2) = constantI S_ 32 (BitVec.ofNat 32 j)

/-- One trip steps the counter. -/
theorem counter_step {V : Valuation τ sig (Elt F)} {j : ℕ} (h : counterIs V j) : counterIs (STEP V) (j + 1) := by
  refine (STEP_main_v98_2 V).trans ?_
  unfold step_main_v98_2
  rw [h]
  funext i
  show BitVec.ofNat 32 j + 1#32 = BitVec.ofNat 32 (j + 1)
  simp only [BitVec.ofNat_add]

set_option maxRecDepth 8192 in
/-- One trip steps the state. -/
theorem state_step {V : Valuation τ sig (Elt F)} {j : ℕ} (h : counterIs V j) :
    stateOf (STEP V) = step j (stateOf V) := by
  have e3 : step_main_v98_3 V = (step j (stateOf V)).main_v98_3 := by
    unfold step_main_v98_3 res_main_while0b_v120
    rw [h]
    rfl
  have e4 : step_main_v98_4 V = (step j (stateOf V)).main_v98_4 := by
    unfold step_main_v98_4 res_main_while0b_v120
    rw [h]
    rfl
  unfold stateOf
  rw [STEP_main_v98_3, STEP_main_v98_4, STEP_main_v98_0, STEP_main_v98_1, e3, e4]
  rfl

variable (m : (ℓ : Loc nD τ sig) → Buf (Elt F) ℓ) (c : Dev nD)

/-- The state before the first trip, of the arguments. -/
abbrev firstState : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

set_option maxRecDepth 65536 in
set_option maxHeartbeats 600000 in
/-- What the operations before the loop leave in the carried buffers, one by one. -/
theorem entry_reads :
    (entryContents preI m c (Proc.devRef .tc main_v98_3) = (firstState m c).main_v98_3
      ∧ entryContents preI m c (Proc.devRef .tc main_v98_4) = (firstState m c).main_v98_4)
    ∧ (entryContents preI m c (Proc.devRef .tc main_v98_0) = (firstState m c).main_v98_0
      ∧ entryContents preI m c (Proc.devRef .tc main_v98_1) = (firstState m c).main_v98_1)
    ∧ counterIs (entryContents preI m c) 0 := by
  unfold counterIs
  refine ⟨⟨?_, ?_⟩, ⟨?_, ?_⟩, ?_⟩ <;> (simp only [entryContents, afterL_cons, afterL_nil]; after_reads_simp) <;> rfl

/-- The operations before the loop leave the first state and a counter of 0. -/
theorem entry : stateOf (entryContents preI m c) = firstState m c ∧ counterIs (entryContents preI m c) 0 := by
  obtain ⟨⟨h3, h4⟩, ⟨h0, h1⟩, hc⟩ := entry_reads m c
  refine ⟨?_, hc⟩
  unfold stateOf
  rw [h3, h4, h0, h1]

/-- The first result, of the carried buffers after the loop. -/
theorem result_r {V : Valuation τ sig (Elt F)} {x : (⟨S256x7168, .f32⟩ : BufTy).Contents (Elt F)}
    (h : V (Proc.devRef .tc main_arg0) = x) : out_main_v116 V = R_main_v116 (stateOf V) x := by
  unfold out_main_v116 R_main_v116
  rw [h]
  rfl

/-- The second result. -/
theorem result_h {V : Valuation τ sig (Elt F)} : out_main_v99 V = R_main_v99 (stateOf V) := by
  unfold out_main_v99 R_main_v99
  rfl

/-- The states in order. -/
def states : ℕ → State F
  | 0 => firstState m c
  | n + 1 => step n (states n)

theorem state_iter : ∀ k, stateOf (STEP^[k] (entryContents preI m c)) = states m c k ∧ counterIs (STEP^[k] (entryContents preI m c)) k
  | 0 => entry m c
  | k + 1 => by
    rw [Function.iterate_succ_apply']
    exact ⟨(state_step (state_iter k).2).trans (congrArg (step k) (state_iter k).1), counter_step (state_iter k).2⟩

/-- The reference ends with its results read from state number 8, its arguments unchanged. -/
theorem run_states (ρ : Dev nD → PrngReg) :
    θ_run (defs (F := F)) (onTc (τ := τ) (main (F := F))) ⟨m, fun _ => 0, ρ⟩ fun r => ∀ c : Dev nD,
      (r.2.mem ((c.tc : Thread nD τ).loc main_v116) = R_main_v116 (states m c 8) (m ((c.tc : Thread nD τ).loc main_arg0))
      ∧ r.2.mem ((c.tc : Thread nD τ).loc main_v99) = R_main_v99 (states m c 8))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    have hk := (state_iter m c 8).1
    ⟨⟨(h c).1.trans ((result_r (iter_main_arg0 m c 8)).trans (congrArg (R_main_v116 · _) hk)),
      (h c).2.1.trans (result_h.trans (congrArg R_main_v99 hk))⟩, (h c).2.2⟩) (Value.run m ρ)

end Cert.SampleRglru
-- ==== Proof.SampleRefSteps.lean ====
/-
  The sample recurrence's reference: its arrays before its loop, read at an index, and what its loop holds.
-/
module

public import proofs.«01_k».proof.Proof.SampleSpec
public import proofs.«01_k».proof.Proof.Gen.Reference6Ideal.Step
public import Idealize.ShloMosaic.Lib.DynamicIndex
public import Idealize.ShloMosaic.Lib.WordCmp

@[expose] public section

set_option maxRecDepth 16384

noncomputable section

namespace Cert.SampleRglru

open Idealize.ShloMosaic Cert.Reference6Ideal Cert.Reference6Ideal.Gen Cert.Reference6Ideal.Step
open Cert.Rglru (run run_add softplusNeg gelu)

section
variable (P : Vec Ideal S256x7168 .f32) (sc : Vec Ideal S1x32x3x1024 .f32) (sr : Vec Ideal S1x32x1024 .f32)
  (cw : Vec Ideal S1x4x1024 .f32) (cb : Vec Ideal S1x1024 .f32)
  (wgx : Vec Ideal S1x16x64x64 .f32) (bgx : Vec Ideal S1x1024 .f32) (wga : Vec Ideal S1x16x64x64 .f32)
  (bga ap : Vec Ideal S1x1024 .f32) (b : Fin 32) (p : Fin 8) (w : Fin 1024)

theorem ref_pad (q : Fin 11) :
    A_main_v3 P sc sr cw cb wgx bgx wga bga ap (ix3 b q w) = xPad (inputs P sc sr cw cb wgx bgx wga bga ap) b w q.val := by
  unfold xPad inputs
  pointwise [A_main_v3, A_main_v2, A_main_v1, A_main_v0]
  by_cases hq : q.val < 3
  · rw [dif_pos hq, dif_pos hq]
  · rw [dif_neg hq, dif_neg hq, dif_pos (by omega : q.val - 3 < 8)]

/-- A sum of five terms in two orders. -/
theorem sum_order (k a b c d : EReal) : k + (a + b + c + d) = k + d + c + b + a := by
  simp only [add_comm, add_left_comm]

theorem ref_conv :
    A_main_v40 P sc sr cw cb wgx bgx wga bga ap (ix3 b p w) = conv (inputs P sc sr cw cb wgx bgx wga bga ap) b p.val w := by
  pointwise [A_main_v40, A_main_v39, A_main_v38, A_main_v4, A_main_v37, A_main_v36, A_main_v35, A_main_v34, A_main_v33,
    A_main_v32, A_main_v31, A_main_v30, A_main_v29, A_main_v28, A_main_v27, A_main_v26, A_main_v25, A_main_v24, A_main_v23,
    A_main_v22, A_main_v21, A_main_v20, A_main_v19, A_main_v18, A_main_v17, A_main_v16, A_main_v15, A_main_v14, A_main_v13,
    A_main_v11, A_main_v10, A_main_v9, A_main_v8, A_main_v7, A_main_v6, A_main_v5, K_main_v12,
    K_main_cst]
  simp only [ref_pad, zero_add, conv, inputs, Nat.add_comm 1 p.val, Nat.add_comm 2 p.val, Nat.add_comm 3 p.val]
  exact sum_order _ _ _ _ _

theorem ref_gx :
    A_main_v55 P sc sr cw cb wgx bgx wga bga ap (ix3 b p w)
      = gate (inputs P sc sr cw cb wgx bgx wga bga ap) b p.val w (inputs P sc sr cw cb wgx bgx wga bga ap).wgx
          (inputs P sc sr cw cb wgx bgx wga bga ap).bgx := by
  pointwise [A_main_v55, K_main_v54, A_main_v53, K_main_v52, A_main_v51, A_main_v50, A_main_v49, A_main_v48, A_main_v47,
    A_main_v46, A_main_v45, A_main_v44, A_main_v43, A_main_v42, A_main_v41, K_main_cst_0, K_main_cst_1]
  simp only [ref_conv]
  rfl

theorem ref_ga :
    A_main_v69 P sc sr cw cb wgx bgx wga bga ap (ix3 b p w)
      = gate (inputs P sc sr cw cb wgx bgx wga bga ap) b p.val w (inputs P sc sr cw cb wgx bgx wga bga ap).wga
          (inputs P sc sr cw cb wgx bgx wga bga ap).bga := by
  pointwise [A_main_v69, K_main_v68, A_main_v67, K_main_v66, A_main_v65, A_main_v64, A_main_v63, A_main_v62, A_main_v61,
    A_main_v60, A_main_v59, A_main_v58, A_main_v57, A_main_v56, A_main_v41, K_main_cst_2, K_main_cst_3]
  simp only [ref_conv]
  rfl

theorem ref_softplus :
    A_main_v74 P sc sr cw cb wgx bgx wga bga ap (ix1 w) = softplusNeg (ap (ix2 0 w)) := by
  pointwise [A_main_v74, A_main_call0_v4, A_main_call0_v3, A_main_call0_v6, A_main_call0_v11, A_main_call0_v10,
    A_main_call0_v9, A_main_call0_v8, A_main_call0_v7, A_main_call0_v1, K_main_call0_v0, K_main_call0_v2, K_main_call0_v5,
    K_main_call0_cst, A_main_v73, A_main_v72]
  exact if_neg (fun h => h rfl)

/-- No step of the sample group is at position 0. -/
theorem mask_word : IntOp.cmpi CmpIPredicate.eq (IntOp.addi 16384#32 (BitVec.ofNat 32 p.val)) 0#32 = 0#1 := by
  revert p
  decide

theorem select_mask (x y : EReal) : Scalar.select 0#1 x y = y := rfl

theorem ref_log :
    A_main_v77 P sc sr cw cb wgx bgx wga bga ap (ix3 b p w) = logA (inputs P sc sr cw cb wgx bgx wga bga ap) b p.val w := by
  pointwise [A_main_v77, A_main_v76, A_main_v75, A_main_v71, K_main_v70, K_main_cst_4]
  rw [ref_ga, ref_softplus]
  rfl

theorem ref_decay :
    A_main_v95 P sc sr cw cb wgx bgx wga bga ap (ix3 p b w) = aStep (inputs P sc sr cw cb wgx bgx wga bga ap) b p.val w := by
  pointwise [A_main_v95, A_main_v85, A_main_v84, K_main_call1_v1, K_main_v83, K_main_v82, K_main_v81, K_main_v80, K_main_v79,
    K_main_v78, K_main_c, K_main_c_5, K_main_call1_v2, K_main_call1_v0, K_main_cst_6]
  rw [mask_word, select_mask, ref_log]
  rfl

theorem ref_input :
    A_main_v96 P sc sr cw cb wgx bgx wga bga ap (ix3 p b w) = bStep (inputs P sc sr cw cb wgx bgx wga bga ap) b p.val w := by
  pointwise [A_main_v96, A_main_v93, A_main_v92, A_main_v91, A_main_v90, A_main_v89, A_main_v88, A_main_v87, K_main_v86,
    K_main_cst_7, K_main_call2_v1, K_main_v83, K_main_v82, K_main_v81, K_main_v80, K_main_v79, K_main_v78, K_main_c,
    K_main_c_5, K_main_call2_v2, K_main_call2_v0, K_main_cst_8]
  rw [mask_word, select_mask, ref_log, ref_conv, ref_gx]
  rfl

theorem ref_first :
    A_main_v94 P sc sr cw cb wgx bgx wga bga ap (ix2 b w) = (inputs P sc sr cw cb wgx bgx wga bga ap).h0 b w := by
  pointwise [A_main_v94]
  rfl
end

section
variable (s : State Ideal) (j : Fin 8) (b : Fin 32) (w : Fin 1024)

/-- A trip's index is a start of a row. -/
theorem trip_start (a : Fin 3) :
    BitVec.toInt ((![constantI S_ 32 (BitVec.ofNat 32 j.val), constantI S_ 32 0#32, constantI S_ 32 0#32] : Fin 3 → IVec S_ 32) a
      (Shape.Idx.first h_S_)) = ((![j.val, 0, 0] : Fin 3 → ℕ) a : ℤ) := by
  fin_cases a
  · exact Idealize.ShloMosaic.toInt_ofNat_of_lt (by omega)
  · rfl
  · rfl

theorem trip_fits : S8x32x1024.Slices ![j.val, 0, 0] S1x32x1024 :=
  ⟨rfl, fun a => by fin_cases a <;> simp [Shape.size] <;> omega⟩

theorem step_state : (step j.val s).main_v98_3 (ix2 b w)
    = s.main_v98_0 (ix3 j b w) * s.main_v98_3 (ix2 b w) + s.main_v98_1 (ix3 j b w) := by
  have h2 : b2 j.val s = extractStridedSlice S1x32x1024 ![j.val, 0, 0] s.main_v98_0 (trip_fits j) :=
    Host.dynamicSlice_eq_extractStridedSlice _ _ _ _ _ (trip_fits j) (trip_start j)
  have h6 : b6 j.val s = extractStridedSlice S1x32x1024 ![j.val, 0, 0] s.main_v98_1 (trip_fits j) :=
    Host.dynamicSlice_eq_extractStridedSlice _ _ _ _ _ (trip_fits j) (trip_start j)
  rw [step_main_v98_3]
  unfold b9 b8 b7 b3
  rw [h2, h6]
  pointwise

theorem step_states (q : Fin 8) : (step j.val s).main_v98_4 (ix3 q b w)
    = if q = j then (step j.val s).main_v98_3 (ix2 b w) else s.main_v98_4 (ix3 q b w) := by
  have h13 : b13 j.val s = updateSlice s.main_v98_4 (b10 j.val s) ![j.val, 0, 0] (trip_fits j) :=
    WordCmp.dynamicUpdateSlice_eq_update _ _ _ _ _ (trip_fits j) (trip_start j)
  rw [step_main_v98_4, step_main_v98_3, h13]
  pointwise [b10]
  by_cases e : q = j
  · rw [if_pos e, dif_pos (by subst e; omega)]
  · rw [if_neg e, dif_neg (fun h => e (Fin.ext (by omega)))]
end

section
variable (P : Vec Ideal S256x7168 .f32) (sc : Vec Ideal S1x32x3x1024 .f32) (sr : Vec Ideal S1x32x1024 .f32)
  (cw : Vec Ideal S1x4x1024 .f32) (cb : Vec Ideal S1x1024 .f32)
  (wgx : Vec Ideal S1x16x64x64 .f32) (bgx : Vec Ideal S1x1024 .f32) (wga : Vec Ideal S1x16x64x64 .f32)
  (bga ap : Vec Ideal S1x1024 .f32)

/-- What the loop holds before trip `n`. -/
structure Holds (n : ℕ) (s : State Ideal) : Prop where
  decay : s.main_v98_0 = A_main_v95 P sc sr cw cb wgx bgx wga bga ap
  input : s.main_v98_1 = A_main_v96 P sc sr cw cb wgx bgx wga bga ap
  now : ∀ (b : Fin 32) (w : Fin 1024), s.main_v98_3 (ix2 b w) = state (inputs P sc sr cw cb wgx bgx wga bga ap) b w n
  past : ∀ (q : Fin 8) (b : Fin 32) (w : Fin 1024), q.val < n →
    s.main_v98_4 (ix3 q b w) = state (inputs P sc sr cw cb wgx bgx wga bga ap) b w (q.val + 1)

theorem holds_init : Holds P sc sr cw cb wgx bgx wga bga ap 0 (init P sc sr cw cb wgx bgx wga bga ap) where
  decay := rfl
  input := rfl
  now b w := ref_first P sc sr cw cb wgx bgx wga bga ap b w
  past q b w h := absurd h (by omega)

variable {P sc sr cw cb wgx bgx wga bga ap}

theorem holds_step {n : ℕ} (hn : n < 8) {s : State Ideal} (h : Holds P sc sr cw cb wgx bgx wga bga ap n s) :
    Holds P sc sr cw cb wgx bgx wga bga ap (n + 1) (step n s) := by
  have now : ∀ (b : Fin 32) (w : Fin 1024), (step n s).main_v98_3 (ix2 b w)
      = state (inputs P sc sr cw cb wgx bgx wga bga ap) b w (n + 1) := fun b w => by
    refine (step_state s ⟨n, hn⟩ b w).trans ?_
    rw [h.decay, h.input, h.now, ref_decay, ref_input]
    unfold state
    rw [run_add]
    simp [run]
  refine ⟨h.decay, h.input, now, fun q b w hq => ?_⟩
  refine (step_states s ⟨n, hn⟩ b w q).trans ?_
  split_ifs with e
  · rw [e]
    exact now b w
  · exact h.past q b w (by have : q.val ≠ n := fun h => e (Fin.ext h); omega)

theorem ref_result_r {s : State Ideal} (h : Holds P sc sr cw cb wgx bgx wga bga ap 8 s) :
    R_main_v116 s P = resultR (inputs P sc sr cw cb wgx bgx wga bga ap) := by
  funext i
  obtain ⟨r, w, rfl⟩ : ∃ r w, i = ix2 r w := ⟨i 0, i 1, by ext a; fin_cases a <;> rfl⟩
  unfold R_main_v116 resultR
  pointwise
  rw [h.past _ _ _ (by show _ < _; omega)]
  have e : (inputs P sc sr cw cb wgx bgx wga bga ap).y ⟨r.val / 8, by omega⟩ ⟨r.val % 8, by omega⟩ w
      = P (ix2 r ⟨4096 + w.val, by omega⟩) :=
    congrArg (fun k => P (ix2 k _)) (Fin.ext (Nat.div_add_mod' r.val 8))
  show _ = _ * gelu ((inputs P sc sr cw cb wgx bgx wga bga ap).y ⟨r.val / 8, by omega⟩ ⟨r.val % 8, by omega⟩ w)
  rw [e]
  rfl

theorem ref_result_h {s : State Ideal} (h : Holds P sc sr cw cb wgx bgx wga bga ap 8 s) :
    R_main_v99 s = resultH (inputs P sc sr cw cb wgx bgx wga bga ap) := by
  funext i
  obtain ⟨b, r, w, rfl⟩ : ∃ b r w, i = ix3 b r w := ⟨i 0, i 1, i 2, by ext a; fin_cases a <;> rfl⟩
  unfold R_main_v99 resultH
  pointwise
  rw [h.past _ _ _ (by show _ < _; omega)]
end

end Cert.SampleRglru
-- ==== Proof.SampleRecurrence.lean ====
/-
  The sample group's recurrence: its two arrays on the kernel's side, the reference's run, and the equality of the two
  functions.
-/
module

public import proofs.«01_k».proof.Defs
public import proofs.«01_k».proof.Proof.SamplePoint
public import proofs.«01_k».proof.Proof.SampleRefLoop
public import proofs.«01_k».proof.Proof.SampleRefSteps
public import Idealize.ShloMosaic.Adequacy
public import Idealize.ShloMosaic.Init

@[expose] public section

set_option maxRecDepth 16384

noncomputable section

namespace Cert.SampleRglru

section
open Idealize.ShloMosaic Idealize.ShloMosaic.TcCoe Idealize.ShloMosaic.Tactic Idealize.SL Idealize.SL.Sem
open Cert.Kernel6Ideal Cert.Kernel6Ideal.Gen
open Cert.Rglru (gelu)

variable (m : (ℓ : Loc nD τ sig) → Buf (Elt Ideal) ℓ) (c : Dev nD)

theorem index10 : ∀ t : Fin cfg0.N, win0_10.index t 0 = t.val ∧ win0_10.index t 1 = 0 :=
  (by decide +kernel : ∀ t : Fin grid0.N, win0_10.index t 0 = t.val ∧ win0_10.index t 1 = 0)
theorem index11 : ∀ t : Fin cfg0.N, win0_11.index t 0 = t.val ∧ win0_11.index t 1 = 0 ∧ win0_11.index t 2 = 0 :=
  (by decide +kernel : ∀ t : Fin grid0.N, win0_11.index t 0 = t.val ∧ win0_11.index t 1 = 0 ∧ win0_11.index t 2 = 0)

/-- The first output's array. -/
theorem array_r : (dats m 0 c).arrAt 10 cfg0.N = resultR (argInputs m c) := by
  refine (dats m 0 c).arrAt_eq_of_covers 10 _ (by decide +kernel) fun t hf y => ?_
  obtain ⟨r, w, rfl⟩ : ∃ (r : Fin 8) (w : Fin 1024), y = ix2 r w := ⟨y 0, y 1, by ext a; fin_cases a <;> rfl⟩
  have ht := lt_N t
  have e : (win0_10.blk t).view.emb (ix2 r w) = ix2 (⟨t.val * 8 + r.val, by omega⟩ : Fin 256) w := by blk_ext [index10 t]
  blk_simp
  rw [after0_10, e, left_r, pointStates_apply, y_read]
  unfold resultR
  dsimp only
  have e1 : (⟨(t.val * 8 + r.val) / 8, by omega⟩ : Fin 32) = seqOf t := Fin.ext (by show _ / 8 = t.val; omega)
  have e2 : (t.val * 8 + r.val) % 8 = r.val := by omega
  show _ = state (argInputs m c) (⟨(t.val * 8 + r.val) / 8, by omega⟩ : Fin 32) w ((t.val * 8 + r.val) % 8 + 1)
    * gelu ((argInputs m c).y (⟨(t.val * 8 + r.val) / 8, by omega⟩ : Fin 32) (⟨(t.val * 8 + r.val) % 8, by omega⟩ : Fin 8) w)
  have e3 : (⟨(t.val * 8 + r.val) % 8, by omega⟩ : Fin 8) = r := Fin.ext e2
  rw [e1, e3, e2]

/-- The second output's array. -/
theorem array_h : (dats m 0 c).arrAt 11 cfg0.N = resultH (argInputs m c) := by
  refine (dats m 0 c).arrAt_eq_of_covers 11 _ (by decide +kernel) fun t hf y => ?_
  obtain ⟨r, w, rfl⟩ : ∃ (r : Fin 8) (w : Fin 1024), y = ix3 0 r w :=
    ⟨y 1, y 2, by ext a; fin_cases a; (exact Nat.lt_one_iff.mp (y 0).isLt); rfl; rfl⟩
  have e : (win0_11.blk t).view.emb (ix3 0 r w) = ix3 (seqOf t) r w := by blk_ext [index11 t]
  blk_simp
  rw [after0_11, e, left_h, pointStates_apply]
  rfl

end

open Idealize.ShloMosaic Idealize.ShloMosaic.TcCoe Idealize.SL.Sem

section
open Cert.Reference6Ideal
variable (m : (ℓ : Loc nD τ sig) → Buf (Elt Ideal) ℓ) (c : Dev nD)

/-- The reference's inputs, by row and channel. -/
abbrev refInputs : Inputs := inputs (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9))

/-- What the reference's state holds before every trip. -/
theorem ref_holds : ∀ n : ℕ, n ≤ 8 →
    Holds (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9))
      n (states m c n)
  | 0, _ => holds_init ..
  | n + 1, h => holds_step (by omega) (ref_holds n (by omega))

/-- The reference ends with the recurrence's results. -/
theorem ref_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v116) = resultR (refInputs m c)
      ∧ r.2.mem ((c.tc : Thread nD τ).loc main_v99) = resultH (refInputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c).1.1.trans (ref_result_r (ref_holds m c 8 le_rfl)),
      (h c).1.2.trans (ref_result_h (ref_holds m c 8 le_rfl)), (h c).2⟩) (run_states m ρ)

end

theorem frame_ref : Cert.quiescent_Reference6Ideal := fun m ρ _ =>
  (θ_run Cert.Reference6Ideal.defs _ _).mono (fun r h => ⟨fun c => (h c).2.2, sem_eq_zero_of_no_sems (by decide) r.2⟩) (ref_run m ρ)

/-- Kernel and reference compute the same two arrays from equal arguments. -/
theorem equal : Cert.algebraic_Kernel6Ideal_Reference6Ideal := fun m ρ m' ρ' _ hag =>
  ⟨fun c => resultR (argInputs m c), fun c => resultH (argInputs m c),
    (θ_run Cert.Kernel6Ideal.defs _ _).mono (fun _ h c => ⟨(h c).1.trans (array_r m c), (h c).2.1.trans (array_h m c), (h c).2.2⟩)
      (Cert.Kernel6Ideal.Value.run_blocks m ρ),
    (θ_run Cert.Reference6Ideal.defs _ _).mono (fun _ h c => by
      have e : refInputs m' c = argInputs m c := by
        obtain ⟨h0, h1, h2, h3, h4, h5, h6, h7, h8, h9⟩ := hag c
        unfold refInputs argInputs
        rw [h0, h1, h2, h3, h4, h5, h6, h7, h8, h9]
      exact ⟨(h c).1.trans (congrArg resultR e), (h c).2.1.trans (congrArg resultH e), (h c).2.2⟩)
      (ref_run m' ρ')⟩

end Cert.SampleRglru

end
-- ==== Proof.lean ====
/-
  The proof of the claims: the frames of the recurrence's call at both instances and of the reference, the equality of
  the two functions over the extended reals, and with them the claims about the output block, the input projection and
  the sample group's three calls.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Kernel2Ideal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.ReferenceIdeal
public import proofs.«01_k».proof.Proof.Gen.ReferenceIdeal.Run
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Step
public import proofs.«01_k».proof.Proof.RefLoop
public import proofs.«01_k».proof.Proof.RefSteps
public import proofs.«01_k».proof.Proof.Sweep
public import proofs.«01_k».proof.Proof.BlockClaim
public import proofs.«01_k».proof.Proof.ProjectionClaim
public import proofs.«01_k».proof.Proof.SampleProjection
public import proofs.«01_k».proof.Proof.SampleBlock
public import proofs.«01_k».proof.Proof.SampleRecurrence
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Rglru

section
open Cert.ReferenceIdeal
variable (m : (ℓ : Loc nD τ sig) → Buf (Elt Ideal) ℓ) (c : Dev nD)

/-- The reference's inputs, by row and channel. -/
abbrev refInputs : Inputs := inputs (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))

/-- What the reference's state holds before every trip. -/
theorem ref_holds : ∀ n : ℕ, n ≤ 4096 →
    Holds (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      n (states m c n)
  | 0, _ => holds_init ..
  | n + 1, h => holds_step (by omega) (ref_holds n (by omega))

/-- The reference ends with the recurrence's results. -/
theorem ref_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v114) = resultR (refInputs m c)
      ∧ r.2.mem ((c.tc : Thread nD τ).loc main_v115) = resultH (refInputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c).1.1.trans (ref_result_r (ref_holds m c 4096 le_rfl)),
      (h c).1.2.trans (ref_result_h (ref_holds m c 4096 le_rfl)), (h c).2⟩) (run_states m ρ)

end

theorem frame_ref : Cert.quiescent_ReferenceIdeal := fun m ρ _ =>
  (θ_run Cert.ReferenceIdeal.defs _ _).mono (fun r h => ⟨fun c => (h c).2.2, sem_eq_zero_of_no_sems (by decide) r.2⟩) (ref_run m ρ)

/-- Kernel and reference compute the same two arrays from equal arguments. -/
theorem equal : Cert.algebraic_KernelIdeal_ReferenceIdeal := fun m ρ m' ρ' _ hag =>
  ⟨fun c => resultR (argInputs m c), fun c => resultH (argInputs m c),
    (θ_run Cert.KernelIdeal.defs _ _).mono (fun _ h c => ⟨(h c).1.trans (array_r m c), (h c).2.1.trans (array_h m c), (h c).2.2⟩)
      (Cert.KernelIdeal.Value.run m ρ),
    (θ_run Cert.ReferenceIdeal.defs _ _).mono (fun _ h c => by
      have e : refInputs m' c = argInputs m c := by
        obtain ⟨h0, h1, h2, h3, h4, h5, h6, h7⟩ := hag c
        unfold refInputs argInputs
        rw [h0, h1, h2, h3, h4, h5, h6, h7]
      exact ⟨(h c).1.trans (congrArg resultR e), (h c).2.1.trans (congrArg resultH e), (h c).2.2⟩)
      (ref_run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, frame_ref,
  fun m ρ _ => Cert.Kernel2.Gen.frame m ρ, fun m ρ _ => Cert.Kernel2Ideal.Gen.frame m ρ, Cert.Block.frame_ref,
  Cert.Projection.frame_kernel, Cert.Projection.frame_ideal, Cert.Projection.frame_ref,
  Cert.SampleProjection.frame_kernel, Cert.SampleProjection.frame_ideal, Cert.SampleProjection.frame_ref,
  fun m ρ _ => Cert.Kernel5.Gen.frame m ρ, fun m ρ _ => Cert.Kernel5Ideal.Gen.frame m ρ, Cert.SampleBlock.frame_ref,
  fun m ρ _ => Cert.Kernel6.Gen.frame m ρ, fun m ρ _ => Cert.Kernel6Ideal.Gen.frame m ρ, Cert.SampleRglru.frame_ref,
  trivial, equal, trivial, Cert.Block.equal, trivial, Cert.Projection.equal,
  trivial, Cert.SampleProjection.equal, trivial, Cert.SampleBlock.equal,
  trivial, Cert.SampleRglru.equal⟩

end Cert.Proof

end
